-- ==== Defs.lean ====
def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_SampleKernel (m : (ℓ : Loc Cert.SampleKernel.nD Cert.SampleKernel.τ Cert.SampleKernel.sig) → Buf (Elt Bits) ℓ) : Prop :=
  True

def Pre_SampleKernelIdeal (m : (ℓ : Loc Cert.SampleKernelIdeal.nD Cert.SampleKernelIdeal.τ Cert.SampleKernelIdeal.sig) → Buf (Elt Ideal) ℓ) : Prop :=
  True

def Pre_SampleKernelIdeal_sample_finite [hPre_sample_finite : Cert.Pre_sample_finite.Facts] (m : (ℓ : Loc Cert.SampleKernelIdeal.nD Cert.SampleKernelIdeal.τ Cert.SampleKernelIdeal.sig) → Buf (Elt Ideal) ℓ) : Prop :=
  ∀ c : Dev Cert.SampleKernelIdeal.nD,
    (Cert.Pre_sample_finite.fn (F := Ideal) (m ((c.tc : Thread Cert.SampleKernelIdeal.nD Cert.SampleKernelIdeal.τ).loc Cert.SampleKernelIdeal.main_arg0)) (m ((c.tc : Thread Cert.SampleKernelIdeal.nD Cert.SampleKernelIdeal.τ).loc Cert.SampleKernelIdeal.main_arg1)) (m ((c.tc : Thread Cert.SampleKernelIdeal.nD Cert.SampleKernelIdeal.τ).loc Cert.SampleKernelIdeal.main_arg2)) (m ((c.tc : Thread Cert.SampleKernelIdeal.nD Cert.SampleKernelIdeal.τ).loc Cert.SampleKernelIdeal.main_arg3)) (m ((c.tc : Thread Cert.SampleKernelIdeal.nD Cert.SampleKernelIdeal.τ).loc Cert.SampleKernelIdeal.main_arg4)) (m ((c.tc : Thread Cert.SampleKernelIdeal.nD Cert.SampleKernelIdeal.τ).loc Cert.SampleKernelIdeal.main_arg5)) (m ((c.tc : Thread Cert.SampleKernelIdeal.nD Cert.SampleKernelIdeal.τ).loc Cert.SampleKernelIdeal.main_arg6))) = (fun _ => 1#1)

def Pre_SampleReferenceIdeal (m : (ℓ : Loc Cert.SampleReferenceIdeal.nD Cert.SampleReferenceIdeal.τ Cert.SampleReferenceIdeal.sig) → Buf (Elt Ideal) ℓ) : Prop :=
  True

def Pre_SampleReferenceIdeal_sample_finite [hPre_sample_finite : Cert.Pre_sample_finite.Facts] (m : (ℓ : Loc Cert.SampleReferenceIdeal.nD Cert.SampleReferenceIdeal.τ Cert.SampleReferenceIdeal.sig) → Buf (Elt Ideal) ℓ) : Prop :=
  ∀ c : Dev Cert.SampleReferenceIdeal.nD,
    (Cert.Pre_sample_finite.fn (F := Ideal) (m ((c.tc : Thread Cert.SampleReferenceIdeal.nD Cert.SampleReferenceIdeal.τ).loc Cert.SampleReferenceIdeal.main_arg0)) (m ((c.tc : Thread Cert.SampleReferenceIdeal.nD Cert.SampleReferenceIdeal.τ).loc Cert.SampleReferenceIdeal.main_arg1)) (m ((c.tc : Thread Cert.SampleReferenceIdeal.nD Cert.SampleReferenceIdeal.τ).loc Cert.SampleReferenceIdeal.main_arg2)) (m ((c.tc : Thread Cert.SampleReferenceIdeal.nD Cert.SampleReferenceIdeal.τ).loc Cert.SampleReferenceIdeal.main_arg3)) (m ((c.tc : Thread Cert.SampleReferenceIdeal.nD Cert.SampleReferenceIdeal.τ).loc Cert.SampleReferenceIdeal.main_arg4)) (m ((c.tc : Thread Cert.SampleReferenceIdeal.nD Cert.SampleReferenceIdeal.τ).loc Cert.SampleReferenceIdeal.main_arg5)) (m ((c.tc : Thread Cert.SampleReferenceIdeal.nD Cert.SampleReferenceIdeal.τ).loc Cert.SampleReferenceIdeal.main_arg6))) = (fun _ => 1#1)

def Pre_ExpertsKernel [hPre_experts_range : Cert.Pre_experts_range.Facts] (m : (ℓ : Loc Cert.ExpertsKernel.nD Cert.ExpertsKernel.τ Cert.ExpertsKernel.sig) → Buf (Elt Bits) ℓ) : Prop :=
  ∀ c : Dev Cert.ExpertsKernel.nD,
    (Cert.Pre_experts_range.fn (F := Bits) (m ((c.tc : Thread Cert.ExpertsKernel.nD Cert.ExpertsKernel.τ).loc Cert.ExpertsKernel.main_arg0)) (m ((c.tc : Thread Cert.ExpertsKernel.nD Cert.ExpertsKernel.τ).loc Cert.ExpertsKernel.main_arg1)) (m ((c.tc : Thread Cert.ExpertsKernel.nD Cert.ExpertsKernel.τ).loc Cert.ExpertsKernel.main_arg2)) (m ((c.tc : Thread Cert.ExpertsKernel.nD Cert.ExpertsKernel.τ).loc Cert.ExpertsKernel.main_arg3)) (m ((c.tc : Thread Cert.ExpertsKernel.nD Cert.ExpertsKernel.τ).loc Cert.ExpertsKernel.main_arg4)) (m ((c.tc : Thread Cert.ExpertsKernel.nD Cert.ExpertsKernel.τ).loc Cert.ExpertsKernel.main_arg5))) = (fun _ => 1#1)

def Pre_ExpertsKernelIdeal [hPre_experts_range : Cert.Pre_experts_range.Facts] (m : (ℓ : Loc Cert.ExpertsKernelIdeal.nD Cert.ExpertsKernelIdeal.τ Cert.ExpertsKernelIdeal.sig) → Buf (Elt Ideal) ℓ) : Prop :=
  ∀ c : Dev Cert.ExpertsKernelIdeal.nD,
    (Cert.Pre_experts_range.fn (F := Ideal) (m ((c.tc : Thread Cert.ExpertsKernelIdeal.nD Cert.ExpertsKernelIdeal.τ).loc Cert.ExpertsKernelIdeal.main_arg0)) (m ((c.tc : Thread Cert.ExpertsKernelIdeal.nD Cert.ExpertsKernelIdeal.τ).loc Cert.ExpertsKernelIdeal.main_arg1)) (m ((c.tc : Thread Cert.ExpertsKernelIdeal.nD Cert.ExpertsKernelIdeal.τ).loc Cert.ExpertsKernelIdeal.main_arg2)) (m ((c.tc : Thread Cert.ExpertsKernelIdeal.nD Cert.ExpertsKernelIdeal.τ).loc Cert.ExpertsKernelIdeal.main_arg3)) (m ((c.tc : Thread Cert.ExpertsKernelIdeal.nD Cert.ExpertsKernelIdeal.τ).loc Cert.ExpertsKernelIdeal.main_arg4)) (m ((c.tc : Thread Cert.ExpertsKernelIdeal.nD Cert.ExpertsKernelIdeal.τ).loc Cert.ExpertsKernelIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_range [hPre_experts_range : Cert.Pre_experts_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10)
      ∧ r.2.mem ((c.tc : Thread Cert.MergeKernel.nD Cert.MergeKernel.τ).loc Cert.MergeKernel.main_arg11) = m ((c.tc : Thread Cert.MergeKernel.nD Cert.MergeKernel.τ).loc Cert.MergeKernel.main_arg11)
      ∧ r.2.mem ((c.tc : Thread Cert.MergeKernel.nD Cert.MergeKernel.τ).loc Cert.MergeKernel.main_arg12) = m ((c.tc : Thread Cert.MergeKernel.nD Cert.MergeKernel.τ).loc Cert.MergeKernel.main_arg12)
      ∧ r.2.mem ((c.tc : Thread Cert.MergeKernel.nD Cert.MergeKernel.τ).loc Cert.MergeKernel.main_arg13) = m ((c.tc : Thread Cert.MergeKernel.nD Cert.MergeKernel.τ).loc Cert.MergeKernel.main_arg13)
      ∧ r.2.mem ((c.tc : Thread Cert.MergeKernel.nD Cert.MergeKernel.τ).loc Cert.MergeKernel.main_arg14) = m ((c.tc : Thread Cert.MergeKernel.nD Cert.MergeKernel.τ).loc Cert.MergeKernel.main_arg14)
      ∧ r.2.mem ((c.tc : Thread Cert.MergeKernel.nD Cert.MergeKernel.τ).loc Cert.MergeKernel.main_arg15) = m ((c.tc : Thread Cert.MergeKernel.nD Cert.MergeKernel.τ).loc Cert.MergeKernel.main_arg15))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
      ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12)
      ∧ r.2.mem ((c.tc : Thread Cert.MergeKernelIdeal.nD Cert.MergeKernelIdeal.τ).loc Cert.MergeKernelIdeal.main_arg13) = m ((c.tc : Thread Cert.MergeKernelIdeal.nD Cert.MergeKernelIdeal.τ).loc Cert.MergeKernelIdeal.main_arg13)
      ∧ r.2.mem ((c.tc : Thread Cert.MergeKernelIdeal.nD Cert.MergeKernelIdeal.τ).loc Cert.MergeKernelIdeal.main_arg14) = m ((c.tc : Thread Cert.MergeKernelIdeal.nD Cert.MergeKernelIdeal.τ).loc Cert.MergeKernelIdeal.main_arg14)
      ∧ r.2.mem ((c.tc : Thread Cert.MergeKernelIdeal.nD Cert.MergeKernelIdeal.τ).loc Cert.MergeKernelIdeal.main_arg15) = m ((c.tc : Thread Cert.MergeKernelIdeal.nD Cert.MergeKernelIdeal.τ).loc Cert.MergeKernelIdeal.main_arg15))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15))
      ∧ r.2.sem = fun _ => 0)

def quiescent_SampleKernel [hSampleKernel : Cert.SampleKernel.Facts] : Prop :=
  ∀ (m : (ℓ : Loc Cert.SampleKernel.nD Cert.SampleKernel.τ Cert.SampleKernel.sig) → Buf (Elt Bits) ℓ) (g : Dev Cert.SampleKernel.nD → PrngReg), Pre_SampleKernel m →
    θ_run (Cert.SampleKernel.defs (F := Bits)) (onTc (τ := Cert.SampleKernel.τ) (Cert.SampleKernel.main (F := Bits))) ⟨m, fun _ => 0, g⟩ (fun r => (∀ c : Dev Cert.SampleKernel.nD,
      r.2.mem ((c.tc : Thread Cert.SampleKernel.nD Cert.SampleKernel.τ).loc Cert.SampleKernel.main_arg0) = m ((c.tc : Thread Cert.SampleKernel.nD Cert.SampleKernel.τ).loc Cert.SampleKernel.main_arg0)
      ∧ r.2.mem ((c.tc : Thread Cert.SampleKernel.nD Cert.SampleKernel.τ).loc Cert.SampleKernel.main_arg1) = m ((c.tc : Thread Cert.SampleKernel.nD Cert.SampleKernel.τ).loc Cert.SampleKernel.main_arg1)
      ∧ r.2.mem ((c.tc : Thread Cert.SampleKernel.nD Cert.SampleKernel.τ).loc Cert.SampleKernel.main_arg2) = m ((c.tc : Thread Cert.SampleKernel.nD Cert.SampleKernel.τ).loc Cert.SampleKernel.main_arg2)
      ∧ r.2.mem ((c.tc : Thread Cert.SampleKernel.nD Cert.SampleKernel.τ).loc Cert.SampleKernel.main_arg3) = m ((c.tc : Thread Cert.SampleKernel.nD Cert.SampleKernel.τ).loc Cert.SampleKernel.main_arg3)
      ∧ r.2.mem ((c.tc : Thread Cert.SampleKernel.nD Cert.SampleKernel.τ).loc Cert.SampleKernel.main_arg4) = m ((c.tc : Thread Cert.SampleKernel.nD Cert.SampleKernel.τ).loc Cert.SampleKernel.main_arg4)
      ∧ r.2.mem ((c.tc : Thread Cert.SampleKernel.nD Cert.SampleKernel.τ).loc Cert.SampleKernel.main_arg5) = m ((c.tc : Thread Cert.SampleKernel.nD Cert.SampleKernel.τ).loc Cert.SampleKernel.main_arg5)
      ∧ r.2.mem ((c.tc : Thread Cert.SampleKernel.nD Cert.SampleKernel.τ).loc Cert.SampleKernel.main_arg6) = m ((c.tc : Thread Cert.SampleKernel.nD Cert.SampleKernel.τ).loc Cert.SampleKernel.main_arg6))
      ∧ r.2.sem = fun _ => 0)

def quiescent_SampleKernelIdeal [hSampleKernelIdeal : Cert.SampleKernelIdeal.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg), Pre_SampleKernelIdeal m →
    θ_run (Cert.SampleKernelIdeal.defs (F := Ideal)) (onTc (τ := Cert.SampleKernelIdeal.τ) (Cert.SampleKernelIdeal.main (F := Ideal))) ⟨m, fun _ => 0, g⟩ (fun r => (∀ c : Dev Cert.SampleKernelIdeal.nD,
      r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
      ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
      ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
      ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
      ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
      ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
      ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6))
      ∧ r.2.sem = fun _ => 0)

def quiescent_SampleKernelIdeal_pre_sample_finite [hSampleKernelIdeal : Cert.SampleKernelIdeal.Facts] [hPre_sample_finite : Cert.Pre_sample_finite.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg), Pre_SampleKernelIdeal_sample_finite m →
    θ_run (Cert.SampleKernelIdeal.defs (F := Ideal)) (onTc (τ := Cert.SampleKernelIdeal.τ) (Cert.SampleKernelIdeal.main (F := Ideal))) ⟨m, fun _ => 0, g⟩ (fun r => (∀ c : Dev Cert.SampleKernelIdeal.nD,
      r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
      ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
      ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
      ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
      ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
      ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
      ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6))
      ∧ r.2.sem = fun _ => 0)

def quiescent_SampleReferenceIdeal_pre_sample_finite [hSampleReferenceIdeal : Cert.SampleReferenceIdeal.Facts] [hPre_sample_finite : Cert.Pre_sample_finite.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal_sample_finite m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6))
      ∧ r.2.sem = fun _ => 0)

def quiescent_ExpertsKernel [hExpertsKernel : Cert.ExpertsKernel.Facts] [hPre_experts_range : Cert.Pre_experts_range.Facts] : Prop :=
  ∀ (m : (ℓ : Loc Cert.ExpertsKernel.nD Cert.ExpertsKernel.τ Cert.ExpertsKernel.sig) → Buf (Elt Bits) ℓ) (g : Dev Cert.ExpertsKernel.nD → PrngReg), Pre_ExpertsKernel m →
    θ_run (Cert.ExpertsKernel.defs (F := Bits)) (onTc (τ := Cert.ExpertsKernel.τ) (Cert.ExpertsKernel.main (F := Bits))) ⟨m, fun _ => 0, g⟩ (fun r => (∀ c : Dev Cert.ExpertsKernel.nD,
      r.2.mem ((c.tc : Thread Cert.ExpertsKernel.nD Cert.ExpertsKernel.τ).loc Cert.ExpertsKernel.main_arg0) = m ((c.tc : Thread Cert.ExpertsKernel.nD Cert.ExpertsKernel.τ).loc Cert.ExpertsKernel.main_arg0)
      ∧ r.2.mem ((c.tc : Thread Cert.ExpertsKernel.nD Cert.ExpertsKernel.τ).loc Cert.ExpertsKernel.main_arg1) = m ((c.tc : Thread Cert.ExpertsKernel.nD Cert.ExpertsKernel.τ).loc Cert.ExpertsKernel.main_arg1)
      ∧ r.2.mem ((c.tc : Thread Cert.ExpertsKernel.nD Cert.ExpertsKernel.τ).loc Cert.ExpertsKernel.main_arg2) = m ((c.tc : Thread Cert.ExpertsKernel.nD Cert.ExpertsKernel.τ).loc Cert.ExpertsKernel.main_arg2)
      ∧ r.2.mem ((c.tc : Thread Cert.ExpertsKernel.nD Cert.ExpertsKernel.τ).loc Cert.ExpertsKernel.main_arg3) = m ((c.tc : Thread Cert.ExpertsKernel.nD Cert.ExpertsKernel.τ).loc Cert.ExpertsKernel.main_arg3)
      ∧ r.2.mem ((c.tc : Thread Cert.ExpertsKernel.nD Cert.ExpertsKernel.τ).loc Cert.ExpertsKernel.main_arg4) = m ((c.tc : Thread Cert.ExpertsKernel.nD Cert.ExpertsKernel.τ).loc Cert.ExpertsKernel.main_arg4)
      ∧ r.2.mem ((c.tc : Thread Cert.ExpertsKernel.nD Cert.ExpertsKernel.τ).loc Cert.ExpertsKernel.main_arg5) = m ((c.tc : Thread Cert.ExpertsKernel.nD Cert.ExpertsKernel.τ).loc Cert.ExpertsKernel.main_arg5))
      ∧ r.2.sem = fun _ => 0)

def quiescent_ExpertsKernelIdeal [hExpertsKernelIdeal : Cert.ExpertsKernelIdeal.Facts] [hPre_experts_range : Cert.Pre_experts_range.Facts] : Prop :=
  ∀ (m : (ℓ : Loc Cert.ExpertsKernelIdeal.nD Cert.ExpertsKernelIdeal.τ Cert.ExpertsKernelIdeal.sig) → Buf (Elt Ideal) ℓ) (g : Dev Cert.ExpertsKernelIdeal.nD → PrngReg), Pre_ExpertsKernelIdeal m →
    θ_run (Cert.ExpertsKernelIdeal.defs (F := Ideal)) (onTc (τ := Cert.ExpertsKernelIdeal.τ) (Cert.ExpertsKernelIdeal.main (F := Ideal))) ⟨m, fun _ => 0, g⟩ (fun r => (∀ c : Dev Cert.ExpertsKernelIdeal.nD,
      r.2.mem ((c.tc : Thread Cert.ExpertsKernelIdeal.nD Cert.ExpertsKernelIdeal.τ).loc Cert.ExpertsKernelIdeal.main_arg0) = m ((c.tc : Thread Cert.ExpertsKernelIdeal.nD Cert.ExpertsKernelIdeal.τ).loc Cert.ExpertsKernelIdeal.main_arg0)
      ∧ r.2.mem ((c.tc : Thread Cert.ExpertsKernelIdeal.nD Cert.ExpertsKernelIdeal.τ).loc Cert.ExpertsKernelIdeal.main_arg1) = m ((c.tc : Thread Cert.ExpertsKernelIdeal.nD Cert.ExpertsKernelIdeal.τ).loc Cert.ExpertsKernelIdeal.main_arg1)
      ∧ r.2.mem ((c.tc : Thread Cert.ExpertsKernelIdeal.nD Cert.ExpertsKernelIdeal.τ).loc Cert.ExpertsKernelIdeal.main_arg2) = m ((c.tc : Thread Cert.ExpertsKernelIdeal.nD Cert.ExpertsKernelIdeal.τ).loc Cert.ExpertsKernelIdeal.main_arg2)
      ∧ r.2.mem ((c.tc : Thread Cert.ExpertsKernelIdeal.nD Cert.ExpertsKernelIdeal.τ).loc Cert.ExpertsKernelIdeal.main_arg3) = m ((c.tc : Thread Cert.ExpertsKernelIdeal.nD Cert.ExpertsKernelIdeal.τ).loc Cert.ExpertsKernelIdeal.main_arg3)
      ∧ r.2.mem ((c.tc : Thread Cert.ExpertsKernelIdeal.nD Cert.ExpertsKernelIdeal.τ).loc Cert.ExpertsKernelIdeal.main_arg4) = m ((c.tc : Thread Cert.ExpertsKernelIdeal.nD Cert.ExpertsKernelIdeal.τ).loc Cert.ExpertsKernelIdeal.main_arg4)
      ∧ r.2.mem ((c.tc : Thread Cert.ExpertsKernelIdeal.nD Cert.ExpertsKernelIdeal.τ).loc Cert.ExpertsKernelIdeal.main_arg5) = m ((c.tc : Thread Cert.ExpertsKernelIdeal.nD Cert.ExpertsKernelIdeal.τ).loc Cert.ExpertsKernelIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_experts_range [hExpertsReferenceIdeal : Cert.ExpertsReferenceIdeal.Facts] [hPre_experts_range : Cert.Pre_experts_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def preserves_AttnKernel_AttnKernelIdeal : Prop :=
  IdealRules.named_const.Statement Cert.AttnKernelIdeal.κ "mask" .f32 0xF149F2CA#32 ⊥

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v33)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v33) = v0 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v81) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v8_0)) (v1 : (c : Dev Cert.ProjKernelIdeal.nD) → Buf (Elt Ideal) ((c.tc : Thread Cert.ProjKernelIdeal.nD Cert.ProjKernelIdeal.τ).loc Cert.ProjKernelIdeal.main_v8_1)) (v2 : (c : Dev Cert.ProjKernelIdeal.nD) → Buf (Elt Ideal) ((c.tc : Thread Cert.ProjKernelIdeal.nD Cert.ProjKernelIdeal.τ).loc Cert.ProjKernelIdeal.main_v8_2)) (v3 : (c : Dev Cert.ProjKernelIdeal.nD) → Buf (Elt Ideal) ((c.tc : Thread Cert.ProjKernelIdeal.nD Cert.ProjKernelIdeal.τ).loc Cert.ProjKernelIdeal.main_v8_3)) (v4 : (c : Dev Cert.ProjKernelIdeal.nD) → Buf (Elt Ideal) ((c.tc : Thread Cert.ProjKernelIdeal.nD Cert.ProjKernelIdeal.τ).loc Cert.ProjKernelIdeal.main_v8_4)) (v5 : (c : Dev Cert.ProjKernelIdeal.nD) → Buf (Elt Ideal) ((c.tc : Thread Cert.ProjKernelIdeal.nD Cert.ProjKernelIdeal.τ).loc Cert.ProjKernelIdeal.main_v8_5)) (v6 : (c : Dev Cert.ProjKernelIdeal.nD) → Buf (Elt Ideal) ((c.tc : Thread Cert.ProjKernelIdeal.nD Cert.ProjKernelIdeal.τ).loc Cert.ProjKernelIdeal.main_v8_6)) (v7 : (c : Dev Cert.ProjKernelIdeal.nD) → Buf (Elt Ideal) ((c.tc : Thread Cert.ProjKernelIdeal.nD Cert.ProjKernelIdeal.τ).loc Cert.ProjKernelIdeal.main_v8_7)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v8_0) = v0 c
          ∧ r.2.mem ((c.tc : Thread Cert.ProjKernelIdeal.nD Cert.ProjKernelIdeal.τ).loc Cert.ProjKernelIdeal.main_v8_1) = v1 c
          ∧ r.2.mem ((c.tc : Thread Cert.ProjKernelIdeal.nD Cert.ProjKernelIdeal.τ).loc Cert.ProjKernelIdeal.main_v8_2) = v2 c
          ∧ r.2.mem ((c.tc : Thread Cert.ProjKernelIdeal.nD Cert.ProjKernelIdeal.τ).loc Cert.ProjKernelIdeal.main_v8_3) = v3 c
          ∧ r.2.mem ((c.tc : Thread Cert.ProjKernelIdeal.nD Cert.ProjKernelIdeal.τ).loc Cert.ProjKernelIdeal.main_v8_4) = v4 c
          ∧ r.2.mem ((c.tc : Thread Cert.ProjKernelIdeal.nD Cert.ProjKernelIdeal.τ).loc Cert.ProjKernelIdeal.main_v8_5) = v5 c
          ∧ r.2.mem ((c.tc : Thread Cert.ProjKernelIdeal.nD Cert.ProjKernelIdeal.τ).loc Cert.ProjKernelIdeal.main_v8_6) = v6 c
          ∧ r.2.mem ((c.tc : Thread Cert.ProjKernelIdeal.nD Cert.ProjKernelIdeal.τ).loc Cert.ProjKernelIdeal.main_v8_7) = v7 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v32) = v0 c
          ∧ r.2.mem ((c.tc : Thread Cert.ProjReferenceIdeal.nD Cert.ProjReferenceIdeal.τ).loc Cert.ProjReferenceIdeal.main_v33) = v1 c
          ∧ r.2.mem ((c.tc : Thread Cert.ProjReferenceIdeal.nD Cert.ProjReferenceIdeal.τ).loc Cert.ProjReferenceIdeal.main_v34) = v2 c
          ∧ r.2.mem ((c.tc : Thread Cert.ProjReferenceIdeal.nD Cert.ProjReferenceIdeal.τ).loc Cert.ProjReferenceIdeal.main_v35) = v3 c
          ∧ r.2.mem ((c.tc : Thread Cert.ProjReferenceIdeal.nD Cert.ProjReferenceIdeal.τ).loc Cert.ProjReferenceIdeal.main_v26) = v4 c
          ∧ r.2.mem ((c.tc : Thread Cert.ProjReferenceIdeal.nD Cert.ProjReferenceIdeal.τ).loc Cert.ProjReferenceIdeal.main_v36) = v5 c
          ∧ r.2.mem ((c.tc : Thread Cert.ProjReferenceIdeal.nD Cert.ProjReferenceIdeal.τ).loc Cert.ProjReferenceIdeal.main_v37) = v6 c
          ∧ r.2.mem ((c.tc : Thread Cert.ProjReferenceIdeal.nD Cert.ProjReferenceIdeal.τ).loc Cert.ProjReferenceIdeal.main_v38) = v7 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)
      ∧ m' ((c.tc : Thread Cert.MergeReferenceIdeal.nD Cert.MergeReferenceIdeal.τ).loc Cert.MergeReferenceIdeal.main_arg11) = m ((c.tc : Thread Cert.MergeKernelIdeal.nD Cert.MergeKernelIdeal.τ).loc Cert.MergeKernelIdeal.main_arg11)
      ∧ m' ((c.tc : Thread Cert.MergeReferenceIdeal.nD Cert.MergeReferenceIdeal.τ).loc Cert.MergeReferenceIdeal.main_arg12) = m ((c.tc : Thread Cert.MergeKernelIdeal.nD Cert.MergeKernelIdeal.τ).loc Cert.MergeKernelIdeal.main_arg12)
      ∧ m' ((c.tc : Thread Cert.MergeReferenceIdeal.nD Cert.MergeReferenceIdeal.τ).loc Cert.MergeReferenceIdeal.main_arg13) = m ((c.tc : Thread Cert.MergeKernelIdeal.nD Cert.MergeKernelIdeal.τ).loc Cert.MergeKernelIdeal.main_arg13)
      ∧ m' ((c.tc : Thread Cert.MergeReferenceIdeal.nD Cert.MergeReferenceIdeal.τ).loc Cert.MergeReferenceIdeal.main_arg14) = m ((c.tc : Thread Cert.MergeKernelIdeal.nD Cert.MergeKernelIdeal.τ).loc Cert.MergeKernelIdeal.main_arg14)
      ∧ m' ((c.tc : Thread Cert.MergeReferenceIdeal.nD Cert.MergeReferenceIdeal.τ).loc Cert.MergeReferenceIdeal.main_arg15) = m ((c.tc : Thread Cert.MergeKernelIdeal.nD Cert.MergeKernelIdeal.τ).loc Cert.MergeKernelIdeal.main_arg15)) →
    ∃ (v0 : (c : Dev Cert.MergeKernelIdeal.nD) → Buf (Elt Ideal) ((c.tc : Thread Cert.MergeKernelIdeal.nD Cert.MergeKernelIdeal.τ).loc Cert.MergeKernelIdeal.main_v29_0)) (v1 : (c : Dev Cert.MergeKernelIdeal.nD) → Buf (Elt Ideal) ((c.tc : Thread Cert.MergeKernelIdeal.nD Cert.MergeKernelIdeal.τ).loc Cert.MergeKernelIdeal.main_v29_1)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v29_0) = v0 c
          ∧ r.2.mem ((c.tc : Thread Cert.MergeKernelIdeal.nD Cert.MergeKernelIdeal.τ).loc Cert.MergeKernelIdeal.main_v29_1) = v1 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
          ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
          ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12)
          ∧ r.2.mem ((c.tc : Thread Cert.MergeKernelIdeal.nD Cert.MergeKernelIdeal.τ).loc Cert.MergeKernelIdeal.main_arg13) = m ((c.tc : Thread Cert.MergeKernelIdeal.nD Cert.MergeKernelIdeal.τ).loc Cert.MergeKernelIdeal.main_arg13)
          ∧ r.2.mem ((c.tc : Thread Cert.MergeKernelIdeal.nD Cert.MergeKernelIdeal.τ).loc Cert.MergeKernelIdeal.main_arg14) = m ((c.tc : Thread Cert.MergeKernelIdeal.nD Cert.MergeKernelIdeal.τ).loc Cert.MergeKernelIdeal.main_arg14)
          ∧ r.2.mem ((c.tc : Thread Cert.MergeKernelIdeal.nD Cert.MergeKernelIdeal.τ).loc Cert.MergeKernelIdeal.main_arg15) = m ((c.tc : Thread Cert.MergeKernelIdeal.nD Cert.MergeKernelIdeal.τ).loc Cert.MergeKernelIdeal.main_arg15))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v32) = v0 c
          ∧ r.2.mem ((c.tc : Thread Cert.MergeReferenceIdeal.nD Cert.MergeReferenceIdeal.τ).loc Cert.MergeReferenceIdeal.main_v46) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14)
          ∧ r.2.mem ((c.tc : Thread Cert.MergeReferenceIdeal.nD Cert.MergeReferenceIdeal.τ).loc Cert.MergeReferenceIdeal.main_arg15) = m' ((c.tc : Thread Cert.MergeReferenceIdeal.nD Cert.MergeReferenceIdeal.τ).loc Cert.MergeReferenceIdeal.main_arg15))

def preserves_SampleKernel_SampleKernelIdeal : Prop :=
  True

def algebraic_SampleKernelIdeal_SampleReferenceIdeal_pre_sample_finite [hSampleKernelIdeal : Cert.SampleKernelIdeal.Facts] [hSampleReferenceIdeal : Cert.SampleReferenceIdeal.Facts] [hPre_sample_finite : Cert.Pre_sample_finite.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleKernelIdeal_sample_finite m →
    (∀ c : Dev Cert.SampleKernelIdeal.nD,
      m' ((c.tc : Thread Cert.SampleReferenceIdeal.nD Cert.SampleReferenceIdeal.τ).loc Cert.SampleReferenceIdeal.main_arg0) = m ((c.tc : Thread Cert.SampleKernelIdeal.nD Cert.SampleKernelIdeal.τ).loc Cert.SampleKernelIdeal.main_arg0)
      ∧ m' ((c.tc : Thread Cert.SampleReferenceIdeal.nD Cert.SampleReferenceIdeal.τ).loc Cert.SampleReferenceIdeal.main_arg1) = m ((c.tc : Thread Cert.SampleKernelIdeal.nD Cert.SampleKernelIdeal.τ).loc Cert.SampleKernelIdeal.main_arg1)
      ∧ m' ((c.tc : Thread Cert.SampleReferenceIdeal.nD Cert.SampleReferenceIdeal.τ).loc Cert.SampleReferenceIdeal.main_arg2) = m ((c.tc : Thread Cert.SampleKernelIdeal.nD Cert.SampleKernelIdeal.τ).loc Cert.SampleKernelIdeal.main_arg2)
      ∧ m' ((c.tc : Thread Cert.SampleReferenceIdeal.nD Cert.SampleReferenceIdeal.τ).loc Cert.SampleReferenceIdeal.main_arg3) = m ((c.tc : Thread Cert.SampleKernelIdeal.nD Cert.SampleKernelIdeal.τ).loc Cert.SampleKernelIdeal.main_arg3)
      ∧ m' ((c.tc : Thread Cert.SampleReferenceIdeal.nD Cert.SampleReferenceIdeal.τ).loc Cert.SampleReferenceIdeal.main_arg4) = m ((c.tc : Thread Cert.SampleKernelIdeal.nD Cert.SampleKernelIdeal.τ).loc Cert.SampleKernelIdeal.main_arg4)
      ∧ m' ((c.tc : Thread Cert.SampleReferenceIdeal.nD Cert.SampleReferenceIdeal.τ).loc Cert.SampleReferenceIdeal.main_arg5) = m ((c.tc : Thread Cert.SampleKernelIdeal.nD Cert.SampleKernelIdeal.τ).loc Cert.SampleKernelIdeal.main_arg5)
      ∧ m' ((c.tc : Thread Cert.SampleReferenceIdeal.nD Cert.SampleReferenceIdeal.τ).loc Cert.SampleReferenceIdeal.main_arg6) = m ((c.tc : Thread Cert.SampleKernelIdeal.nD Cert.SampleKernelIdeal.τ).loc Cert.SampleKernelIdeal.main_arg6)) →
    ∃ (v0 : (c : Dev Cert.SampleKernelIdeal.nD) → Buf (Elt Ideal) ((c.tc : Thread Cert.SampleKernelIdeal.nD Cert.SampleKernelIdeal.τ).loc Cert.SampleKernelIdeal.main_v29_0)) (v1 : (c : Dev Cert.SampleKernelIdeal.nD) → Buf (Elt Ideal) ((c.tc : Thread Cert.SampleKernelIdeal.nD Cert.SampleKernelIdeal.τ).loc Cert.SampleKernelIdeal.main_v29_1)) (v2 : (c : Dev Cert.SampleKernelIdeal.nD) → Buf (Elt Ideal) ((c.tc : Thread Cert.SampleKernelIdeal.nD Cert.SampleKernelIdeal.τ).loc Cert.SampleKernelIdeal.main_v29_2)),
      θ_run (Cert.SampleKernelIdeal.defs (F := Ideal)) (onTc (τ := Cert.SampleKernelIdeal.τ) (Cert.SampleKernelIdeal.main (F := Ideal))) ⟨m, fun _ => 0, g⟩ (fun r => ∀ c : Dev Cert.SampleKernelIdeal.nD,
          r.2.mem ((c.tc : Thread Cert.SampleKernelIdeal.nD Cert.SampleKernelIdeal.τ).loc Cert.SampleKernelIdeal.main_v29_0) = v0 c
          ∧ r.2.mem ((c.tc : Thread Cert.SampleKernelIdeal.nD Cert.SampleKernelIdeal.τ).loc Cert.SampleKernelIdeal.main_v29_1) = v1 c
          ∧ r.2.mem ((c.tc : Thread Cert.SampleKernelIdeal.nD Cert.SampleKernelIdeal.τ).loc Cert.SampleKernelIdeal.main_v29_2) = v2 c
          ∧ r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
          ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
          ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2)
          ∧ r.2.mem ((c.tc : Thread Cert.SampleKernelIdeal.nD Cert.SampleKernelIdeal.τ).loc Cert.SampleKernelIdeal.main_arg3) = m ((c.tc : Thread Cert.SampleKernelIdeal.nD Cert.SampleKernelIdeal.τ).loc Cert.SampleKernelIdeal.main_arg3)
          ∧ r.2.mem ((c.tc : Thread Cert.SampleKernelIdeal.nD Cert.SampleKernelIdeal.τ).loc Cert.SampleKernelIdeal.main_arg4) = m ((c.tc : Thread Cert.SampleKernelIdeal.nD Cert.SampleKernelIdeal.τ).loc Cert.SampleKernelIdeal.main_arg4)
          ∧ r.2.mem ((c.tc : Thread Cert.SampleKernelIdeal.nD Cert.SampleKernelIdeal.τ).loc Cert.SampleKernelIdeal.main_arg5) = m ((c.tc : Thread Cert.SampleKernelIdeal.nD Cert.SampleKernelIdeal.τ).loc Cert.SampleKernelIdeal.main_arg5)
          ∧ r.2.mem ((c.tc : Thread Cert.SampleKernelIdeal.nD Cert.SampleKernelIdeal.τ).loc Cert.SampleKernelIdeal.main_arg6) = m ((c.tc : Thread Cert.SampleKernelIdeal.nD Cert.SampleKernelIdeal.τ).loc Cert.SampleKernelIdeal.main_arg6))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v66) = v0 c
          ∧ r.2.mem ((c.tc : Thread Cert.SampleReferenceIdeal.nD Cert.SampleReferenceIdeal.τ).loc Cert.SampleReferenceIdeal.main_v67) = v1 c
          ∧ r.2.mem ((c.tc : Thread Cert.SampleReferenceIdeal.nD Cert.SampleReferenceIdeal.τ).loc Cert.SampleReferenceIdeal.main_v68) = v2 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6))

def preserves_ExpertsKernel_ExpertsKernelIdeal : Prop :=
  True

def algebraic_ExpertsKernelIdeal_ExpertsReferenceIdeal [hExpertsKernelIdeal : Cert.ExpertsKernelIdeal.Facts] [hExpertsReferenceIdeal : Cert.ExpertsReferenceIdeal.Facts] [hPre_experts_range : Cert.Pre_experts_range.Facts] : Prop :=
  ∀ (m : (ℓ : Loc Cert.ExpertsKernelIdeal.nD Cert.ExpertsKernelIdeal.τ Cert.ExpertsKernelIdeal.sig) → Buf (Elt Ideal) ℓ) (g : Dev Cert.ExpertsKernelIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsKernelIdeal m →
    (∀ c : Dev Cert.ExpertsKernelIdeal.nD,
      m' ((c.tc : Thread Cert.ExpertsReferenceIdeal.nD Cert.ExpertsReferenceIdeal.τ).loc Cert.ExpertsReferenceIdeal.main_arg0) = m ((c.tc : Thread Cert.ExpertsKernelIdeal.nD Cert.ExpertsKernelIdeal.τ).loc Cert.ExpertsKernelIdeal.main_arg0)
      ∧ m' ((c.tc : Thread Cert.ExpertsReferenceIdeal.nD Cert.ExpertsReferenceIdeal.τ).loc Cert.ExpertsReferenceIdeal.main_arg1) = m ((c.tc : Thread Cert.ExpertsKernelIdeal.nD Cert.ExpertsKernelIdeal.τ).loc Cert.ExpertsKernelIdeal.main_arg1)
      ∧ m' ((c.tc : Thread Cert.ExpertsReferenceIdeal.nD Cert.ExpertsReferenceIdeal.τ).loc Cert.ExpertsReferenceIdeal.main_arg2) = m ((c.tc : Thread Cert.ExpertsKernelIdeal.nD Cert.ExpertsKernelIdeal.τ).loc Cert.ExpertsKernelIdeal.main_arg2)
      ∧ m' ((c.tc : Thread Cert.ExpertsReferenceIdeal.nD Cert.ExpertsReferenceIdeal.τ).loc Cert.ExpertsReferenceIdeal.main_arg3) = m ((c.tc : Thread Cert.ExpertsKernelIdeal.nD Cert.ExpertsKernelIdeal.τ).loc Cert.ExpertsKernelIdeal.main_arg3)
      ∧ m' ((c.tc : Thread Cert.ExpertsReferenceIdeal.nD Cert.ExpertsReferenceIdeal.τ).loc Cert.ExpertsReferenceIdeal.main_arg4) = m ((c.tc : Thread Cert.ExpertsKernelIdeal.nD Cert.ExpertsKernelIdeal.τ).loc Cert.ExpertsKernelIdeal.main_arg4)
      ∧ m' ((c.tc : Thread Cert.ExpertsReferenceIdeal.nD Cert.ExpertsReferenceIdeal.τ).loc Cert.ExpertsReferenceIdeal.main_arg5) = m ((c.tc : Thread Cert.ExpertsKernelIdeal.nD Cert.ExpertsKernelIdeal.τ).loc Cert.ExpertsKernelIdeal.main_arg5)) →
    ∃ (v0 : (c : Dev Cert.ExpertsKernelIdeal.nD) → Buf (Elt Ideal) ((c.tc : Thread Cert.ExpertsKernelIdeal.nD Cert.ExpertsKernelIdeal.τ).loc Cert.ExpertsKernelIdeal.main_v0)),
      θ_run (Cert.ExpertsKernelIdeal.defs (F := Ideal)) (onTc (τ := Cert.ExpertsKernelIdeal.τ) (Cert.ExpertsKernelIdeal.main (F := Ideal))) ⟨m, fun _ => 0, g⟩ (fun r => ∀ c : Dev Cert.ExpertsKernelIdeal.nD,
          r.2.mem ((c.tc : Thread Cert.ExpertsKernelIdeal.nD Cert.ExpertsKernelIdeal.τ).loc Cert.ExpertsKernelIdeal.main_v0) = v0 c
          ∧ r.2.mem ((c.tc : Thread Cert.ExpertsKernelIdeal.nD Cert.ExpertsKernelIdeal.τ).loc Cert.ExpertsKernelIdeal.main_arg0) = m ((c.tc : Thread Cert.ExpertsKernelIdeal.nD Cert.ExpertsKernelIdeal.τ).loc Cert.ExpertsKernelIdeal.main_arg0)
          ∧ r.2.mem ((c.tc : Thread Cert.ExpertsKernelIdeal.nD Cert.ExpertsKernelIdeal.τ).loc Cert.ExpertsKernelIdeal.main_arg1) = m ((c.tc : Thread Cert.ExpertsKernelIdeal.nD Cert.ExpertsKernelIdeal.τ).loc Cert.ExpertsKernelIdeal.main_arg1)
          ∧ r.2.mem ((c.tc : Thread Cert.ExpertsKernelIdeal.nD Cert.ExpertsKernelIdeal.τ).loc Cert.ExpertsKernelIdeal.main_arg2) = m ((c.tc : Thread Cert.ExpertsKernelIdeal.nD Cert.ExpertsKernelIdeal.τ).loc Cert.ExpertsKernelIdeal.main_arg2)
          ∧ r.2.mem ((c.tc : Thread Cert.ExpertsKernelIdeal.nD Cert.ExpertsKernelIdeal.τ).loc Cert.ExpertsKernelIdeal.main_arg3) = m ((c.tc : Thread Cert.ExpertsKernelIdeal.nD Cert.ExpertsKernelIdeal.τ).loc Cert.ExpertsKernelIdeal.main_arg3)
          ∧ r.2.mem ((c.tc : Thread Cert.ExpertsKernelIdeal.nD Cert.ExpertsKernelIdeal.τ).loc Cert.ExpertsKernelIdeal.main_arg4) = m ((c.tc : Thread Cert.ExpertsKernelIdeal.nD Cert.ExpertsKernelIdeal.τ).loc Cert.ExpertsKernelIdeal.main_arg4)
          ∧ r.2.mem ((c.tc : Thread Cert.ExpertsKernelIdeal.nD Cert.ExpertsKernelIdeal.τ).loc Cert.ExpertsKernelIdeal.main_arg5) = m ((c.tc : Thread Cert.ExpertsKernelIdeal.nD Cert.ExpertsKernelIdeal.τ).loc Cert.ExpertsKernelIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v36) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def Claim : Prop :=
  ∃ (hAttnKernel : Cert.AttnKernel.Facts) (hAttnKernelIdeal : Cert.AttnKernelIdeal.Facts) (hAttnReferenceIdeal : Cert.AttnReferenceIdeal.Facts) (hProjKernel : Cert.ProjKernel.Facts) (hProjKernelIdeal : Cert.ProjKernelIdeal.Facts) (hProjReferenceIdeal : Cert.ProjReferenceIdeal.Facts) (hMergeKernel : Cert.MergeKernel.Facts) (hMergeKernelIdeal : Cert.MergeKernelIdeal.Facts) (hMergeReferenceIdeal : Cert.MergeReferenceIdeal.Facts) (hSampleKernel : Cert.SampleKernel.Facts) (hSampleKernelIdeal : Cert.SampleKernelIdeal.Facts) (hSampleReferenceIdeal : Cert.SampleReferenceIdeal.Facts) (hExpertsKernel : Cert.ExpertsKernel.Facts) (hExpertsKernelIdeal : Cert.ExpertsKernelIdeal.Facts) (hExpertsReferenceIdeal : Cert.ExpertsReferenceIdeal.Facts) (hPre_attn_finite : Cert.Pre_attn_finite.Facts) (hPre_sample_finite : Cert.Pre_sample_finite.Facts) (hPre_experts_range : Cert.Pre_experts_range.Facts),
    quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_SampleKernel (hSampleKernel := hSampleKernel)
    ∧ quiescent_SampleKernelIdeal (hSampleKernelIdeal := hSampleKernelIdeal)
    ∧ quiescent_SampleKernelIdeal_pre_sample_finite (hSampleKernelIdeal := hSampleKernelIdeal) (hPre_sample_finite := hPre_sample_finite)
    ∧ quiescent_SampleReferenceIdeal (hSampleReferenceIdeal := hSampleReferenceIdeal)
    ∧ quiescent_SampleReferenceIdeal_pre_sample_finite (hSampleReferenceIdeal := hSampleReferenceIdeal) (hPre_sample_finite := hPre_sample_finite)
    ∧ quiescent_ExpertsKernel (hExpertsKernel := hExpertsKernel) (hPre_experts_range := hPre_experts_range)
    ∧ quiescent_ExpertsKernelIdeal (hExpertsKernelIdeal := hExpertsKernelIdeal) (hPre_experts_range := hPre_experts_range)
    ∧ quiescent_ExpertsReferenceIdeal (hExpertsReferenceIdeal := hExpertsReferenceIdeal)
    ∧ quiescent_ExpertsReferenceIdeal_pre_experts_range (hExpertsReferenceIdeal := hExpertsReferenceIdeal) (hPre_experts_range := hPre_experts_range)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_ProjKernel_ProjKernelIdeal
    ∧ algebraic_ProjKernelIdeal_ProjReferenceIdeal (hProjKernelIdeal := hProjKernelIdeal) (hProjReferenceIdeal := hProjReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_SampleKernel_SampleKernelIdeal
    ∧ algebraic_SampleKernelIdeal_SampleReferenceIdeal_pre_sample_finite (hSampleKernelIdeal := hSampleKernelIdeal) (hSampleReferenceIdeal := hSampleReferenceIdeal) (hPre_sample_finite := hPre_sample_finite)
    ∧ preserves_ExpertsKernel_ExpertsKernelIdeal
    ∧ algebraic_ExpertsKernelIdeal_ExpertsReferenceIdeal (hExpertsKernelIdeal := hExpertsKernelIdeal) (hExpertsReferenceIdeal := hExpertsReferenceIdeal) (hPre_experts_range := hPre_experts_range)
-- ==== Pre_attn_finite.lean ====
abbrev S33280x512 : Shape := ⟨2, ![33280, 512]⟩
abbrev S1x8x513 : Shape := ⟨3, ![1, 8, 513]⟩
abbrev S_ : Shape := ⟨0, ![]⟩

class Facts : Prop where
  bitsLt_bf16_f32 : FTy.bits .bf16 < FTy.bits .f32
  bcast_S_S33280x512 : S_.BroadcastsInDim S33280x512 (![] : Fin 0 → Fin S33280x512.rank)
  reducesTo_S33280x512_S_d0_1 : S33280x512.ReducesTo [0, 1] S_
  h_S_ : 0 < S_.numel
  bcast_S_S1x8x513 : S_.BroadcastsInDim S1x8x513 (![] : Fin 0 → Fin S1x8x513.rank)
  reducesTo_S1x8x513_S_d0_1_2 : S1x8x513.ReducesTo [0, 1, 2] S_

variable [Facts]

def fn {F : FTy → Type} [FloatOps F] (main_arg0 : FVec F S33280x512 .bf16) (main_arg1 : FVec F S33280x512 .bf16) (main_arg2 : FVec F S33280x512 .bf16) (main_arg3 : FVec F S1x8x513 .f32) : IVec S_ 1 :=
  let main_v0 : FVec F S33280x512 .f32 := (extf .f32 · bitsLt_bf16_f32) main_arg0
  let main_v1 : FVec F S33280x512 .f32 := Host.absf main_v0
  let main_cst : FVec F S_ .f32 := constant S_ .f32 0x7F800000#32
  let main_v2 : FVec F S33280x512 .f32 := broadcastInDim S33280x512 ![] bcast_S_S33280x512 main_cst
  let main_v3 : IVec S33280x512 1 := cmpf .olt main_v1 main_v2
  let main_c : IVec S_ 1 := constantI S_ 1 1#1
  let main_v4 : IVec S_ 1 := (fun x v => Host.reduce IntOp.andi x v reducesTo_S33280x512_S_d0_1 h_S_) main_v3 main_c
  let main_v5 : FVec F S33280x512 .f32 := (extf .f32 · bitsLt_bf16_f32) main_arg1
  let main_v6 : FVec F S33280x512 .f32 := Host.absf main_v5
  let main_cst_0 : FVec F S_ .f32 := constant S_ .f32 0x7F800000#32
  let main_v7 : FVec F S33280x512 .f32 := broadcastInDim S33280x512 ![] bcast_S_S33280x512 main_cst_0
  let main_v8 : IVec S33280x512 1 := cmpf .olt main_v6 main_v7
  let main_c_1 : IVec S_ 1 := constantI S_ 1 1#1
  let main_v9 : IVec S_ 1 := (fun x v => Host.reduce IntOp.andi x v reducesTo_S33280x512_S_d0_1 h_S_) main_v8 main_c_1
  let main_v10 : IVec S_ 1 := andi main_v4 main_v9
  let main_v11 : FVec F S1x8x513 .f32 := Host.absf main_arg3
  let main_cst_2 : FVec F S_ .f32 := constant S_ .f32 0x7F800000#32
  let main_v12 : FVec F S1x8x513 .f32 := broadcastInDim S1x8x513 ![] bcast_S_S1x8x513 main_cst_2
  let main_v13 : IVec S1x8x513 1 := cmpf .olt main_v11 main_v12
  let main_c_3 : IVec S_ 1 := constantI S_ 1 1#1
  let main_v14 : IVec S_ 1 := (fun x v => Host.reduce IntOp.andi x v reducesTo_S1x8x513_S_d0_1_2 h_S_) main_v13 main_c_3
  let main_v15 : IVec S_ 1 := andi main_v10 main_v14
  main_v15
-- ==== Pre_experts_range.lean ====
abbrev S292 : Shape := ⟨1, ![292]⟩
abbrev S1 : Shape := ⟨1, ![1]⟩
abbrev S74752x1024 : Shape := ⟨2, ![74752, 1024]⟩
abbrev S32x1024x512 : Shape := ⟨3, ![32, 1024, 512]⟩
abbrev S32x512x1024 : Shape := ⟨3, ![32, 512, 1024]⟩
abbrev S_ : Shape := ⟨0, ![]⟩

class Facts : Prop where
  bcast_S_S292 : S_.BroadcastsInDim S292 (![] : Fin 0 → Fin S292.rank)
  reducesTo_S292_S_d0 : S292.ReducesTo [0] S_
  h_S_ : 0 < S_.numel
  shapeCasts_S1_S_ : S1.ShapeCasts S_

variable [Facts]

def fn {F : FTy → Type} [FloatOps F] (main_arg0 : IVec S292 32) (main_arg1 : IVec S1 32) (main_arg2 : FVec F S74752x1024 .f32) (main_arg3 : FVec F S32x1024x512 .bf16) (main_arg4 : FVec F S32x1024x512 .bf16) (main_arg5 : FVec F S32x512x1024 .bf16) : IVec S_ 1 :=
  let main_c : IVec S_ 32 := constantI S_ 32 0#32
  let main_v0 : IVec S292 32 := broadcastInDim S292 ![] bcast_S_S292 main_c
  let main_v1 : IVec S292 1 := cmpi .sge main_arg0 main_v0
  let main_c_0 : IVec S_ 32 := constantI S_ 32 32#32
  let main_v2 : IVec S292 32 := broadcastInDim S292 ![] bcast_S_S292 main_c_0
  let main_v3 : IVec S292 1 := cmpi .slt main_arg0 main_v2
  let main_v4 : IVec S292 1 := andi main_v1 main_v3
  let main_c_1 : IVec S_ 1 := constantI S_ 1 1#1
  let main_v5 : IVec S_ 1 := (fun x v => Host.reduce IntOp.andi x v reducesTo_S292_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Pre_sample_finite.lean ====
abbrev S33280x512 : Shape := ⟨2, ![33280, 512]⟩
abbrev S33280x1024 : Shape := ⟨2, ![33280, 1024]⟩
abbrev S1x32x576x8x64 : Shape := ⟨5, ![1, 32, 576, 8, 64]⟩
abbrev S1x8x513 : Shape := ⟨3, ![1, 8, 513]⟩
abbrev S_ : Shape := ⟨0, ![]⟩

class Facts : Prop where
  bitsLt_bf16_f32 : FTy.bits .bf16 < FTy.bits .f32
  bcast_S_S33280x512 : S_.BroadcastsInDim S33280x512 (![] : Fin 0 → Fin S33280x512.rank)
  reducesTo_S33280x512_S_d0_1 : S33280x512.ReducesTo [0, 1] S_
  h_S_ : 0 < S_.numel
  bcast_S_S1x32x576x8x64 : S_.BroadcastsInDim S1x32x576x8x64 (![] : Fin 0 → Fin S1x32x576x8x64.rank)
  reducesTo_S1x32x576x8x64_S_d0_1_2_3_4 : S1x32x576x8x64.ReducesTo [0, 1, 2, 3, 4] S_
  bcast_S_S1x8x513 : S_.BroadcastsInDim S1x8x513 (![] : Fin 0 → Fin S1x8x513.rank)
  reducesTo_S1x8x513_S_d0_1_2 : S1x8x513.ReducesTo [0, 1, 2] S_

variable [Facts]

def fn_part1 {F : FTy → Type} [FloatOps F] (main_v15 : IVec S_ 1) (main_v16 : FVec F S1x8x513 .f32) (main_cst_4 : FVec F S_ .f32) : IVec S_ 1 :=
  let main_v17 : FVec F S1x8x513 .f32 := broadcastInDim S1x8x513 ![] bcast_S_S1x8x513 main_cst_4
  let main_v18 : IVec S1x8x513 1 := cmpf .olt main_v16 main_v17
  let main_c_5 : IVec S_ 1 := constantI S_ 1 1#1
  let main_v19 : IVec S_ 1 := (fun x v => Host.reduce IntOp.andi x v reducesTo_S1x8x513_S_d0_1_2 h_S_) main_v18 main_c_5
  let main_v20 : IVec S_ 1 := andi main_v15 main_v19
  main_v20

def fn {F : FTy → Type} [FloatOps F] (main_arg0 : FVec F S33280x512 .bf16) (main_arg1 : FVec F S33280x512 .bf16) (main_arg2 : FVec F S33280x512 .bf16) (main_arg3 : FVec F S33280x1024 .f32) (main_arg4 : FVec F S1x32x576x8x64 .f32) (main_arg5 : FVec F S1x32x576x8x64 .f32) (main_arg6 : FVec F S1x8x513 .f32) : IVec S_ 1 :=
  let main_v0 : FVec F S33280x512 .f32 := (extf .f32 · bitsLt_bf16_f32) main_arg0
  let main_v1 : FVec F S33280x512 .f32 := Host.absf main_v0
  let main_cst : FVec F S_ .f32 := constant S_ .f32 0x7F800000#32
  let main_v2 : FVec F S33280x512 .f32 := broadcastInDim S33280x512 ![] bcast_S_S33280x512 main_cst
  let main_v3 : IVec S33280x512 1 := cmpf .olt main_v1 main_v2
  let main_c : IVec S_ 1 := constantI S_ 1 1#1
  let main_v4 : IVec S_ 1 := (fun x v => Host.reduce IntOp.andi x v reducesTo_S33280x512_S_d0_1 h_S_) main_v3 main_c
  let main_v5 : FVec F S33280x512 .f32 := (extf .f32 · bitsLt_bf16_f32) main_arg1
  let main_v6 : FVec F S33280x512 .f32 := Host.absf main_v5
  let main_cst_0 : FVec F S_ .f32 := constant S_ .f32 0x7F800000#32
  let main_v7 : FVec F S33280x512 .f32 := broadcastInDim S33280x512 ![] bcast_S_S33280x512 main_cst_0
  let main_v8 : IVec S33280x512 1 := cmpf .olt main_v6 main_v7
  let main_c_1 : IVec S_ 1 := constantI S_ 1 1#1
  let main_v9 : IVec S_ 1 := (fun x v => Host.reduce IntOp.andi x v reducesTo_S33280x512_S_d0_1 h_S_) main_v8 main_c_1
  let main_v10 : IVec S_ 1 := andi main_v4 main_v9
  let main_v11 : FVec F S1x32x576x8x64 .f32 := Host.absf main_arg4
  let main_cst_2 : FVec F S_ .f32 := constant S_ .f32 0x7F800000#32
  let main_v12 : FVec F S1x32x576x8x64 .f32 := broadcastInDim S1x32x576x8x64 ![] bcast_S_S1x32x576x8x64 main_cst_2
  let main_v13 : IVec S1x32x576x8x64 1 := cmpf .olt main_v11 main_v12
  let main_c_3 : IVec S_ 1 := constantI S_ 1 1#1
  let main_v14 : IVec S_ 1 := (fun x v => Host.reduce IntOp.andi x v reducesTo_S1x32x576x8x64_S_d0_1_2_3_4 h_S_) main_v13 main_c_3
  let main_v15 : IVec S_ 1 := andi main_v10 main_v14
  let main_v16 : FVec F S1x8x513 .f32 := Host.absf main_arg6
  let main_cst_4 : FVec F S_ .f32 := constant S_ .f32 0x7F800000#32
  fn_part1 (F := F) main_v15 main_v16 main_cst_4
-- ==== AttnKernel.lean ====
abbrev S33280x512 : Shape := ⟨2, ![33280, 512]⟩
abbrev S1x8x513 : Shape := ⟨3, ![1, 8, 513]⟩
abbrev S8x513 : Shape := ⟨2, ![8, 513]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S256x768x1 : Shape := ⟨3, ![256, 768, 1]⟩
abbrev S8x256x768 : Shape := ⟨3, ![8, 256, 768]⟩
abbrev S1x256x768 : Shape := ⟨3, ![1, 256, 768]⟩
abbrev S32768x512 : Shape := ⟨2, ![32768, 512]⟩
abbrev S256x512 : Shape := ⟨2, ![256, 512]⟩
abbrev S768x512 : Shape := ⟨2, ![768, 512]⟩
abbrev S1x128 : Shape := ⟨2, ![1, 128]⟩
abbrev S256x128 : Shape := ⟨2, ![256, 128]⟩
abbrev S768x128 : Shape := ⟨2, ![768, 128]⟩

abbrev nBuf : Space → Nat
  | .hbm => 88
  | .vmem => 17
  | .smem => 0
  | _ => 0

abbrev bufTy : (tb : Table) → Fin (tcTables nBuf tb) → BufTy
  | .hbm, ⟨0, _⟩ => ⟨S33280x512, .bf16⟩
  | .hbm, ⟨1, _⟩ => ⟨S33280x512, .bf16⟩
  | .hbm, ⟨2, _⟩ => ⟨S33280x512, .bf16⟩
  | .hbm, ⟨3, _⟩ => ⟨S1x8x513, .f32⟩
  | .hbm, ⟨4, _⟩ => ⟨S8x513, .f32⟩
  | .hbm, ⟨5, _⟩ => ⟨S256, .i32⟩
  | .hbm, ⟨6, _⟩ => ⟨S256x1, .i32⟩
  | .hbm, ⟨7, _⟩ => ⟨S768, .i32⟩
  | .hbm, ⟨8, _⟩ => ⟨S1x768, .i32⟩
  | .hbm, ⟨9, _⟩ => ⟨S_, .i32⟩
  | .hbm, ⟨10, _⟩ => ⟨S256x1, .i32⟩
  | .hbm, ⟨11, _⟩ => ⟨S256x1, .i32⟩
  | .hbm, ⟨12, _⟩ => ⟨S256x768, .i32⟩
  | .hbm, ⟨13, _⟩ => ⟨S256x768, .i32⟩
  | .hbm, ⟨14, _⟩ => ⟨S256x768, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S256x768, .i32⟩
  | .hbm, ⟨19, _⟩ => ⟨S256x768, .i32⟩
  | .hbm, ⟨20, _⟩ => ⟨S_, .i32⟩
  | .hbm, ⟨21, _⟩ => ⟨S256x768, .i32⟩
  | .hbm, ⟨22, _⟩ => ⟨S256x768, .i32⟩
  | .hbm, ⟨23, _⟩ => ⟨S_, .i32⟩
  | .hbm, ⟨24, _⟩ => ⟨S256x768, .i32⟩
  | .hbm, ⟨25, _⟩ => ⟨S256x768, .i32⟩
  | .hbm, ⟨26, _⟩ => ⟨S_, .i32⟩
  | .hbm, ⟨27, _⟩ => ⟨S256x768, .i32⟩
  | .hbm, ⟨28, _⟩ => ⟨S256x768, .i1⟩
  | .hbm, ⟨29, _⟩ => ⟨S_, .i32⟩
  | .hbm, ⟨30, _⟩ => ⟨S256x768, .i32⟩
  | .hbm, ⟨31, _⟩ => ⟨S256x768, .i32⟩
  | .hbm, ⟨32, _⟩ => ⟨S256x768, .i32⟩
  | .hbm, ⟨33, _⟩ => ⟨S256x768x1, .i32⟩
  | .hbm, ⟨34, _⟩ => ⟨S8x256x768, .f32⟩
  | .hbm, ⟨35, _⟩ => ⟨S_, .i32⟩
  | .hbm, ⟨36, _⟩ => ⟨S_, .i32⟩
  | .hbm, ⟨37, _⟩ => ⟨S256x1, .i32⟩
  | .hbm, ⟨38, _⟩ => ⟨S256x1, .i32⟩
  | .hbm, ⟨39, _⟩ => ⟨S256x1, .i32⟩
  | .hbm, ⟨40, _⟩ => ⟨S_, .i32⟩
  | .hbm, ⟨41, _⟩ => ⟨S256x1, .i32⟩
  | .hbm, ⟨42, _⟩ => ⟨S256x1, .i1⟩
  | .hbm, ⟨43, _⟩ => ⟨S256x1, .i32⟩
  | .hbm, ⟨44, _⟩ => ⟨S256x1, .i32⟩
  | .hbm, ⟨45, _⟩ => ⟨S_, .i32⟩
  | .hbm, ⟨46, _⟩ => ⟨S256x1, .i32⟩
  | .hbm, ⟨47, _⟩ => ⟨S256x1, .i1⟩
  | .hbm, ⟨48, _⟩ => ⟨S256x1, .i1⟩
  | .hbm, ⟨49, _⟩ => ⟨S_, .i32⟩
  | .hbm, ⟨50, _⟩ => ⟨S256x1, .i32⟩
  | .hbm, ⟨51, _⟩ => ⟨S256x1, .i32⟩
  | .hbm, ⟨52, _⟩ => ⟨S256x1, .i32⟩
  | .hbm, ⟨53, _⟩ => ⟨S_, .i32⟩
  | .hbm, ⟨54, _⟩ => ⟨S_, .i32⟩
  | .hbm, ⟨55, _⟩ => ⟨S1x768, .i32⟩
  | .hbm, ⟨56, _⟩ => ⟨S1x768, .i32⟩
  | .hbm, ⟨57, _⟩ => ⟨S1x768, .i32⟩
  | .hbm, ⟨58, _⟩ => ⟨S_, .i32⟩
  | .hbm, ⟨59, _⟩ => ⟨S1x768, .i32⟩
  | .hbm, ⟨60, _⟩ => ⟨S1x768, .i1⟩
  | .hbm, ⟨61, _⟩ => ⟨S1x768, .i32⟩
  | .hbm, ⟨62, _⟩ => ⟨S1x768, .i32⟩
  | .hbm, ⟨63, _⟩ => ⟨S_, .i32⟩
  | .hbm, ⟨64, _⟩ => ⟨S1x768, .i32⟩
  | .hbm, ⟨65, _⟩ => ⟨S1x768, .i1⟩
  | .hbm, ⟨66, _⟩ => ⟨S1x768, .i1⟩
  | .hbm, ⟨67, _⟩ => ⟨S_, .i32⟩
  | .hbm, ⟨68, _⟩ => ⟨S1x768, .i32⟩
  | .hbm, ⟨69, _⟩ => ⟨S1x768, .i32⟩
  | .hbm, ⟨70, _⟩ => ⟨S1x768, .i32⟩
  | .hbm, ⟨71, _⟩ => ⟨S256x768, .i32⟩
  | .hbm, ⟨72, _⟩ => ⟨S256x768, .i32⟩
  | .hbm, ⟨73, _⟩ => ⟨S256x768, .i1⟩
  | .hbm, ⟨74, _⟩ => ⟨S_, .i32⟩
  | .hbm, ⟨75, _⟩ => ⟨S256x1, .i32⟩
  | .hbm, ⟨76, _⟩ => ⟨S256x1, .i32⟩
  | .hbm, ⟨77, _⟩ => ⟨S256x768, .i32⟩
  | .hbm, ⟨78, _⟩ => ⟨S256x768, .i32⟩
  | .hbm, ⟨79, _⟩ => ⟨S256x768, .i1⟩
  | .hbm, ⟨80, _⟩ => ⟨S256x768, .i1⟩
  | .hbm, ⟨81, _⟩ => ⟨S1x256x768, .i1⟩
  | .hbm, ⟨82, _⟩ => ⟨S_, .f32⟩
  | .hbm, ⟨83, _⟩ => ⟨S_, .f32⟩
  | .hbm, ⟨84, _⟩ => ⟨S8x256x768, .i1⟩
  | .hbm, ⟨85, _⟩ => ⟨S8x256x768, .f32⟩
  | .hbm, ⟨86, _⟩ => ⟨S8x256x768, .f32⟩
  | .hbm, ⟨87, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S8x256x768, .f32⟩
  | .local _ .vmem, ⟨15, _⟩ => ⟨S256x512, .bf16⟩
  | .local _ .vmem, ⟨16, _⟩ => ⟨S256x512, .bf16⟩
  | _, _ => ⟨S33280x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v20 : Ref sig .tc := ⟨.hbm, 52, rfl⟩
abbrev main_c_6 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_c_7 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_cst : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v32 : Ref sig .tc := ⟨.hbm, 86, rfl⟩
abbrev main_v33 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnKernelIdeal.lean ====
variable {F : FTy → Type} [FloatOps F] [Named F]
def κ : String → Option EReal := fun
  | "mask" => some ⊥
  | _ => none
-- ==== AttnReferenceIdeal.lean ====
abbrev S33280x512 : Shape := ⟨2, ![33280, 512]⟩
abbrev S1x8x513 : Shape := ⟨3, ![1, 8, 513]⟩
abbrev S32768x512 : Shape := ⟨2, ![32768, 512]⟩
abbrev S2x256x64x8x64 : Shape := ⟨5, ![2, 256, 64, 8, 64]⟩
abbrev S_ : Shape := ⟨0, ![]⟩
abbrev S2x264x64x8x64 : Shape := ⟨5, ![2, 264, 64, 8, 64]⟩
abbrev S2x256x576x8x64 : Shape := ⟨5, ![2, 256, 576, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S8x513 : Shape := ⟨2, ![8, 513]⟩
abbrev S64x576 : Shape := ⟨2, ![64, 576]⟩
abbrev S64x576x1 : Shape := ⟨3, ![64, 576, 1]⟩
abbrev S8x64x576 : Shape := ⟨3, ![8, 64, 576]⟩
abbrev S1x1x576 : Shape := ⟨3, ![1, 1, 576]⟩
abbrev S256 : Shape := ⟨1, ![256]⟩
abbrev S256x1x1 : Shape := ⟨3, ![256, 1, 1]⟩
abbrev S256x1x576 : Shape := ⟨3, ![256, 1, 576]⟩
abbrev S2x256x8x64x576 : Shape := ⟨5, ![2, 256, 8, 64, 576]⟩
abbrev S1x1x8x64x576 : Shape := ⟨5, ![1, 1, 8, 64, 576]⟩
abbrev S1x256x1x1x576 : Shape := ⟨5, ![1, 256, 1, 1, 576]⟩
abbrev S2x256x8x64 : Shape := ⟨4, ![2, 256, 8, 64]⟩
abbrev S2x256x8x64x1 : Shape := ⟨5, ![2, 256, 8, 64, 1]⟩
abbrev S2x256x8x64x64 : Shape := ⟨5, ![2, 256, 8, 64, 64]⟩

abbrev nBuf : Space → Nat
  | .hbm => 110
  | .vmem => 0
  | .smem => 0
  | _ => 0

abbrev bufTy : (tb : Table) → Fin (tcTables nBuf tb) → BufTy
  | .hbm, ⟨0, _⟩ => ⟨S33280x512, .bf16⟩
  | .hbm, ⟨1, _⟩ => ⟨S33280x512, .bf16⟩
  | .hbm, ⟨2, _⟩ => ⟨S33280x512, .bf16⟩
  | .hbm, ⟨3, _⟩ => ⟨S1x8x513, .f32⟩
  | .hbm, ⟨4, _⟩ => ⟨S32768x512, .bf16⟩
  | .hbm, ⟨5, _⟩ => ⟨S32768x512, .f32⟩
  | .hbm, ⟨6, _⟩ => ⟨S2x256x64x8x64, .f32⟩
  | .hbm, ⟨7, _⟩ => ⟨S32768x512, .bf16⟩
  | .hbm, ⟨8, _⟩ => ⟨S32768x512, .f32⟩
  | .hbm, ⟨9, _⟩ => ⟨S2x256x64x8x64, .f32⟩
  | .hbm, ⟨10, _⟩ => ⟨S_, .i32⟩
  | .hbm, ⟨11, _⟩ => ⟨S_, .f32⟩
  | .hbm, ⟨12, _⟩ => ⟨S2x264x64x8x64, .f32⟩
  | .hbm, ⟨13, _⟩ => ⟨S32768x512, .bf16⟩
  | .hbm, ⟨14, _⟩ => ⟨S32768x512, .f32⟩
  | .hbm, ⟨15, _⟩ => ⟨S2x256x64x8x64, .f32⟩
  | .hbm, ⟨16, _⟩ => ⟨S_, .i32⟩
  | .hbm, ⟨17, _⟩ => ⟨S_, .f32⟩
  | .hbm, ⟨18, _⟩ => ⟨S2x264x64x8x64, .f32⟩
  | .hbm, ⟨19, _⟩ => ⟨S2x256x64x8x64, .f32⟩
  | .hbm, ⟨20, _⟩ => ⟨S2x256x64x8x64, .f32⟩
  | .hbm, ⟨21, _⟩ => ⟨S2x256x64x8x64, .f32⟩
  | .hbm, ⟨22, _⟩ => ⟨S2x256x64x8x64, .f32⟩
  | .hbm, ⟨23, _⟩ => ⟨S2x256x64x8x64, .f32⟩
  | .hbm, ⟨24, _⟩ => ⟨S2x256x64x8x64, .f32⟩
  | .hbm, ⟨25, _⟩ => ⟨S2x256x64x8x64, .f32⟩
  | .hbm, ⟨26, _⟩ => ⟨S2x256x64x8x64, .f32⟩
  | .hbm, ⟨27, _⟩ => ⟨S2x256x64x8x64, .f32⟩
  | .hbm, ⟨28, _⟩ => ⟨S2x256x576x8x64, .f32⟩
  | .hbm, ⟨29, _⟩ => ⟨S2x256x64x8x64, .f32⟩
  | .hbm, ⟨30, _⟩ => ⟨S2x256x64x8x64, .f32⟩
  | .hbm, ⟨31, _⟩ => ⟨S2x256x64x8x64, .f32⟩
  | .hbm, ⟨32, _⟩ => ⟨S2x256x64x8x64, .f32⟩
  | .hbm, ⟨33, _⟩ => ⟨S2x256x64x8x64, .f32⟩
  | .hbm, ⟨34, _⟩ => ⟨S2x256x64x8x64, .f32⟩
  | .hbm, ⟨35, _⟩ => ⟨S2x256x64x8x64, .f32⟩
  | .hbm, ⟨36, _⟩ => ⟨S2x256x64x8x64, .f32⟩
  | .hbm, ⟨37, _⟩ => ⟨S2x256x64x8x64, .f32⟩
  | .hbm, ⟨38, _⟩ => ⟨S2x256x576x8x64, .f32⟩
  | .hbm, ⟨39, _⟩ => ⟨S64, .i32⟩
  | .hbm, ⟨40, _⟩ => ⟨S64x1, .i32⟩
  | .hbm, ⟨41, _⟩ => ⟨S576, .i32⟩
  | .hbm, ⟨42, _⟩ => ⟨S1x576, .i32⟩
  | .hbm, ⟨43, _⟩ => ⟨S8x513, .f32⟩
  | .hbm, ⟨44, _⟩ => ⟨S_, .i32⟩
  | .hbm, ⟨45, _⟩ => ⟨S64x1, .i32⟩
  | .hbm, ⟨46, _⟩ => ⟨S64x1, .i32⟩
  | .hbm, ⟨47, _⟩ => ⟨S64x576, .i32⟩
  | .hbm, ⟨48, _⟩ => ⟨S64x576, .i32⟩
  | .hbm, ⟨49, _⟩ => ⟨S64x576, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S64x576, .i32⟩
  | .hbm, ⟨57, _⟩ => ⟨S64x576, .i32⟩
  | .hbm, ⟨58, _⟩ => ⟨S_, .i32⟩
  | .hbm, ⟨59, _⟩ => ⟨S64x576, .i32⟩
  | .hbm, ⟨60, _⟩ => ⟨S64x576, .i32⟩
  | .hbm, ⟨61, _⟩ => ⟨S_, .i32⟩
  | .hbm, ⟨62, _⟩ => ⟨S64x576, .i32⟩
  | .hbm, ⟨63, _⟩ => ⟨S64x576, .i1⟩
  | .hbm, ⟨64, _⟩ => ⟨S_, .i32⟩
  | .hbm, ⟨65, _⟩ => ⟨S64x576, .i32⟩
  | .hbm, ⟨66, _⟩ => ⟨S64x576, .i32⟩
  | .hbm, ⟨67, _⟩ => ⟨S64x576, .i32⟩
  | .hbm, ⟨68, _⟩ => ⟨S64x576x1, .i32⟩
  | .hbm, ⟨69, _⟩ => ⟨S8x64x576, .f32⟩
  | .hbm, ⟨70, _⟩ => ⟨S1x1x576, .i32⟩
  | .hbm, ⟨71, _⟩ => ⟨S256, .i32⟩
  | .hbm, ⟨72, _⟩ => ⟨S_, .i32⟩
  | .hbm, ⟨73, _⟩ => ⟨S256, .i32⟩
  | .hbm, ⟨74, _⟩ => ⟨S256, .i32⟩
  | .hbm, ⟨75, _⟩ => ⟨S_, .i32⟩
  | .hbm, ⟨76, _⟩ => ⟨S256, .i32⟩
  | .hbm, ⟨77, _⟩ => ⟨S256, .i32⟩
  | .hbm, ⟨78, _⟩ => ⟨S256x1x1, .i32⟩
  | .hbm, ⟨79, _⟩ => ⟨S256x1x576, .i32⟩
  | .hbm, ⟨80, _⟩ => ⟨S256x1x576, .i32⟩
  | .hbm, ⟨81, _⟩ => ⟨S256x1x576, .i1⟩
  | .hbm, ⟨82, _⟩ => ⟨S2x256x8x64x576, .f32⟩
  | .hbm, ⟨83, _⟩ => ⟨S1x1x8x64x576, .f32⟩
  | .hbm, ⟨84, _⟩ => ⟨S2x256x8x64x576, .f32⟩
  | .hbm, ⟨85, _⟩ => ⟨S2x256x8x64x576, .f32⟩
  | .hbm, ⟨86, _⟩ => ⟨S1x256x1x1x576, .i1⟩
  | .hbm, ⟨87, _⟩ => ⟨S_, .f32⟩
  | .hbm, ⟨88, _⟩ => ⟨S_, .f32⟩
  | .hbm, ⟨89, _⟩ => ⟨S2x256x8x64x576, .i1⟩
  | .hbm, ⟨90, _⟩ => ⟨S2x256x8x64x576, .f32⟩
  | .hbm, ⟨91, _⟩ => ⟨S2x256x8x64x576, .f32⟩
  | .hbm, ⟨92, _⟩ => ⟨S_, .f32⟩
  | .hbm, ⟨93, _⟩ => ⟨S2x256x8x64, .f32⟩
  | .hbm, ⟨94, _⟩ => ⟨S_, .f32⟩
  | .hbm, ⟨95, _⟩ => ⟨S2x256x8x64, .f32⟩
  | .hbm, ⟨96, _⟩ => ⟨S2x256x8x64, .f32⟩
  | .hbm, ⟨97, _⟩ => ⟨S2x256x8x64x1, .f32⟩
  | .hbm, ⟨98, _⟩ => ⟨S2x256x8x64x576, .f32⟩
  | .hbm, ⟨99, _⟩ => ⟨S2x256x8x64x576, .f32⟩
  | .hbm, ⟨100, _⟩ => ⟨S2x256x8x64x576, .f32⟩
  | .hbm, ⟨101, _⟩ => ⟨S_, .f32⟩
  | .hbm, ⟨102, _⟩ => ⟨S2x256x8x64, .f32⟩
  | .hbm, ⟨103, _⟩ => ⟨S2x256x8x64x1, .f32⟩
  | .hbm, ⟨104, _⟩ => ⟨S2x256x8x64x576, .f32⟩
  | .hbm, ⟨105, _⟩ => ⟨S2x256x8x64x576, .f32⟩
  | .hbm, ⟨106, _⟩ => ⟨S2x256x8x64x64, .f32⟩
  | .hbm, ⟨107, _⟩ => ⟨S2x256x64x8x64, .f32⟩
  | .hbm, ⟨108, _⟩ => ⟨S32768x512, .f32⟩
  | .hbm, ⟨109, _⟩ => ⟨S32768x512, .bf16⟩
  | _, _ => ⟨S33280x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_1 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_2 : Ref sig .tc := ⟨.hbm, 50, rfl⟩
abbrev main_c_3 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v41 : Ref sig .tc := ⟨.hbm, 57, rfl⟩
abbrev main_c_4 : Ref sig .tc := ⟨.hbm, 58, rfl⟩
abbrev main_v42 : Ref sig .tc := ⟨.hbm, 59, rfl⟩
abbrev main_v43 : Ref sig .tc := ⟨.hbm, 60, rfl⟩
abbrev main_c_5 : Ref sig .tc := ⟨.hbm, 61, rfl⟩
abbrev main_v44 : Ref sig .tc := ⟨.hbm, 62, rfl⟩
abbrev main_v45 : Ref sig .tc := ⟨.hbm, 63, rfl⟩
abbrev main_c_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_7 : Ref sig .tc := ⟨.hbm, 72, rfl⟩
abbrev main_v53 : Ref sig .tc := ⟨.hbm, 73, rfl⟩
abbrev main_v54 : Ref sig .tc := ⟨.hbm, 74, rfl⟩
abbrev main_c_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_cst_10 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_11 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]
-- ==== ProjKernel.lean ====
abbrev S2x16384x1024 : Shape := ⟨3, ![2, 16384, 1024]⟩
abbrev S32x16x1024 : Shape := ⟨3, ![32, 16, 1024]⟩
abbrev S1x1024 : Shape := ⟨2, ![1, 1024]⟩
abbrev S1x1024x4608 : Shape := ⟨3, ![1, 1024, 4608]⟩
abbrev S1x4608 : Shape := ⟨2, ![1, 4608]⟩
abbrev S32768x1024 : Shape := ⟨2, ![32768, 1024]⟩
abbrev S512x1024 : Shape := ⟨2, ![512, 1024]⟩
abbrev S1024 : Shape := ⟨1, ![1024]⟩
abbrev S1024x4608 : Shape := ⟨2, ![1024, 4608]⟩
abbrev S4608 : Shape := ⟨1, ![4608]⟩
abbrev S33280x512 : Shape := ⟨2, ![33280, 512]⟩
abbrev S33280x1024 : Shape := ⟨2, ![33280, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S1x512 : Shape := ⟨2, ![1, 512]⟩
abbrev S1024x1024 : Shape := ⟨2, ![1024, 1024]⟩

abbrev nBuf : Space → Nat
  | .hbm => 21
  | .vmem => 22
  | .smem => 0
  | _ => 0

abbrev bufTy : (tb : Table) → Fin (tcTables nBuf tb) → BufTy
  | .hbm, ⟨0, _⟩ => ⟨S2x16384x1024, .f32⟩
  | .hbm, ⟨1, _⟩ => ⟨S32x16x1024, .f32⟩
  | .hbm, ⟨2, _⟩ => ⟨S1x1024, .f32⟩
  | .hbm, ⟨3, _⟩ => ⟨S1x1024x4608, .f32⟩
  | .hbm, ⟨4, _⟩ => ⟨S1x4608, .f32⟩
  | .hbm, ⟨5, _⟩ => ⟨S32768x1024, .f32⟩
  | .hbm, ⟨6, _⟩ => ⟨S512x1024, .f32⟩
  | .hbm, ⟨7, _⟩ => ⟨S1024, .f32⟩
  | .hbm, ⟨8, _⟩ => ⟨S1x1024, .f32⟩
  | .hbm, ⟨9, _⟩ => ⟨S1024x4608, .f32⟩
  | .hbm, ⟨10, _⟩ => ⟨S1024x4608, .bf16⟩
  | .hbm, ⟨11, _⟩ => ⟨S4608, .f32⟩
  | .hbm, ⟨12, _⟩ => ⟨S1x4608, .f32⟩
  | .hbm, ⟨13, _⟩ => ⟨S33280x512, .bf16⟩
  | .hbm, ⟨14, _⟩ => ⟨S33280x512, .bf16⟩
  | .hbm, ⟨15, _⟩ => ⟨S33280x512, .bf16⟩
  | .hbm, ⟨16, _⟩ => ⟨S33280x1024, .f32⟩
  | .hbm, ⟨17, _⟩ => ⟨S33280x512, .f32⟩
  | .hbm, ⟨18, _⟩ => ⟨S33280x512, .bf16⟩
  | .hbm, ⟨19, _⟩ => ⟨S33280x1024, .bf16⟩
  | .hbm, ⟨20, _⟩ => ⟨S33280x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S1024x4608, .bf16⟩
  | .local _ .vmem, ⟨5, _⟩ => ⟨S1x4608, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .f32⟩
  | .local _ .vmem, ⟨13, _⟩ => ⟨S512x1024, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev main_v8_6 : Ref sig .tc := ⟨.hbm, 19, rfl⟩
abbrev main_v8_7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjReferenceIdeal.lean ====
abbrev S2x16384x1024 : Shape := ⟨3, ![2, 16384, 1024]⟩
abbrev S32x16x1024 : Shape := ⟨3, ![32, 16, 1024]⟩
abbrev S1x1024 : Shape := ⟨2, ![1, 1024]⟩
abbrev S1x1024x4608 : Shape := ⟨3, ![1, 1024, 4608]⟩
abbrev S1x4608 : Shape := ⟨2, ![1, 4608]⟩
abbrev S32768x1024 : Shape := ⟨2, ![32768, 1024]⟩
abbrev S512x1024 : Shape := ⟨2, ![512, 1024]⟩
abbrev S33280x1024 : Shape := ⟨2, ![33280, 1024]⟩
abbrev S1024 : Shape := ⟨1, ![1024]⟩
abbrev S_ : Shape := ⟨0, ![]⟩
abbrev S33280 : Shape := ⟨1, ![33280]⟩
abbrev S33280x1 : Shape := ⟨2, ![33280, 1]⟩
abbrev S1024x4608 : Shape := ⟨2, ![1024, 4608]⟩
abbrev S33280x4608 : Shape := ⟨2, ![33280, 4608]⟩
abbrev S4608 : Shape := ⟨1, ![4608]⟩
abbrev S33280x512 : Shape := ⟨2, ![33280, 512]⟩

abbrev nBuf : Space → Nat
  | .hbm => 48
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32x16x1024, .f32⟩
  | .hbm, ⟨2, _⟩ => ⟨S1x1024, .f32⟩
  | .hbm, ⟨3, _⟩ => ⟨S1x1024x4608, .f32⟩
  | .hbm, ⟨4, _⟩ => ⟨S1x4608, .f32⟩
  | .hbm, ⟨5, _⟩ => ⟨S32768x1024, .f32⟩
  | .hbm, ⟨6, _⟩ => ⟨S512x1024, .f32⟩
  | .hbm, ⟨7, _⟩ => ⟨S33280x1024, .f32⟩
  | .hbm, ⟨8, _⟩ => ⟨S1024, .f32⟩
  | .hbm, ⟨9, _⟩ => ⟨S33280x1024, .f32⟩
  | .hbm, ⟨10, _⟩ => ⟨S_, .f32⟩
  | .hbm, ⟨11, _⟩ => ⟨S33280, .f32⟩
  | .hbm, ⟨12, _⟩ => ⟨S33280x1, .f32⟩
  | .hbm, ⟨13, _⟩ => ⟨S_, .f32⟩
  | .hbm, ⟨14, _⟩ => ⟨S33280x1, .f32⟩
  | .hbm, ⟨15, _⟩ => ⟨S33280x1, .f32⟩
  | .hbm, ⟨16, _⟩ => ⟨S_, .f32⟩
  | .hbm, ⟨17, _⟩ => ⟨S33280x1, .f32⟩
  | .hbm, ⟨18, _⟩ => ⟨S33280x1, .f32⟩
  | .hbm, ⟨19, _⟩ => ⟨S33280x1, .f32⟩
  | .hbm, ⟨20, _⟩ => ⟨S33280x1024, .f32⟩
  | .hbm, ⟨21, _⟩ => ⟨S33280x1024, .f32⟩
  | .hbm, ⟨22, _⟩ => ⟨S1x1024, .f32⟩
  | .hbm, ⟨23, _⟩ => ⟨S33280x1024, .f32⟩
  | .hbm, ⟨24, _⟩ => ⟨S33280x1024, .f32⟩
  | .hbm, ⟨25, _⟩ => ⟨S1024x4608, .f32⟩
  | .hbm, ⟨26, _⟩ => ⟨S33280x4608, .f32⟩
  | .hbm, ⟨27, _⟩ => ⟨S4608, .f32⟩
  | .hbm, ⟨28, _⟩ => ⟨S1x4608, .f32⟩
  | .hbm, ⟨29, _⟩ => ⟨S33280x4608, .f32⟩
  | .hbm, ⟨30, _⟩ => ⟨S33280x4608, .f32⟩
  | .hbm, ⟨31, _⟩ => ⟨S33280x512, .f32⟩
  | .hbm, ⟨32, _⟩ => ⟨S33280x512, .f32⟩
  | .hbm, ⟨33, _⟩ => ⟨S33280x512, .f32⟩
  | .hbm, ⟨34, _⟩ => ⟨S33280x512, .f32⟩
  | .hbm, ⟨35, _⟩ => ⟨S33280x512, .f32⟩
  | .hbm, ⟨36, _⟩ => ⟨S33280x1024, .f32⟩
  | .hbm, ⟨37, _⟩ => ⟨S33280x1024, .f32⟩
  | .hbm, ⟨38, _⟩ => ⟨S_, .f32⟩
  | .hbm, ⟨39, _⟩ => ⟨S33280x512, .f32⟩
  | .hbm, ⟨40, _⟩ => ⟨S33280x512, .f32⟩
  | .hbm, ⟨41, _⟩ => ⟨S33280x512, .bf16⟩
  | .hbm, ⟨42, _⟩ => ⟨S33280x512, .bf16⟩
  | .hbm, ⟨43, _⟩ => ⟨S33280x512, .bf16⟩
  | .hbm, ⟨44, _⟩ => ⟨S33280x1024, .f32⟩
  | .hbm, ⟨45, _⟩ => ⟨S33280x512, .bf16⟩
  | .hbm, ⟨46, _⟩ => ⟨S33280x1024, .bf16⟩
  | .hbm, ⟨47, _⟩ => ⟨S33280x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== MergeKernel.lean ====
abbrev S2x16384x1024 : Shape := ⟨3, ![2, 16384, 1024]⟩
abbrev S32x16x1024 : Shape := ⟨3, ![32, 16, 1024]⟩
abbrev S32768x512 : Shape := ⟨2, ![32768, 512]⟩
abbrev S512x512 : Shape := ⟨2, ![512, 512]⟩
abbrev S33280x1024 : Shape := ⟨2, ![33280, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S32768x1024 : Shape := ⟨2, ![32768, 1024]⟩
abbrev S512x1024 : Shape := ⟨2, ![512, 1024]⟩
abbrev S_ : Shape := ⟨0, ![]⟩
abbrev S1024x128 : Shape := ⟨2, ![1024, 128]⟩
abbrev S1024x4 : Shape := ⟨2, ![1024, 4]⟩
abbrev S1 : Shape := ⟨1, ![1]⟩
abbrev S1024x32 : Shape := ⟨2, ![1024, 32]⟩
abbrev S1x128 : Shape := ⟨2, ![1, 128]⟩
abbrev S4 : Shape := ⟨1, ![4]⟩
abbrev S2 : Shape := ⟨1, ![2]⟩
abbrev S32 : Shape := ⟨1, ![32]⟩
abbrev S1024x1024 : Shape := ⟨2, ![1024, 1024]⟩
abbrev S1024 : Shape := ⟨1, ![1024]⟩
abbrev S33280x128 : Shape := ⟨2, ![33280, 128]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 58
  | .vmem => 29
  | .smem => 0
  | _ => 0

abbrev bufTy : (tb : Table) → Fin (tcTables nBuf tb) → BufTy
  | .hbm, ⟨0, _⟩ => ⟨S2x16384x1024, .f32⟩
  | .hbm, ⟨1, _⟩ => ⟨S32x16x1024, .f32⟩
  | .hbm, ⟨2, _⟩ => ⟨S32768x512, .bf16⟩
  | .hbm, ⟨3, _⟩ => ⟨S512x512, .bf16⟩
  | .hbm, ⟨4, _⟩ => ⟨S32768x512, .bf16⟩
  | .hbm, ⟨5, _⟩ => ⟨S512x512, .bf16⟩
  | .hbm, ⟨6, _⟩ => ⟨S33280x1024, .bf16⟩
  | .hbm, ⟨7, _⟩ => ⟨S33280x1024, .bf16⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1x1024x4, .f32⟩
  | .hbm, ⟨13, _⟩ => ⟨S1x4, .f32⟩
  | .hbm, ⟨14, _⟩ => ⟨S1x1024x32, .f32⟩
  | .hbm, ⟨15, _⟩ => ⟨S1x32, .f32⟩
  | .hbm, ⟨16, _⟩ => ⟨S32768x1024, .f32⟩
  | .hbm, ⟨17, _⟩ => ⟨S512x1024, .f32⟩
  | .hbm, ⟨18, _⟩ => ⟨S_, .f32⟩
  | .hbm, ⟨19, _⟩ => ⟨S1024x128, .f32⟩
  | .hbm, ⟨20, _⟩ => ⟨S1024x4, .f32⟩
  | .hbm, ⟨21, _⟩ => ⟨S_, .i32⟩
  | .hbm, ⟨22, _⟩ => ⟨S1, .i32⟩
  | .hbm, ⟨23, _⟩ => ⟨S1024x128, .f32⟩
  | .hbm, ⟨24, _⟩ => ⟨S1024x32, .f32⟩
  | .hbm, ⟨25, _⟩ => ⟨S_, .i32⟩
  | .hbm, ⟨26, _⟩ => ⟨S1, .i32⟩
  | .hbm, ⟨27, _⟩ => ⟨S1024x128, .f32⟩
  | .hbm, ⟨28, _⟩ => ⟨S1024x128, .bf16⟩
  | .hbm, ⟨29, _⟩ => ⟨S_, .f32⟩
  | .hbm, ⟨30, _⟩ => ⟨S1x128, .f32⟩
  | .hbm, ⟨31, _⟩ => ⟨S4, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x128, .f32⟩
  | .hbm, ⟨38, _⟩ => ⟨S32, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S1x128, .f32⟩
  | .hbm, ⟨45, _⟩ => ⟨S512x1024, .f32⟩
  | .hbm, ⟨46, _⟩ => ⟨S512x1024, .bf16⟩
  | .hbm, ⟨47, _⟩ => ⟨S512x1024, .f32⟩
  | .hbm, ⟨48, _⟩ => ⟨S512x1024, .bf16⟩
  | .hbm, ⟨49, _⟩ => ⟨S1024x1024, .f32⟩
  | .hbm, ⟨50, _⟩ => ⟨S1024x1024, .bf16⟩
  | .hbm, ⟨51, _⟩ => ⟨S1024, .f32⟩
  | .hbm, ⟨52, _⟩ => ⟨S1x1024, .f32⟩
  | .hbm, ⟨53, _⟩ => ⟨S33280x1024, .f32⟩
  | .hbm, ⟨54, _⟩ => ⟨S33280x1024, .f32⟩
  | .hbm, ⟨55, _⟩ => ⟨S33280x128, .i32⟩
  | .hbm, ⟨56, _⟩ => ⟨S33280x128, .f32⟩
  | .hbm, ⟨57, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x128, .bf16⟩
  | .local _ .vmem, ⟨18, _⟩ => ⟨S1x128, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x128, .i32⟩
  | .local _ .vmem, ⟨24, _⟩ => ⟨S512x128, .i32⟩
  | .local _ .vmem, ⟨25, _⟩ => ⟨S512x128, .f32⟩
  | .local _ .vmem, ⟨26, _⟩ => ⟨S512x128, .f32⟩
  | .local _ .vmem, ⟨27, _⟩ => ⟨S1x128, .f32⟩
  | .local _ .vmem, ⟨28, _⟩ => ⟨S1x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_c_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_c_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v29_2 : Ref sig .tc := ⟨.hbm, 55, rfl⟩
abbrev main_v29_3 : Ref sig .tc := ⟨.hbm, 56, rfl⟩
abbrev main_v29_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MergeReferenceIdeal.lean ====
abbrev S2x16384x1024 : Shape := ⟨3, ![2, 16384, 1024]⟩
abbrev S32x16x1024 : Shape := ⟨3, ![32, 16, 1024]⟩
abbrev S32768x512 : Shape := ⟨2, ![32768, 512]⟩
abbrev S512x512 : Shape := ⟨2, ![512, 512]⟩
abbrev S33280x1024 : Shape := ⟨2, ![33280, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S32768x1024 : Shape := ⟨2, ![32768, 1024]⟩
abbrev S512x1024 : Shape := ⟨2, ![512, 1024]⟩
abbrev S33280x512 : Shape := ⟨2, ![33280, 512]⟩
abbrev S_ : Shape := ⟨0, ![]⟩
abbrev S1024x1024 : Shape := ⟨2, ![1024, 1024]⟩
abbrev S1024 : Shape := ⟨1, ![1024]⟩
abbrev S33280 : Shape := ⟨1, ![33280]⟩
abbrev S33280x1 : Shape := ⟨2, ![33280, 1]⟩

abbrev nBuf : Space → Nat
  | .hbm => 70
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32x16x1024, .f32⟩
  | .hbm, ⟨2, _⟩ => ⟨S32768x512, .bf16⟩
  | .hbm, ⟨3, _⟩ => ⟨S512x512, .bf16⟩
  | .hbm, ⟨4, _⟩ => ⟨S32768x512, .bf16⟩
  | .hbm, ⟨5, _⟩ => ⟨S512x512, .bf16⟩
  | .hbm, ⟨6, _⟩ => ⟨S33280x1024, .bf16⟩
  | .hbm, ⟨7, _⟩ => ⟨S33280x1024, .bf16⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1x1024x4, .f32⟩
  | .hbm, ⟨13, _⟩ => ⟨S1x4, .f32⟩
  | .hbm, ⟨14, _⟩ => ⟨S1x1024x32, .f32⟩
  | .hbm, ⟨15, _⟩ => ⟨S1x32, .f32⟩
  | .hbm, ⟨16, _⟩ => ⟨S32768x1024, .f32⟩
  | .hbm, ⟨17, _⟩ => ⟨S512x1024, .f32⟩
  | .hbm, ⟨18, _⟩ => ⟨S33280x1024, .f32⟩
  | .hbm, ⟨19, _⟩ => ⟨S32768x512, .f32⟩
  | .hbm, ⟨20, _⟩ => ⟨S512x512, .f32⟩
  | .hbm, ⟨21, _⟩ => ⟨S33280x512, .f32⟩
  | .hbm, ⟨22, _⟩ => ⟨S32768x512, .f32⟩
  | .hbm, ⟨23, _⟩ => ⟨S512x512, .f32⟩
  | .hbm, ⟨24, _⟩ => ⟨S33280x512, .f32⟩
  | .hbm, ⟨25, _⟩ => ⟨S512x1024, .f32⟩
  | .hbm, ⟨26, _⟩ => ⟨S33280x1024, .f32⟩
  | .hbm, ⟨27, _⟩ => ⟨S512x1024, .f32⟩
  | .hbm, ⟨28, _⟩ => ⟨S33280x1024, .f32⟩
  | .hbm, ⟨29, _⟩ => ⟨S33280x1024, .f32⟩
  | .hbm, ⟨30, _⟩ => ⟨S33280x1024, .f32⟩
  | .hbm, ⟨31, _⟩ => ⟨S33280x1024, .f32⟩
  | .hbm, ⟨32, _⟩ => ⟨S_, .f32⟩
  | .hbm, ⟨33, _⟩ => ⟨S33280x1024, .f32⟩
  | .hbm, ⟨34, _⟩ => ⟨S33280x1024, .f32⟩
  | .hbm, ⟨35, _⟩ => ⟨S_, .f32⟩
  | .hbm, ⟨36, _⟩ => ⟨S33280x1024, .f32⟩
  | .hbm, ⟨37, _⟩ => ⟨S33280x1024, .f32⟩
  | .hbm, ⟨38, _⟩ => ⟨S33280x1024, .f32⟩
  | .hbm, ⟨39, _⟩ => ⟨S33280x1024, .f32⟩
  | .hbm, ⟨40, _⟩ => ⟨S33280x1024, .f32⟩
  | .hbm, ⟨41, _⟩ => ⟨S33280x1024, .f32⟩
  | .hbm, ⟨42, _⟩ => ⟨S_, .f32⟩
  | .hbm, ⟨43, _⟩ => ⟨S33280x1024, .f32⟩
  | .hbm, ⟨44, _⟩ => ⟨S33280x1024, .f32⟩
  | .hbm, ⟨45, _⟩ => ⟨S_, .f32⟩
  | .hbm, ⟨46, _⟩ => ⟨S33280x1024, .f32⟩
  | .hbm, ⟨47, _⟩ => ⟨S33280x1024, .f32⟩
  | .hbm, ⟨48, _⟩ => ⟨S33280x1024, .f32⟩
  | .hbm, ⟨49, _⟩ => ⟨S33280x1024, .f32⟩
  | .hbm, ⟨50, _⟩ => ⟨S1024x1024, .f32⟩
  | .hbm, ⟨51, _⟩ => ⟨S33280x1024, .f32⟩
  | .hbm, ⟨52, _⟩ => ⟨S33280x1024, .f32⟩
  | .hbm, ⟨53, _⟩ => ⟨S1024, .f32⟩
  | .hbm, ⟨54, _⟩ => ⟨S33280x1024, .f32⟩
  | .hbm, ⟨55, _⟩ => ⟨S_, .f32⟩
  | .hbm, ⟨56, _⟩ => ⟨S33280, .f32⟩
  | .hbm, ⟨57, _⟩ => ⟨S33280x1, .f32⟩
  | .hbm, ⟨58, _⟩ => ⟨S_, .f32⟩
  | .hbm, ⟨59, _⟩ => ⟨S33280x1, .f32⟩
  | .hbm, ⟨60, _⟩ => ⟨S33280x1, .f32⟩
  | .hbm, ⟨61, _⟩ => ⟨S_, .f32⟩
  | .hbm, ⟨62, _⟩ => ⟨S33280x1, .f32⟩
  | .hbm, ⟨63, _⟩ => ⟨S33280x1, .f32⟩
  | .hbm, ⟨64, _⟩ => ⟨S33280x1, .f32⟩
  | .hbm, ⟨65, _⟩ => ⟨S33280x1024, .f32⟩
  | .hbm, ⟨66, _⟩ => ⟨S33280x1024, .f32⟩
  | .hbm, ⟨67, _⟩ => ⟨S1x1024, .f32⟩
  | .hbm, ⟨68, _⟩ => ⟨S33280x1024, .f32⟩
  | .hbm, ⟨69, _⟩ => ⟨S33280x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== SampleKernel.lean ====
abbrev S33280x512 : Shape := ⟨2, ![33280, 512]⟩
abbrev S33280x1024 : Shape := ⟨2, ![33280, 1024]⟩
abbrev S1x32x576x8x64 : Shape := ⟨5, ![1, 32, 576, 8, 64]⟩
abbrev S1x8x513 : Shape := ⟨3, ![1, 8, 513]⟩
abbrev S32x576x8x64 : Shape := ⟨4, ![32, 576, 8, 64]⟩
abbrev S32x576x512 : Shape := ⟨3, ![32, 576, 512]⟩
abbrev S8x513 : Shape := ⟨2, ![8, 513]⟩
abbrev S16 : Shape := ⟨1, ![16]⟩
abbrev S16x1 : Shape := ⟨2, ![16, 1]⟩
abbrev S592 : Shape := ⟨1, ![592]⟩
abbrev S1x592 : Shape := ⟨2, ![1, 592]⟩
abbrev S_ : Shape := ⟨0, ![]⟩
abbrev S16x592 : Shape := ⟨2, ![16, 592]⟩
abbrev S16x592x1 : Shape := ⟨3, ![16, 592, 1]⟩
abbrev S8x16x592 : Shape := ⟨3, ![8, 16, 592]⟩
abbrev S1x1x592 : Shape := ⟨3, ![1, 1, 592]⟩
abbrev S128x592 : Shape := ⟨2, ![128, 592]⟩
abbrev S512x512 : Shape := ⟨2, ![512, 512]⟩
abbrev S16x512 : Shape := ⟨2, ![16, 512]⟩
abbrev S16x1024 : Shape := ⟨2, ![16, 1024]⟩
abbrev S1x576x512 : Shape := ⟨3, ![1, 576, 512]⟩
abbrev S576x512 : Shape := ⟨2, ![576, 512]⟩
abbrev S592x512 : Shape := ⟨2, ![592, 512]⟩
abbrev S1x512 : Shape := ⟨2, ![1, 512]⟩
abbrev S128x512 : Shape := ⟨2, ![128, 512]⟩
abbrev S128 : Shape := ⟨1, ![128]⟩
abbrev S128x1 : Shape := ⟨2, ![128, 1]⟩
abbrev S560x512 : Shape := ⟨2, ![560, 512]⟩
abbrev S1x560x512 : Shape := ⟨3, ![1, 560, 512]⟩
abbrev S1x16x512 : Shape := ⟨3, ![1, 16, 512]⟩

abbrev nBuf : Space → Nat
  | .hbm => 55
  | .vmem => 19
  | .smem => 0
  | _ => 0

abbrev bufTy : (tb : Table) → Fin (tcTables nBuf tb) → BufTy
  | .hbm, ⟨0, _⟩ => ⟨S33280x512, .bf16⟩
  | .hbm, ⟨1, _⟩ => ⟨S33280x512, .bf16⟩
  | .hbm, ⟨2, _⟩ => ⟨S33280x512, .bf16⟩
  | .hbm, ⟨3, _⟩ => ⟨S33280x1024, .f32⟩
  | .hbm, ⟨4, _⟩ => ⟨S1x32x576x8x64, .f32⟩
  | .hbm, ⟨5, _⟩ => ⟨S1x32x576x8x64, .f32⟩
  | .hbm, ⟨6, _⟩ => ⟨S1x8x513, .f32⟩
  | .hbm, ⟨7, _⟩ => ⟨S32x576x8x64, .f32⟩
  | .hbm, ⟨8, _⟩ => ⟨S32x576x512, .f32⟩
  | .hbm, ⟨9, _⟩ => ⟨S32x576x8x64, .f32⟩
  | .hbm, ⟨10, _⟩ => ⟨S32x576x512, .f32⟩
  | .hbm, ⟨11, _⟩ => ⟨S8x513, .f32⟩
  | .hbm, ⟨12, _⟩ => ⟨S16, .i32⟩
  | .hbm, ⟨13, _⟩ => ⟨S16x1, .i32⟩
  | .hbm, ⟨14, _⟩ => ⟨S592, .i32⟩
  | .hbm, ⟨15, _⟩ => ⟨S1x592, .i32⟩
  | .hbm, ⟨16, _⟩ => ⟨S_, .i32⟩
  | .hbm, ⟨17, _⟩ => ⟨S16x1, .i32⟩
  | .hbm, ⟨18, _⟩ => ⟨S16x1, .i32⟩
  | .hbm, ⟨19, _⟩ => ⟨S16x592, .i32⟩
  | .hbm, ⟨20, _⟩ => ⟨S16x592, .i32⟩
  | .hbm, ⟨21, _⟩ => ⟨S16x592, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S16x592, .i32⟩
  | .hbm, ⟨26, _⟩ => ⟨S16x592, .i32⟩
  | .hbm, ⟨27, _⟩ => ⟨S_, .i32⟩
  | .hbm, ⟨28, _⟩ => ⟨S16x592, .i32⟩
  | .hbm, ⟨29, _⟩ => ⟨S16x592, .i32⟩
  | .hbm, ⟨30, _⟩ => ⟨S_, .i32⟩
  | .hbm, ⟨31, _⟩ => ⟨S16x592, .i32⟩
  | .hbm, ⟨32, _⟩ => ⟨S16x592, .i32⟩
  | .hbm, ⟨33, _⟩ => ⟨S_, .i32⟩
  | .hbm, ⟨34, _⟩ => ⟨S16x592, .i32⟩
  | .hbm, ⟨35, _⟩ => ⟨S16x592, .i1⟩
  | .hbm, ⟨36, _⟩ => ⟨S_, .i32⟩
  | .hbm, ⟨37, _⟩ => ⟨S16x592, .i32⟩
  | .hbm, ⟨38, _⟩ => ⟨S16x592, .i32⟩
  | .hbm, ⟨39, _⟩ => ⟨S16x592, .i32⟩
  | .hbm, ⟨40, _⟩ => ⟨S16x592x1, .i32⟩
  | .hbm, ⟨41, _⟩ => ⟨S8x16x592, .f32⟩
  | .hbm, ⟨42, _⟩ => ⟨S_, .i32⟩
  | .hbm, ⟨43, _⟩ => ⟨S1x592, .i32⟩
  | .hbm, ⟨44, _⟩ => ⟨S1x592, .i1⟩
  | .hbm, ⟨45, _⟩ => ⟨S1x1x592, .i1⟩
  | .hbm, ⟨46, _⟩ => ⟨S_, .f32⟩
  | .hbm, ⟨47, _⟩ => ⟨S_, .f32⟩
  | .hbm, ⟨48, _⟩ => ⟨S8x16x592, .i1⟩
  | .hbm, ⟨49, _⟩ => ⟨S8x16x592, .f32⟩
  | .hbm, ⟨50, _⟩ => ⟨S8x16x592, .f32⟩
  | .hbm, ⟨51, _⟩ => ⟨S128x592, .f32⟩
  | .hbm, ⟨52, _⟩ => ⟨S512x512, .bf16⟩
  | .hbm, ⟨53, _⟩ => ⟨S32x576x512, .f32⟩
  | .hbm, ⟨54, _⟩ => ⟨S32x576x512, .f32⟩
  | .local _ .vmem, ⟨0, _⟩ => ⟨S16x512, .bf16⟩
  | .local _ .vmem, ⟨1, _⟩ => ⟨S16x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S16x1024, .f32⟩
  | .local _ .vmem, ⟨7, _⟩ => ⟨S16x1024, .f32⟩
  | .local _ .vmem, ⟨8, _⟩ => ⟨S1x576x512, .f32⟩
  | .local _ .vmem, ⟨9, _⟩ => ⟨S1x576x512, .f32⟩
  | .local _ .vmem, ⟨10, _⟩ => ⟨S1x576x512, .f32⟩
  | .local _ .vmem, ⟨11, _⟩ => ⟨S1x576x512, .f32⟩
  | .local _ .vmem, ⟨12, _⟩ => ⟨S128x592, .f32⟩
  | .local _ .vmem, ⟨13, _⟩ => ⟨S16x512, .bf16⟩
  | .local _ .vmem, ⟨14, _⟩ => ⟨S16x512, .bf16⟩
  | .local _ .vmem, ⟨15, _⟩ => ⟨S1x576x512, .f32⟩
  | .local _ .vmem, ⟨16, _⟩ => ⟨S1x576x512, .f32⟩
  | .local _ .vmem, ⟨17, _⟩ => ⟨S1x576x512, .f32⟩
  | .local _ .vmem, ⟨18, _⟩ => ⟨S1x576x512, .f32⟩
  | _, _ => ⟨S33280x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_v29_0 : Ref sig .tc := ⟨.hbm, 52, rfl⟩
abbrev main_v29_1 : Ref sig .tc := ⟨.hbm, 53, rfl⟩
abbrev main_v29_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2048_i32 : BitVec 32 := 2048#32
  let v0 : BitVec 32 := Scalar.addi c2048_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2048_i32 : BitVec 32 := 2048#32
  let v0 : BitVec 32 := Scalar.addi c2048_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2048_i32 : BitVec 32 := 2048#32
  let v0 : BitVec 32 := Scalar.addi c2048_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2048_i32 : BitVec 32 := 2048#32
  let v0 : BitVec 32 := Scalar.addi c2048_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x576x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x576x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x592 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x576x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x576x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SampleReferenceIdeal.lean ====
abbrev S33280x512 : Shape := ⟨2, ![33280, 512]⟩
abbrev S33280x1024 : Shape := ⟨2, ![33280, 1024]⟩
abbrev S1x32x576x8x64 : Shape := ⟨5, ![1, 32, 576, 8, 64]⟩
abbrev S1x8x513 : Shape := ⟨3, ![1, 8, 513]⟩
abbrev S512x512 : Shape := ⟨2, ![512, 512]⟩
abbrev S32x16x8x64 : Shape := ⟨4, ![32, 16, 8, 64]⟩
abbrev S32x576x8x64 : Shape := ⟨4, ![32, 576, 8, 64]⟩
abbrev S32x592x8x64 : Shape := ⟨4, ![32, 592, 8, 64]⟩
abbrev S16 : Shape := ⟨1, ![16]⟩
abbrev S16x1 : Shape := ⟨2, ![16, 1]⟩
abbrev S592 : Shape := ⟨1, ![592]⟩
abbrev S1x592 : Shape := ⟨2, ![1, 592]⟩
abbrev S8x513 : Shape := ⟨2, ![8, 513]⟩
abbrev S_ : Shape := ⟨0, ![]⟩
abbrev S16x592 : Shape := ⟨2, ![16, 592]⟩
abbrev S16x592x1 : Shape := ⟨3, ![16, 592, 1]⟩
abbrev S8x16x592 : Shape := ⟨3, ![8, 16, 592]⟩
abbrev S32x8x16x592 : Shape := ⟨4, ![32, 8, 16, 592]⟩
abbrev S1x8x16x592 : Shape := ⟨4, ![1, 8, 16, 592]⟩
abbrev S32x8x16 : Shape := ⟨3, ![32, 8, 16]⟩
abbrev S32x8x16x1 : Shape := ⟨4, ![32, 8, 16, 1]⟩
abbrev S32x8x64x16 : Shape := ⟨4, ![32, 8, 64, 16]⟩
abbrev S32x576x512 : Shape := ⟨3, ![32, 576, 512]⟩

abbrev nBuf : Space → Nat
  | .hbm => 95
  | .vmem => 0
  | .smem => 0
  | _ => 0

abbrev bufTy : (tb : Table) → Fin (tcTables nBuf tb) → BufTy
  | .hbm, ⟨0, _⟩ => ⟨S33280x512, .bf16⟩
  | .hbm, ⟨1, _⟩ => ⟨S33280x512, .bf16⟩
  | .hbm, ⟨2, _⟩ => ⟨S33280x512, .bf16⟩
  | .hbm, ⟨3, _⟩ => ⟨S33280x1024, .f32⟩
  | .hbm, ⟨4, _⟩ => ⟨S1x32x576x8x64, .f32⟩
  | .hbm, ⟨5, _⟩ => ⟨S1x32x576x8x64, .f32⟩
  | .hbm, ⟨6, _⟩ => ⟨S1x8x513, .f32⟩
  | .hbm, ⟨7, _⟩ => ⟨S512x512, .bf16⟩
  | .hbm, ⟨8, _⟩ => ⟨S512x512, .f32⟩
  | .hbm, ⟨9, _⟩ => ⟨S32x16x8x64, .f32⟩
  | .hbm, ⟨10, _⟩ => ⟨S32x576x8x64, .f32⟩
  | .hbm, ⟨11, _⟩ => ⟨S512x512, .bf16⟩
  | .hbm, ⟨12, _⟩ => ⟨S512x512, .f32⟩
  | .hbm, ⟨13, _⟩ => ⟨S32x16x8x64, .f32⟩
  | .hbm, ⟨14, _⟩ => ⟨S32x592x8x64, .f32⟩
  | .hbm, ⟨15, _⟩ => ⟨S32x576x8x64, .f32⟩
  | .hbm, ⟨16, _⟩ => ⟨S512x512, .bf16⟩
  | .hbm, ⟨17, _⟩ => ⟨S512x512, .f32⟩
  | .hbm, ⟨18, _⟩ => ⟨S32x16x8x64, .f32⟩
  | .hbm, ⟨19, _⟩ => ⟨S32x592x8x64, .f32⟩
  | .hbm, ⟨20, _⟩ => ⟨S16, .i32⟩
  | .hbm, ⟨21, _⟩ => ⟨S16x1, .i32⟩
  | .hbm, ⟨22, _⟩ => ⟨S592, .i32⟩
  | .hbm, ⟨23, _⟩ => ⟨S1x592, .i32⟩
  | .hbm, ⟨24, _⟩ => ⟨S8x513, .f32⟩
  | .hbm, ⟨25, _⟩ => ⟨S_, .i32⟩
  | .hbm, ⟨26, _⟩ => ⟨S16x1, .i32⟩
  | .hbm, ⟨27, _⟩ => ⟨S16x1, .i32⟩
  | .hbm, ⟨28, _⟩ => ⟨S16x592, .i32⟩
  | .hbm, ⟨29, _⟩ => ⟨S16x592, .i32⟩
  | .hbm, ⟨30, _⟩ => ⟨S16x592, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S16x592, .i32⟩
  | .hbm, ⟨35, _⟩ => ⟨S16x592, .i32⟩
  | .hbm, ⟨36, _⟩ => ⟨S_, .i32⟩
  | .hbm, ⟨37, _⟩ => ⟨S16x592, .i32⟩
  | .hbm, ⟨38, _⟩ => ⟨S16x592, .i32⟩
  | .hbm, ⟨39, _⟩ => ⟨S_, .i32⟩
  | .hbm, ⟨40, _⟩ => ⟨S16x592, .i32⟩
  | .hbm, ⟨41, _⟩ => ⟨S16x592, .i32⟩
  | .hbm, ⟨42, _⟩ => ⟨S_, .i32⟩
  | .hbm, ⟨43, _⟩ => ⟨S16x592, .i32⟩
  | .hbm, ⟨44, _⟩ => ⟨S16x592, .i1⟩
  | .hbm, ⟨45, _⟩ => ⟨S_, .i32⟩
  | .hbm, ⟨46, _⟩ => ⟨S16x592, .i32⟩
  | .hbm, ⟨47, _⟩ => ⟨S16x592, .i32⟩
  | .hbm, ⟨48, _⟩ => ⟨S16x592, .i32⟩
  | .hbm, ⟨49, _⟩ => ⟨S16x592x1, .i32⟩
  | .hbm, ⟨50, _⟩ => ⟨S8x16x592, .f32⟩
  | .hbm, ⟨51, _⟩ => ⟨S_, .i32⟩
  | .hbm, ⟨52, _⟩ => ⟨S1x592, .i32⟩
  | .hbm, ⟨53, _⟩ => ⟨S1x592, .i1⟩
  | .hbm, ⟨54, _⟩ => ⟨S32x8x16x592, .f32⟩
  | .hbm, ⟨55, _⟩ => ⟨S1x8x16x592, .f32⟩
  | .hbm, ⟨56, _⟩ => ⟨S32x8x16x592, .f32⟩
  | .hbm, ⟨57, _⟩ => ⟨S32x8x16x592, .f32⟩
  | .hbm, ⟨58, _⟩ => ⟨S_, .f32⟩
  | .hbm, ⟨59, _⟩ => ⟨S_, .f32⟩
  | .hbm, ⟨60, _⟩ => ⟨S32x8x16x592, .i1⟩
  | .hbm, ⟨61, _⟩ => ⟨S32x8x16x592, .f32⟩
  | .hbm, ⟨62, _⟩ => ⟨S32x8x16x592, .f32⟩
  | .hbm, ⟨63, _⟩ => ⟨S_, .f32⟩
  | .hbm, ⟨64, _⟩ => ⟨S32x8x16, .f32⟩
  | .hbm, ⟨65, _⟩ => ⟨S_, .f32⟩
  | .hbm, ⟨66, _⟩ => ⟨S32x8x16, .f32⟩
  | .hbm, ⟨67, _⟩ => ⟨S32x8x16, .f32⟩
  | .hbm, ⟨68, _⟩ => ⟨S32x8x16x1, .f32⟩
  | .hbm, ⟨69, _⟩ => ⟨S32x8x16x592, .f32⟩
  | .hbm, ⟨70, _⟩ => ⟨S32x8x16x592, .f32⟩
  | .hbm, ⟨71, _⟩ => ⟨S32x8x16x592, .f32⟩
  | .hbm, ⟨72, _⟩ => ⟨S_, .f32⟩
  | .hbm, ⟨73, _⟩ => ⟨S32x8x16, .f32⟩
  | .hbm, ⟨74, _⟩ => ⟨S32x8x16x1, .f32⟩
  | .hbm, ⟨75, _⟩ => ⟨S32x8x16x592, .f32⟩
  | .hbm, ⟨76, _⟩ => ⟨S32x8x16x592, .f32⟩
  | .hbm, ⟨77, _⟩ => ⟨S32x8x64x16, .f32⟩
  | .hbm, ⟨78, _⟩ => ⟨S32x16x8x64, .f32⟩
  | .hbm, ⟨79, _⟩ => ⟨S32x576x8x64, .f32⟩
  | .hbm, ⟨80, _⟩ => ⟨S33280x512, .f32⟩
  | .hbm, ⟨81, _⟩ => ⟨S512x512, .f32⟩
  | .hbm, ⟨82, _⟩ => ⟨S32x16x8x64, .f32⟩
  | .hbm, ⟨83, _⟩ => ⟨S32x592x8x64, .f32⟩
  | .hbm, ⟨84, _⟩ => ⟨S32x576x8x64, .f32⟩
  | .hbm, ⟨85, _⟩ => ⟨S32x576x8x64, .f32⟩
  | .hbm, ⟨86, _⟩ => ⟨S33280x512, .f32⟩
  | .hbm, ⟨87, _⟩ => ⟨S512x512, .f32⟩
  | .hbm, ⟨88, _⟩ => ⟨S32x16x8x64, .f32⟩
  | .hbm, ⟨89, _⟩ => ⟨S32x592x8x64, .f32⟩
  | .hbm, ⟨90, _⟩ => ⟨S32x576x8x64, .f32⟩
  | .hbm, ⟨91, _⟩ => ⟨S512x512, .f32⟩
  | .hbm, ⟨92, _⟩ => ⟨S512x512, .bf16⟩
  | .hbm, ⟨93, _⟩ => ⟨S32x576x512, .f32⟩
  | .hbm, ⟨94, _⟩ => ⟨S32x576x512, .f32⟩
  | _, _ => ⟨S33280x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_0 : Ref sig .tc := ⟨.hbm, 31, rfl⟩
abbrev main_c_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v23 : Ref sig .tc := ⟨.hbm, 38, rfl⟩
abbrev main_c_2 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== ExpertsKernel.lean ====
abbrev S292 : Shape := ⟨1, ![292]⟩
abbrev S1 : Shape := ⟨1, ![1]⟩
abbrev S74752x1024 : Shape := ⟨2, ![74752, 1024]⟩
abbrev S32x1024x512 : Shape := ⟨3, ![32, 1024, 512]⟩
abbrev S32x512x1024 : Shape := ⟨3, ![32, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 5
  | .vmem => 10
  | .smem => 2
  | _ => 0

abbrev bufTy : (tb : Table) → Fin (tcTables nBuf tb) → BufTy
  | .hbm, ⟨0, _⟩ => ⟨S74752x1024, .f32⟩
  | .hbm, ⟨1, _⟩ => ⟨S32x1024x512, .bf16⟩
  | .hbm, ⟨2, _⟩ => ⟨S32x1024x512, .bf16⟩
  | .hbm, ⟨3, _⟩ => ⟨S32x512x1024, .bf16⟩
  | .hbm, ⟨4, _⟩ => ⟨S74752x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S256x1024, .f32⟩
  | .local _ .vmem, ⟨9, _⟩ => ⟨S256x1024, .f32⟩
  | .local _ .smem, ⟨0, _⟩ => ⟨S292, .i32⟩
  | .local _ .smem, ⟨1, _⟩ => ⟨S1, .i32⟩
  | _, _ => ⟨S74752x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![292], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S292 : Shape := ⟨1, ![292]⟩
abbrev S1 : Shape := ⟨1, ![1]⟩
abbrev S74752x1024 : Shape := ⟨2, ![74752, 1024]⟩
abbrev S32x1024x512 : Shape := ⟨3, ![32, 1024, 512]⟩
abbrev S32x512x1024 : Shape := ⟨3, ![32, 512, 1024]⟩
abbrev S292x256x1024 : Shape := ⟨3, ![292, 256, 1024]⟩
abbrev S_ : Shape := ⟨0, ![]⟩
abbrev S292x1 : Shape := ⟨2, ![292, 1]⟩
abbrev S292x1024x512 : Shape := ⟨3, ![292, 1024, 512]⟩
abbrev S292x256x512 : Shape := ⟨3, ![292, 256, 512]⟩
abbrev S292x512x1024 : Shape := ⟨3, ![292, 512, 1024]⟩
abbrev S292x1x1 : Shape := ⟨3, ![292, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S292, .i32⟩
  | .hbm, ⟨1, _⟩ => ⟨S1, .i32⟩
  | .hbm, ⟨2, _⟩ => ⟨S74752x1024, .f32⟩
  | .hbm, ⟨3, _⟩ => ⟨S32x1024x512, .bf16⟩
  | .hbm, ⟨4, _⟩ => ⟨S32x1024x512, .bf16⟩
  | .hbm, ⟨5, _⟩ => ⟨S32x512x1024, .bf16⟩
  | .hbm, ⟨6, _⟩ => ⟨S292x256x1024, .f32⟩
  | .hbm, ⟨7, _⟩ => ⟨S32x1024x512, .f32⟩
  | .hbm, ⟨8, _⟩ => ⟨S_, .i32⟩
  | .hbm, ⟨9, _⟩ => ⟨S292, .i32⟩
  | .hbm, ⟨10, _⟩ => ⟨S292, .i1⟩
  | .hbm, ⟨11, _⟩ => ⟨S_, .i32⟩
  | .hbm, ⟨12, _⟩ => ⟨S292, .i32⟩
  | .hbm, ⟨13, _⟩ => ⟨S292, .i32⟩
  | .hbm, ⟨14, _⟩ => ⟨S292, .i32⟩
  | .hbm, ⟨15, _⟩ => ⟨S292x1, .i32⟩
  | .hbm, ⟨16, _⟩ => ⟨S292x1024x512, .f32⟩
  | .hbm, ⟨17, _⟩ => ⟨S292x256x512, .f32⟩
  | .hbm, ⟨18, _⟩ => ⟨S292x256x512, .f32⟩
  | .hbm, ⟨19, _⟩ => ⟨S292x256x512, .f32⟩
  | .hbm, ⟨20, _⟩ => ⟨S_, .f32⟩
  | .hbm, ⟨21, _⟩ => ⟨S292x256x512, .f32⟩
  | .hbm, ⟨22, _⟩ => ⟨S292x256x512, .f32⟩
  | .hbm, ⟨23, _⟩ => ⟨S_, .f32⟩
  | .hbm, ⟨24, _⟩ => ⟨S292x256x512, .f32⟩
  | .hbm, ⟨25, _⟩ => ⟨S292x256x512, .f32⟩
  | .hbm, ⟨26, _⟩ => ⟨S292x256x512, .f32⟩
  | .hbm, ⟨27, _⟩ => ⟨S32x1024x512, .f32⟩
  | .hbm, ⟨28, _⟩ => ⟨S_, .i32⟩
  | .hbm, ⟨29, _⟩ => ⟨S292, .i32⟩
  | .hbm, ⟨30, _⟩ => ⟨S292, .i1⟩
  | .hbm, ⟨31, _⟩ => ⟨S_, .i32⟩
  | .hbm, ⟨32, _⟩ => ⟨S292, .i32⟩
  | .hbm, ⟨33, _⟩ => ⟨S292, .i32⟩
  | .hbm, ⟨34, _⟩ => ⟨S292, .i32⟩
  | .hbm, ⟨35, _⟩ => ⟨S292x1, .i32⟩
  | .hbm, ⟨36, _⟩ => ⟨S292x1024x512, .f32⟩
  | .hbm, ⟨37, _⟩ => ⟨S292x256x512, .f32⟩
  | .hbm, ⟨38, _⟩ => ⟨S292x256x512, .f32⟩
  | .hbm, ⟨39, _⟩ => ⟨S32x512x1024, .f32⟩
  | .hbm, ⟨40, _⟩ => ⟨S_, .i32⟩
  | .hbm, ⟨41, _⟩ => ⟨S292, .i32⟩
  | .hbm, ⟨42, _⟩ => ⟨S292, .i1⟩
  | .hbm, ⟨43, _⟩ => ⟨S_, .i32⟩
  | .hbm, ⟨44, _⟩ => ⟨S292, .i32⟩
  | .hbm, ⟨45, _⟩ => ⟨S292, .i32⟩
  | .hbm, ⟨46, _⟩ => ⟨S292, .i32⟩
  | .hbm, ⟨47, _⟩ => ⟨S292x1, .i32⟩
  | .hbm, ⟨48, _⟩ => ⟨S292x512x1024, .f32⟩
  | .hbm, ⟨49, _⟩ => ⟨S292x256x1024, .f32⟩
  | .hbm, ⟨50, _⟩ => ⟨S292, .i32⟩
  | .hbm, ⟨51, _⟩ => ⟨S_, .i32⟩
  | .hbm, ⟨52, _⟩ => ⟨S292, .i32⟩
  | .hbm, ⟨53, _⟩ => ⟨S292, .i1⟩
  | .hbm, ⟨54, _⟩ => ⟨S292x1x1, .i1⟩
  | .hbm, ⟨55, _⟩ => ⟨S_, .f32⟩
  | .hbm, ⟨56, _⟩ => ⟨S_, .f32⟩
  | .hbm, ⟨57, _⟩ => ⟨S292x256x1024, .i1⟩
  | .hbm, ⟨58, _⟩ => ⟨S292x256x1024, .f32⟩
  | .hbm, ⟨59, _⟩ => ⟨S292x256x1024, .f32⟩
  | .hbm, ⟨60, _⟩ => ⟨S74752x1024, .f32⟩
  | _, _ => ⟨S292, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== Proof.AttnSoftmax.lean ====
module

public import Idealize.ShloMosaic.Lib.Pointwise

@[expose] public section

noncomputable section
open Idealize.ShloMosaic

namespace Cert.Softmax

/-- The pattern of minus infinity is the least extended real. -/
theorem neg_inf : Ideal.ofBits .f32 0xFF800000#32 = ⊥ := by simp [Ideal.ofBits, Ideal.ieee]

/-- The largest of a row of scores. -/
def top {n : Nat} (s : Fin n → EReal) : EReal := Finset.univ.fold max ⊥ s

/-- The sum of a row's unnormalized weights. -/
def mass {n : Nat} (s : Fin n → EReal) : EReal := ∑ j, Ideal.exp (s j - top s)

/-- The weighted sum, divided by the weights' sum at the end. -/
def late {n : Nat} (s v : Fin n → EReal) : EReal := Ideal.div (∑ j, Ideal.exp (s j - top s) * v j) (mass s)

/-- The weighted sum with each weight divided first. -/
def early {n : Nat} (s v : Fin n → EReal) : EReal := ∑ j, Ideal.div (Ideal.exp (s j - top s)) (mass s) * v j

/-- A row of scores that has a largest real element: none is plus infinity and some is real. -/
def Proper {n : Nat} (s : Fin n → EReal) : Prop := (∀ j, s j ≠ ⊤) ∧ ∃ j, s j ≠ ⊥

variable {n k : Nat}

/-- Each score is at most the largest. -/
theorem le_top (s : Fin n → EReal) (j : Fin n) : s j ≤ top s :=
  (Finset.le_fold_max (s j)).2 (Or.inr ⟨j, Finset.mem_univ j, le_rfl⟩)

/-- A bound of each score bounds the largest. -/
theorem top_le (s : Fin n → EReal) (b : EReal) (h : ∀ j, s j ≤ b) : top s ≤ b :=
  (Finset.fold_max_le b).2 ⟨bot_le, fun j _ => h j⟩

/-- The largest of a proper row is real. -/
theorem top_real (s : Fin n → EReal) (h : Proper s) : ∃ t : ℝ, top s = t := by
  obtain ⟨j, hj⟩ := h.2
  have hb : top s ≠ ⊥ := fun e => hj (le_bot_iff.1 (e ▸ le_top s j))
  have ht : top s < ⊤ := (Finset.fold_max_lt ⊤).2 ⟨bot_lt_top, fun i _ => lt_top_iff_ne_top.2 (h.1 i)⟩
  exact ⟨(top s).toReal, (EReal.coe_toReal ht.ne hb).symm⟩

/-- Each unnormalized weight of a proper row is a nonnegative real. -/
theorem weight_real (s : Fin n → EReal) (h : Proper s) (j : Fin n) :
    ∃ e : ℝ, 0 ≤ e ∧ Ideal.exp (s j - top s) = e := by
  obtain ⟨t, ht⟩ := top_real s h
  rw [ht]
  rcases eq_or_ne (s j) ⊥ with hb | hb
  · exact ⟨0, le_rfl, by rw [hb]; simp [sub_eq_add_neg]⟩
  · refine ⟨Real.exp ((s j).toReal - t), (Real.exp_pos _).le, ?_⟩
    rw [← EReal.coe_toReal (h.1 j) hb, ← EReal.coe_sub, Ideal.exp_coe, EReal.toReal_coe]

/-- A proper row's weights sum to a positive real. -/
theorem mass_real (s : Fin n → EReal) (h : Proper s) : ∃ r : ℝ, 0 < r ∧ mass s = r := by
  choose e he hs using weight_real s h
  obtain ⟨j, hj⟩ := h.2
  refine ⟨∑ j, e j, Finset.sum_pos' (fun i _ => he i) ⟨j, Finset.mem_univ j, ?_⟩, ?_⟩
  · obtain ⟨t, ht⟩ := top_real s h
    have := hs j
    rw [ht, ← EReal.coe_toReal (h.1 j) hj, ← EReal.coe_sub, Ideal.exp_coe, EReal.coe_eq_coe_iff] at this
    rw [← this]; exact Real.exp_pos _
  · unfold mass
    rw [Finset.sum_congr rfl fun i _ => hs i]
    exact (map_sum (⟨⟨Real.toEReal, EReal.coe_zero⟩, EReal.coe_add⟩ : ℝ →+ EReal) e Finset.univ).symm

/-- A nonnegative real factor passes into a sum of extended reals. -/
theorem sum_mul_real (f : Fin n → EReal) (r : ℝ) (hr : 0 ≤ r) : (∑ j, f j) * (r : EReal) = ∑ j, f j * r := by
  refine Finset.induction_on (Finset.univ : Finset (Fin n)) (by simp) fun a t ha ih => ?_
  rw [Finset.sum_insert ha, Finset.sum_insert ha,
    EReal.right_distrib_of_nonneg_of_ne_top (EReal.coe_nonneg.2 hr) (EReal.coe_ne_top r), ih]

/-- Over a proper row, dividing at the end is dividing each weight first. -/
theorem late_eq_early (s v : Fin n → EReal) (h : Proper s) : late s v = early s v := by
  obtain ⟨r, hr, hm⟩ := mass_real s h
  unfold late early
  rw [hm, Ideal.div_coe hr.ne', sum_mul_real _ _ (by positivity)]
  refine Finset.sum_congr rfl fun j _ => ?_
  rw [Ideal.div_coe hr.ne', mul_right_comm]

/-- With every value zero the mean of a proper row is zero. -/
theorem late_zero (s : Fin n → EReal) (h : Proper s) : late s (fun _ => 0) = 0 := by
  obtain ⟨r, hr, hm⟩ := mass_real s h
  unfold late
  rw [hm, Ideal.div_coe hr.ne']
  simp

section Window
variable (ι : Fin k → Fin n) (hι : Function.Injective ι) (s : Fin n → EReal) (s' : Fin k → EReal)
  (hin : ∀ i, s (ι i) = s' i) (hout : ∀ j, (∀ i, ι i ≠ j) → s j = ⊥)
include hι hin hout

/-- A sum whose terms vanish off the window is the sum over the window. -/
theorem sum_window (f : Fin n → EReal) (g : Fin k → EReal) (hf : ∀ i, f (ι i) = g i) (h0 : ∀ j, (∀ i, ι i ≠ j) → f j = 0) :
    ∑ j, f j = ∑ i, g i := by
  rw [← Finset.sum_congr rfl fun i _ => hf i, ← Finset.sum_image (s := Finset.univ) (f := f) fun a _ b _ e => hι e]
  refine (Finset.sum_subset (Finset.subset_univ _) fun j _ hj => h0 j fun i e => hj ?_).symm
  exact Finset.mem_image.2 ⟨i, Finset.mem_univ i, e⟩

/-- The largest of a row is the largest of its window. -/
theorem top_window : top s = top s' := by
  refine le_antisymm (top_le _ _ fun j => ?_) (top_le _ _ fun i => (hin i) ▸ le_top s (ι i))
  by_cases hj : ∃ i, ι i = j
  · obtain ⟨i, rfl⟩ := hj
    rw [hin]; exact le_top s' i
  · rw [hout j fun i e => hj ⟨i, e⟩]; exact bot_le

/-- A row's weights sum to its window's. -/
theorem mass_window : mass s = mass s' := by
  unfold mass
  rw [top_window ι hι s s' hin hout]
  exact sum_window ι hι s s' hin hout _ _ (fun i => by rw [hin]) fun j hj => by rw [hout j hj]; simp [sub_eq_add_neg]

/-- The mean over a row is the mean over its window: off the window the scores are minus infinity, and where a
    score of the window is minus infinity the two values need not agree. -/
theorem early_window (v : Fin n → EReal) (v' : Fin k → EReal) (hv : ∀ i, s' i ≠ ⊥ → v (ι i) = v' i) (h : Proper s') :
    early s v = early s' v' := by
  obtain ⟨r, hr, hm⟩ := mass_real s' h
  unfold early
  rw [mass_window ι hι s s' hin hout, top_window ι hι s s' hin hout, hm]
  refine sum_window ι hι s s' hin hout _ _ (fun i => ?_) fun j hj => ?_
  · rw [hin]
    by_cases hb : s' i = ⊥
    · rw [hb, Ideal.div_coe hr.ne']; simp [sub_eq_add_neg]
    · rw [hv i hb]
  · rw [hout j hj, Ideal.div_coe hr.ne']; simp [sub_eq_add_neg]

/-- A row over a window is proper when the window's row is. -/
theorem proper_window (h : Proper s') : Proper s := by
  refine ⟨fun j => ?_, ?_⟩
  · by_cases hj : ∃ i, ι i = j
    · obtain ⟨i, rfl⟩ := hj
      rw [hin]; exact h.1 i
    · rw [hout j fun i e => hj ⟨i, e⟩]; exact bot_ne_top
  · obtain ⟨i, hi⟩ := h.2
    exact ⟨ι i, by rw [hin]; exact hi⟩

/-- Over a row, dividing at the end is, over its window, dividing each weight first. -/
theorem late_window (v : Fin n → EReal) (v' : Fin k → EReal) (hv : ∀ i, s' i ≠ ⊥ → v (ι i) = v' i) (h : Proper s') :
    late s v = early s' v' :=
  (late_eq_early s v (proper_window ι hι s s' hin hout h)).trans (early_window ι hι s s' hin hout v v' hv h)

end Window

end Cert.Softmax
end
-- ==== Proof.AttnPure.lean ====
module

public import proofs.«01_k».proof.Proof.Gen.AttnKernelIdeal.Skeleton
public import Idealize.ShloMosaic.Lib.Pointwise
public import proofs.«01_k».proof.Proof.AttnSoftmax

@[expose] public section

set_option maxRecDepth 16384
noncomputable section
open Idealize.ShloMosaic Idealize.ShloMosaic.TcCoe Idealize.SL.Sem

namespace Cert.AttnKernelIdeal.Pure
open Cert.AttnKernelIdeal Cert.AttnKernelIdeal.Gen Cert.Softmax

/-- The lanes of a pair of heads that belong to its first head. -/
abbrev lanes0 : IVec S1x128 1 := k0_pay9
/-- The lanes of a pair of heads that belong to its second head. -/
abbrev lanes1 : IVec S1x128 1 := k0_pay13 (iota .tc S1x128 32 [1] iota_S1x128_d1_w32)

/-- The first head's lanes are the first 64. -/
theorem lanes0_apply : ∀ l : Fin 128, lanes0 (ix2 0 l) = if l.val < 64 then 1#1 else 0#1 := by decide +kernel
/-- The second head's lanes are the last 64. -/
theorem lanes1_apply : ∀ l : Fin 128, lanes1 (ix2 0 l) = if l.val < 64 then 0#1 else 1#1 := by decide +kernel

/-- What one head of a pair adds to the pair's accumulator. -/
def head (hm : IVec S1x128 1) (M : FVec Ideal S1x768 .f32) (q : Vec Ideal S256x128 .bf16) (K V : FVec Ideal S768x128 .bf16)
    (B : Vec Ideal S1x256x768 .f32) : FVec Ideal S256x128 .f32 :=
  have s : FVec Ideal S256x768 .f32 := addf (addf (matmul dot_S256x128_S768x128_S256x768_1_1_0_0_n_n none
      (select (broadcastTo S256x128 (shapeCast S1x128 hm shapeCasts_S1x128_S1x128) broadcasts_S1x128_S256x128) q
        (broadcast S256x128 (Scalar.ofBits .bf16 0x0000#16))) K (constant S256x768 .f32 0x00000000#32))
    (shapeCast S256x768 B shapeCasts_S1x256x768_S256x768)) (broadcastTo S256x768 M broadcasts_S1x768_S256x768)
  have e : FVec Ideal S256x768 .f32 := exp (subf s (broadcastTo S256x768 (shapeCast S256x1
      (multiReduction .maximumf [1] S256 s 0xFF800000#32 reduces_S256x768_S256 (.inl rfl) rfl) shapeCasts_S256_S256x1) broadcasts_S256x1_S256x768))
  divf (matmul dot_S256x768_S768x128_S256x128_1_0_0_1_n_n none (truncf .bf16 e bitsLt_bf16_f32)
      (select (broadcastTo S768x128 (shapeCast S1x128 hm shapeCasts_S1x128_S1x128) broadcasts_S1x128_S768x128) V
        (broadcast S768x128 (Scalar.ofBits .bf16 0x0000#16))) (constant S256x128 .f32 0x00000000#32))
    (broadcastTo S256x128 (shapeCast S256x1 (multiReduction .add [1] S256 e 0x00000000#32 reduces_S256x768_S256 (.inl rfl) rfl)
      shapeCasts_S256_S256x1) broadcasts_S256x1_S256x128)

/-- One element of what a head adds: the mean of its values over its row of scores. -/
theorem head_apply (hm : IVec S1x128 1) (M : FVec Ideal S1x768 .f32) (q : Vec Ideal S256x128 .bf16) (K V : FVec Ideal S768x128 .bf16)
    (B : Vec Ideal S1x256x768 .f32) (r : Fin 256) (l : Fin 128) :
    head hm M q K V B (ix2 r l)
      = late (fun j => (∑ k, Scalar.select (hm (ix2 0 k)) (q (ix2 r k)) 0 * K (ix2 j k)) + B (ix3 0 r j) + M (ix2 0 j))
          (fun j => Scalar.select (hm (ix2 0 l)) (V (ix2 j l)) 0) := by
  pointwise [head, late, mass, top, neg_inf]

/-- A pair's block: its two heads added to zero. -/
def pair (M : FVec Ideal S1x768 .f32) (q : Vec Ideal S256x128 .bf16) (K V : FVec Ideal S768x128 .bf16)
    (B0 B1 : Vec Ideal S1x256x768 .f32) : FVec Ideal S256x128 .bf16 :=
  truncf .bf16 (addf (addf (k0_pay8 (F := Ideal)) (head lanes0 M q K V B0)) (head lanes1 M q K V B1)) bitsLt_bf16_f32

variable (M : FVec Ideal S1x768 .f32) (q : Vec Ideal S256x128 .bf16) (KW VW : FVec Ideal S768x512 .bf16) (B0 B1 : Vec Ideal S1x256x768 .f32)
/-- The lanes' numbers. -/
abbrev lane : IVec S1x128 32 := iota .tc S1x128 32 [1] iota_S1x128_d1_w32

/-- The first pair's stored block. -/
theorem pair0 : k0_pay15 M q (k0_pay6 KW) (k0_pay7 VW) (k0_pay12 M (k0_pay6 KW) (k0_pay8 (F := Ideal)) (k0_pay10 q) (k0_pay11 VW)
      (constant S256x768 .f32 0x00000000#32) B0) (k0_pay13 lane) (k0_pay14 (F := Ideal)) B1
    = pair M q (k0_pay6 KW) (k0_pay7 VW) B0 B1 := rfl

/-- The second pair's stored block. -/
theorem pair1 : k0_pay28 (k0_pay21 M lane q (k0_pay16 KW) (k0_pay17 VW) (k0_pay18 (F := Ideal)) 64#32 (k0_pay19 lane) (k0_pay20 lane)
        (Scalar.extui (Scalar.cmpi .sgt 64#32 0#32)) B0)
      (k0_pay26 M lane q (k0_pay16 KW) 64#32 (k0_pay22 lane) (k0_pay23 lane) B1)
      (k0_pay27 M lane q (k0_pay16 KW) (k0_pay17 VW) 64#32 (k0_pay22 lane) (k0_pay23 lane) B1)
    = pair M q (k0_pay16 KW) (k0_pay17 VW) B0 B1 := rfl

/-- The third pair's stored block. -/
theorem pair2 : k0_pay38 M q (k0_pay29 KW) (k0_pay30 VW) (k0_pay35 M (k0_pay29 KW) (k0_pay31 (F := Ideal)) (k0_pay33 lane q) (k0_pay34 VW lane)
      (constant S256x768 .f32 0x00000000#32) B0) (k0_pay36 lane) (k0_pay37 (F := Ideal)) B1
    = pair M q (k0_pay29 KW) (k0_pay30 VW) B0 B1 := rfl

/-- The fourth pair's stored block. -/
theorem pair3 : k0_pay1 (k0_pay44 M lane q (k0_pay39 KW) (k0_pay40 VW) (k0_pay41 (F := Ideal)) 64#32 (k0_pay42 lane) (k0_pay43 lane)
        (Scalar.extui (Scalar.cmpi .sgt 64#32 0#32)) B0)
      (k0_pay49 M lane q (k0_pay39 KW) 64#32 (k0_pay45 lane) (k0_pay46 lane) B1)
      (k0_pay50 M lane q (k0_pay39 KW) (k0_pay40 VW) 64#32 (k0_pay45 lane) (k0_pay46 lane) B1)
    = pair M q (k0_pay39 KW) (k0_pay40 VW) B0 B1 := rfl

/-- One element of a pair's block. -/
theorem pair_apply (K V : FVec Ideal S768x128 .bf16) (r : Fin 256) (l : Fin 128) :
    pair M q K V B0 B1 (ix2 r l) = head lanes0 M q K V B0 (ix2 r l) + head lanes1 M q K V B1 (ix2 r l) := by
  pointwise [pair, k0_pay8]

/-- The kernel's word for a key's block within the window of three. -/
theorem block_word : ∀ j : Fin 768, Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector (BitVec.ofNat 32 j.val) 256#32) 0#32))
      (IntOp.subi (IntOp.divsi ArithUnit.vector (BitVec.ofNat 32 j.val) 256#32) 1#32)
      (IntOp.divsi ArithUnit.vector (BitVec.ofNat 32 j.val) 256#32) = BitVec.ofNat 32 (j.val / 256) := by decide +kernel

/-- The block `b` of the window at query block `a` lies after the prompt's start. -/
theorem start_word : ∀ (a : Fin 64) (b : Fin 3),
    IntOp.cmpi .sge (IntOp.subi (IntOp.addi (BitVec.ofNat 32 b.val) (BitVec.ofNat 32 a.val)) 2#32) 0#32
      = if 2 ≤ b.val + a.val then 1#1 else 0#1 := by decide +kernel

/-- The mask of the positions before the prompt's start. -/
theorem start_apply (i : grid0.Coords) (j : Fin 768) :
    k0_pay5 (F := Ideal) (k0_pay4 i) 0#32 (ix2 0 j) = if 2 ≤ j.val / 256 + (i 1).val then 0 else ⊥ := by
  pointwise [k0_pay5, k0_pay4]
  rw [block_word j]
  have h := start_word ⟨(i 1).val, (i 1).isLt⟩ ⟨j.val / 256, by omega⟩
  rw [show IntOp.cmpi .sge (IntOp.subi (IntOp.addi (BitVec.ofNat 32 (j.val / 256)) (BitVec.ofNat 32 (i 1).val)) 2#32) 0#32 = _ from h]
  split
  · simp [Scalar.select]
  · simp only [Scalar.select]
    rfl

end Cert.AttnKernelIdeal.Pure
end
-- ==== Proof.AttnGather.lean ====
module

public import Idealize.ShloMosaic.Lib.Pointwise

@[expose] public section

noncomputable section
open Idealize.ShloMosaic

namespace Cert.Gather

/-- The dimension numbers of a lookup along the second axis at a matrix of positions, each row of the table at once. -/
abbrev headDims (H N R C : Nat) (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- The lookup at an element: the table's row at the position's word, read signed and clamped. -/
theorem gather_head_apply {α : Type} {H N R C w : Nat} (hN : 0 < N)
    (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ w) (h : Fin H) (r : Fin R) (j : Fin C) :
    Host.gather (headDims H N R C wf) x idx (ix3 h r j)
      = x (ix2 h ⟨min (idx (ix3 r j 0)).toInt.toNat (N - 1), by omega⟩) := by
  unfold Host.gather
  congr 1
  funext a
  refine Fin.ext ?_
  show (headDims H N R C wf).start (ix3 h r j) idx a + (headDims H N R C wf).batchCoord (ix3 h r j) a
      + (headDims H N R C wf).offCoord (ix3 h r j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (show ¬ (0 : Fin 2) ∈ (headDims H N R C wf).startIndexMap from fun h => absurd (congrArg Fin.val (List.mem_singleton.mp h)) Nat.zero_ne_one)]
    simp only [Nat.zero_add, Nat.add_zero]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (headDims H N R C wf).startIndexMap from List.mem_singleton.mpr rfl)]
    have hsi : (headDims H N R C wf).siIdx (ix3 h r j) ⟨List.idxOf (1 : Fin 2) (headDims H N R C wf).startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hsi]
    rfl

/-- The position's word that a distance is looked up at: clipped, shifted, and wrapped when negative. -/
def place (d : BitVec 32) : BitVec 32 :=
  Scalar.select (IntOp.cmpi .slt (IntOp.addi (IntOp.minsi 256#32 (IntOp.maxsi 4294967040#32 d)) 256#32) 0#32)
    (IntOp.addi (IntOp.addi (IntOp.minsi 256#32 (IntOp.maxsi 4294967040#32 d)) 256#32) 513#32)
    (IntOp.addi (IntOp.minsi 256#32 (IntOp.maxsi 4294967040#32 d)) 256#32)

/-- A table's element at a distance. -/
def look (x : FVec Ideal ⟨3, ![1, 8, 513]⟩ .f32) (h : Fin 8) (d : BitVec 32) : EReal :=
  x (ix3 0 h ⟨min (place d).toInt.toNat 512, by omega⟩)

end Cert.Gather
end
-- ==== Proof.AttnBias.lean ====
module

public import proofs.«01_k».proof.Proof.Gen.AttnKernelIdeal.Frame
public import proofs.«01_k».proof.Proof.AttnPure
public import proofs.«01_k».proof.Proof.AttnGather
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.AttnKernelIdeal.Bridge
open Cert.AttnKernelIdeal Cert.AttnKernelIdeal.Gen Cert.AttnKernelIdeal.Pure
variable (m : (ℓ : Loc nD τ sig) → Buf (Elt Ideal) ℓ)

/-- The block each window holds at a grid point. -/
theorem idx : ∀ t : Fin cfg0.N,
    win0_0.index t = ![t.val, 0] ∧ win0_1.index t = ![t.val / 64 * 64 + (t.val % 64 - 2), 0]
    ∧ win0_2.index t = ![t.val / 64 * 64 + (t.val % 64 - 1), 0] ∧ win0_3.index t = ![t.val, 0]
    ∧ win0_4.index t = ![t.val / 64 * 64 + (t.val % 64 - 2), 0]
    ∧ win0_5.index t = ![t.val / 64 * 64 + (t.val % 64 - 1), 0] ∧ win0_6.index t = ![t.val, 0]
    ∧ win0_7.index t = ![0, 0, 0] ∧ win0_8.index t = ![t.val, 0] ∧ (grid0.coords t 1).val = t.val % 64 :=
  (by decide +kernel : ∀ t : Fin grid0.N, _)

/-- The host's word for a row's or a key's chunk. -/
theorem chunk_word : ∀ n : Fin 768, Scalar.select
            (IntOp.andi
              (IntOp.cmpi CmpIPredicate.ne
                (if BitVec.ofNat 32 n.val = 0 then (0 : BitVec 32) else if (BitVec.ofNat 32 n.val).msb = true then -1 else 1)
                (if 64#32 = 0 then (0 : BitVec 32) else if (64#32).msb = true then -1 else 1))
              (IntOp.cmpi CmpIPredicate.ne (IntOp.remsi ArithUnit.host (BitVec.ofNat 32 n.val) 64#32) 0#32))
            (IntOp.subi (IntOp.divsi ArithUnit.host (BitVec.ofNat 32 n.val) 64#32) 1#32)
            (IntOp.divsi ArithUnit.host (BitVec.ofNat 32 n.val) 64#32) = BitVec.ofNat 32 (n.val / 64) := by decide +kernel

/-- A key's chunk lies in the band of a query's chunk. -/
theorem band_word : ∀ (a : Fin 4) (b : Fin 12),
    IntOp.andi (IntOp.cmpi CmpIPredicate.sge (BitVec.ofNat 32 b.val) (BitVec.ofNat 32 a.val))
        (IntOp.cmpi CmpIPredicate.sle (BitVec.ofNat 32 b.val) (IntOp.addi (BitVec.ofNat 32 a.val) 8#32))
      = if a.val ≤ b.val ∧ b.val ≤ a.val + 8 then 1#1 else 0#1 := by decide +kernel

/-- The kernel's lookup of the bias at an element. -/
theorem gath (x : FVec Ideal S8x513 .f32) (i : IVec S256x768x1 32) (h : Fin 8) (r : Fin 256) (j : Fin 768) :
    Host.gather gather_S8x513_S256x768x1_S8x256x768_0_1_n_n_1_2_81 x i (ix3 h r j)
      = x (ix2 h ⟨min (i (ix3 r j 0)).toInt.toNat 512, by omega⟩) :=
  Gather.gather_head_apply (by decide) _ x i h r j

/-- The bias array that the host prepares: the table's element inside the band, minus infinity outside. -/
theorem bias_entry (c : Dev nD) (h : Fin 8) (r : Fin 256) (j : Fin 768) :
    (V m c main_v32 : FVec Ideal S8x256x768 .f32) (ix3 h r j)
      = if r.val / 64 ≤ j.val / 64 ∧ j.val / 64 ≤ r.val / 64 + 8 then
          Gather.look (m ((c : Thread nD τ).loc main_arg3)) h (IntOp.subi (IntOp.addi (BitVec.ofNat 32 r.val) 512#32) (BitVec.ofNat 32 j.val))
        else ⊥ := by
  unfold V
  simp only [hostOps0, hostOps0_1, hostOps0_2, hostOps0_3, hostOps0_4, hostOps0_5, hostOps0_6, hostOps0_7, List.flatten_cons, List.flatten_nil, List.append_nil, List.cons_append, List.nil_append]
  after_results_simp
  simp -implicitDefEqProofs only [StableHlo.TRef.toBuf, StableHlo.TRef.ofBuf, cast_cast, cast_eq, id]
  pointwise [gath]
  refine (congrArg₂ (fun a b => Scalar.select (IntOp.andi (IntOp.cmpi .sge a b) (IntOp.cmpi .sle a (IntOp.addi b 8#32))) _ _)
    (chunk_word j) (chunk_word ⟨r.val, by omega⟩)).trans ?_
  show Scalar.select (IntOp.andi (IntOp.cmpi .sge (BitVec.ofNat 32 (j.val / 64)) (BitVec.ofNat 32 (r.val / 64)))
    (IntOp.cmpi .sle (BitVec.ofNat 32 (j.val / 64)) (IntOp.addi (BitVec.ofNat 32 (r.val / 64)) 8#32))) _ _ = _
  have e := band_word ⟨r.val / 64, by omega⟩ ⟨j.val / 64, by omega⟩
  by_cases hb : r.val / 64 ≤ j.val / 64 ∧ j.val / 64 ≤ r.val / 64 + 8
  · rw [show _ = _ from e.trans (if_pos hb), if_pos hb]
    rfl
  · rw [show _ = _ from e.trans (if_neg hb), if_neg hb]
    exact Softmax.neg_inf
end Cert.AttnKernelIdeal.Bridge
end
-- ==== Proof.AttnRef.lean ====
module

public import proofs.«01_k».proof.Proof.Gen.AttnReferenceIdeal.Read
public import proofs.«01_k».proof.Proof.AttnSoftmax
public import Idealize.ShloMosaic.Lib.Pointwise

@[expose] public section

set_option maxRecDepth 16384
noncomputable section
open Idealize.ShloMosaic Idealize.ShloMosaic.TcCoe Idealize.SL.Sem

namespace Cert.AttnReferenceIdeal.Pure
open Cert.AttnReferenceIdeal Cert.AttnReferenceIdeal.Read Cert.Softmax
variable (x0 x1 x2 : FVec Ideal S33280x512 .bf16) (x3 : FVec Ideal S1x8x513 .f32)

/-- The padded keys: eight chunks of zeros, then the keys of the prompt. -/
theorem pad_ref (b : Fin 2) (c : Fin 264) (r : Fin 64) (h : Fin 8) (d : Fin 64) :
    val_main_v6 (F := Ideal) x1 (ix5 b c r h d)
      = if h1 : 8 ≤ c.val ∧ c.val - 8 < 256 then x1 (ix2 ⟨b.val * 16384 + (c.val - 8) * 64 + r.val, by omega⟩ ⟨h.val * 64 + d.val, by omega⟩)
        else (FloatOps.sitofp FTy.f32 0#32 : Ideal .f32) := by
  pointwise [val_main_v6, val_main_v5, val_main_v4, val_main_v3, val_main_call0_v0, val_main_c]

/-- A query's element. -/
theorem query_ref (b : Fin 2) (c : Fin 256) (r : Fin 64) (h : Fin 8) (d : Fin 64) :
    val_main_v2 (F := Ideal) x0 (ix5 b c r h d) = x0 (ix2 ⟨b.val * 16384 + c.val * 64 + r.val, by omega⟩ ⟨h.val * 64 + d.val, by omega⟩) := by
  pointwise [val_main_v2, val_main_v1, val_main_v0]

/-- The validity flag of a key. -/
theorem valid_ref (c : Fin 256) (k : Fin 576) :
    val_main_v60 (F := Ideal) (ix3 c 0 k) = if 512 ≤ k.val + 64 * c.val then 1#1 else 0#1 := by
  have hk : ∀ k : Fin 576, (BitVec.ofNat 32 k.val).toInt = k.val := by decide +kernel
  have hc : ∀ c : Fin 256, (IntOp.muli (IntOp.subi 8#32 (BitVec.ofNat 32 c.val)) 64#32).toInt = 512 - 64 * (c.val : ℤ) := by decide +kernel
  pointwise [val_main_v60, val_main_v59, val_main_v58, val_main_v57, val_main_v56, val_main_v55, val_main_v54, val_main_v53, val_main_v52, val_main_v51, val_main_v34, val_main_v33, val_main_c_7, val_main_c_8]
  simp only [IntOp.cmpi, BitVec.sle, hk, hc]
  by_cases h : 512 ≤ k.val + 64 * c.val
  · rw [if_pos h, decide_eq_true (by omega)]; rfl
  · rw [if_neg h, decide_eq_false (by omega)]; rfl

/-- A score. -/
theorem score_ref (b : Fin 2) (c : Fin 256) (h : Fin 8) (r : Fin 64) (k : Fin 576) :
    val_main_v66 (F := Ideal) x0 x1 x3 (ix5 b c h r k)
      = if 512 ≤ k.val + 64 * c.val then
          (∑ d, val_main_v2 (F := Ideal) x0 (ix5 b c r h d) * val_main_v20 (F := Ideal) x1 (ix5 b c k h d)) + val_main_v50 (F := Ideal) x3 (ix3 h r k)
        else ⊥ := by
  pointwise [val_main_v66, val_main_v64, val_main_v63, val_main_v62, val_main_v61, val_main_call3_v2, val_main_call3_v1, val_main_call3_v0, val_main_cst, val_main_v65, valid_ref, neg_inf]
  split
  · simp [Scalar.select]
  · simp only [Scalar.select]
    exact neg_inf

end Cert.AttnReferenceIdeal.Pure
end
-- ==== Proof.AttnBand.lean ====
module

public import proofs.«01_k».proof.Proof.Gen.AttnReferenceIdeal.Read
public import proofs.«01_k».proof.Proof.AttnSoftmax
public import proofs.«01_k».proof.Proof.AttnRef
public import Idealize.ShloMosaic.Lib.Pointwise

@[expose] public section

set_option maxRecDepth 16384
noncomputable section
open Idealize.ShloMosaic Idealize.ShloMosaic.TcCoe Idealize.SL.Sem

namespace Cert.AttnReferenceIdeal.Pure
open Cert.AttnReferenceIdeal Cert.AttnReferenceIdeal.Read Cert.Softmax
variable (x0 x1 x2 : FVec Ideal S33280x512 .bf16) (x3 : FVec Ideal S1x8x513 .f32)

/-- The slice of the padded keys that starts at chunk 0. -/
theorem slice0_ref (b : Fin 2) (c : Fin 256) (r : Fin 64) (h : Fin 8) (d : Fin 64) :
    val_main_v11 (F := Ideal) x1 (ix5 b c r h d) = val_main_v6 (F := Ideal) x1 (ix5 b ⟨0 + c.val, by omega⟩ r h d) := by
  pointwise [val_main_v11]

/-- The slice of the padded keys that starts at chunk 1. -/
theorem slice1_ref (b : Fin 2) (c : Fin 256) (r : Fin 64) (h : Fin 8) (d : Fin 64) :
    val_main_v12 (F := Ideal) x1 (ix5 b c r h d) = val_main_v6 (F := Ideal) x1 (ix5 b ⟨1 + c.val, by omega⟩ r h d) := by
  pointwise [val_main_v12]

/-- The slice of the padded keys that starts at chunk 2. -/
theorem slice2_ref (b : Fin 2) (c : Fin 256) (r : Fin 64) (h : Fin 8) (d : Fin 64) :
    val_main_v13 (F := Ideal) x1 (ix5 b c r h d) = val_main_v6 (F := Ideal) x1 (ix5 b ⟨2 + c.val, by omega⟩ r h d) := by
  pointwise [val_main_v13]

/-- The slice of the padded keys that starts at chunk 3. -/
theorem slice3_ref (b : Fin 2) (c : Fin 256) (r : Fin 64) (h : Fin 8) (d : Fin 64) :
    val_main_v14 (F := Ideal) x1 (ix5 b c r h d) = val_main_v6 (F := Ideal) x1 (ix5 b ⟨3 + c.val, by omega⟩ r h d) := by
  pointwise [val_main_v14]

/-- The slice of the padded keys that starts at chunk 4. -/
theorem slice4_ref (b : Fin 2) (c : Fin 256) (r : Fin 64) (h : Fin 8) (d : Fin 64) :
    val_main_v15 (F := Ideal) x1 (ix5 b c r h d) = val_main_v6 (F := Ideal) x1 (ix5 b ⟨4 + c.val, by omega⟩ r h d) := by
  pointwise [val_main_v15]

/-- The slice of the padded keys that starts at chunk 5. -/
theorem slice5_ref (b : Fin 2) (c : Fin 256) (r : Fin 64) (h : Fin 8) (d : Fin 64) :
    val_main_v16 (F := Ideal) x1 (ix5 b c r h d) = val_main_v6 (F := Ideal) x1 (ix5 b ⟨5 + c.val, by omega⟩ r h d) := by
  pointwise [val_main_v16]

/-- The slice of the padded keys that starts at chunk 6. -/
theorem slice6_ref (b : Fin 2) (c : Fin 256) (r : Fin 64) (h : Fin 8) (d : Fin 64) :
    val_main_v17 (F := Ideal) x1 (ix5 b c r h d) = val_main_v6 (F := Ideal) x1 (ix5 b ⟨6 + c.val, by omega⟩ r h d) := by
  pointwise [val_main_v17]

/-- The slice of the padded keys that starts at chunk 7. -/
theorem slice7_ref (b : Fin 2) (c : Fin 256) (r : Fin 64) (h : Fin 8) (d : Fin 64) :
    val_main_v18 (F := Ideal) x1 (ix5 b c r h d) = val_main_v6 (F := Ideal) x1 (ix5 b ⟨7 + c.val, by omega⟩ r h d) := by
  pointwise [val_main_v18]

/-- The slice of the padded keys that starts at chunk 8. -/
theorem slice8_ref (b : Fin 2) (c : Fin 256) (r : Fin 64) (h : Fin 8) (d : Fin 64) :
    val_main_v19 (F := Ideal) x1 (ix5 b c r h d) = val_main_v6 (F := Ideal) x1 (ix5 b ⟨8 + c.val, by omega⟩ r h d) := by
  pointwise [val_main_v19]

/-- A key of a chunk's band, when it lies in the prompt. -/
theorem band_ref (b : Fin 2) (c : Fin 256) (k : Fin 576) (h : Fin 8) (d : Fin 64) (hv : 512 ≤ k.val + 64 * c.val) :
    val_main_v20 (F := Ideal) x1 (ix5 b c k h d)
      = x1 (ix2 ⟨b.val * 16384 + (64 * c.val + k.val - 512), by omega⟩ ⟨h.val * 64 + d.val, by omega⟩) := by
  pointwise [val_main_v20]
  split_ifs
  all_goals
    simp only [slice0_ref, slice1_ref, slice2_ref, slice3_ref, slice4_ref, slice5_ref, slice6_ref, slice7_ref, slice8_ref, pad_ref]
    rw [dif_pos (by omega)]
    refine congrArg x1 ((ix2_inj ..).2 ⟨Fin.ext ?_, rfl⟩)
    dsimp only
    omega

/-- The values are padded and cut as the keys are. -/
theorem values_ref : val_main_v30 (F := Ideal) x2 = val_main_v20 (F := Ideal) x2 := rfl

end Cert.AttnReferenceIdeal.Pure
end
-- ==== Proof.AttnOut.lean ====
module

public import proofs.«01_k».proof.Proof.Gen.AttnReferenceIdeal.Read
public import proofs.«01_k».proof.Proof.AttnSoftmax
public import proofs.«01_k».proof.Proof.AttnBand
public import Idealize.ShloMosaic.Lib.Pointwise

@[expose] public section

set_option maxRecDepth 16384
noncomputable section
open Idealize.ShloMosaic Idealize.ShloMosaic.TcCoe Idealize.SL.Sem

namespace Cert.AttnReferenceIdeal.Pure
open Cert.AttnReferenceIdeal Cert.AttnReferenceIdeal.Read Cert.Softmax
variable (x0 x1 x2 : FVec Ideal S33280x512 .bf16) (x3 : FVec Ideal S1x8x513 .f32)

open Cert.AttnReferenceIdeal.Gen in
/-- The largest along the last axis. -/
theorem fold_ref (s : FVec Ideal S2x256x8x64x576 .f32) (b : Fin 2) (c : Fin 256) (h : Fin 8) (r : Fin 64) :
    Host.reduce FloatOps.maximumf s (constant (F := Ideal) S_ .f32 0xFF800000#32) reducesTo_S2x256x8x64x576_S2x256x8x64_d4 h_S_ (ix4 b c h r)
      = top (fun k => s (ix5 b c h r k)) := by
  pointwise [neg_inf, top]

/-- The largest of a query's scores. -/
theorem top_ref (b : Fin 2) (c : Fin 256) (h : Fin 8) (r : Fin 64) :
    val_main_v69 (F := Ideal) x0 x1 x3 (ix4 b c h r) = top (fun k => val_main_v66 (F := Ideal) x0 x1 x3 (ix5 b c h r k)) := by
  rw [val_main_v69_apply, show val_main_v68 (F := Ideal) (ix4 b c h r) = ⊥ from (val_main_v68_apply _).trans neg_inf]
  unfold val_main_v67
  generalize val_main_v66 (F := Ideal) x0 x1 x3 = s
  exact (bot_sup_eq _).trans (fold_ref s b c h r)

/-- A weight. -/
theorem weight_ref (b : Fin 2) (c : Fin 256) (h : Fin 8) (r : Fin 64) (k : Fin 576) :
    val_main_v73 (F := Ideal) x0 x1 x3 (ix5 b c h r k)
      = Ideal.exp (val_main_v66 (F := Ideal) x0 x1 x3 (ix5 b c h r k) - val_main_v69 (F := Ideal) x0 x1 x3 (ix4 b c h r)) := by
  pointwise [val_main_v73, val_main_v72, val_main_v71, val_main_v70]

/-- The weights' sum. -/
theorem mass_ref (b : Fin 2) (c : Fin 256) (h : Fin 8) (r : Fin 64) :
    val_main_v74 (F := Ideal) x0 x1 x3 (ix4 b c h r) = ∑ k, val_main_v73 (F := Ideal) x0 x1 x3 (ix5 b c h r k) := by
  pointwise [val_main_v74, val_main_cst_11]

/-- A weight's share. -/
theorem share_ref (b : Fin 2) (c : Fin 256) (h : Fin 8) (r : Fin 64) (k : Fin 576) :
    val_main_v77 (F := Ideal) x0 x1 x3 (ix5 b c h r k)
      = Ideal.div (val_main_v73 (F := Ideal) x0 x1 x3 (ix5 b c h r k)) (val_main_v74 (F := Ideal) x0 x1 x3 (ix4 b c h r)) := by
  pointwise [val_main_v77, val_main_v76, val_main_v75]

/-- An element of the result: the values' mean. -/
theorem mix_ref (b : Fin 2) (c : Fin 256) (h : Fin 8) (r : Fin 64) (d : Fin 64) :
    val_main_v81 (F := Ideal) x0 x1 x2 x3 (ix2 ⟨b.val * 16384 + c.val * 64 + r.val, by omega⟩ ⟨h.val * 64 + d.val, by omega⟩)
      = ∑ k, val_main_v30 (F := Ideal) x2 (ix5 b c k h d) * val_main_v77 (F := Ideal) x0 x1 x3 (ix5 b c h r k) := by
  pointwise [val_main_v81, val_main_v80, val_main_v79, val_main_v78]

/-- An element of the reference's result. -/
theorem out_ref (b : Fin 2) (c : Fin 256) (h : Fin 8) (r : Fin 64) (d : Fin 64) :
    val_main_v81 (F := Ideal) x0 x1 x2 x3 (ix2 ⟨b.val * 16384 + c.val * 64 + r.val, by omega⟩ ⟨h.val * 64 + d.val, by omega⟩)
      = early (fun k => val_main_v66 (F := Ideal) x0 x1 x3 (ix5 b c h r k)) (fun k => val_main_v20 (F := Ideal) x2 (ix5 b c k h d)) := by
  rw [mix_ref, values_ref]
  unfold early mass
  refine Finset.sum_congr rfl fun k _ => ?_
  rw [share_ref, mass_ref, mul_comm]
  simp only [weight_ref, top_ref]

end Cert.AttnReferenceIdeal.Pure
end
-- ==== Proof.AttnCore.lean ====
module

public import proofs.«01_k».proof.Proof.AttnPure
public import proofs.«01_k».proof.Proof.AttnOut
public import proofs.«01_k».proof.Proof.AttnGather

@[expose] public section

set_option maxRecDepth 16384
noncomputable section
open Idealize.ShloMosaic Idealize.ShloMosaic.TcCoe Idealize.SL.Sem

namespace Cert.AttnReferenceIdeal.Pure
open Cert.AttnReferenceIdeal Cert.AttnReferenceIdeal.Read Cert.Softmax Cert.AttnReferenceIdeal.Gen
variable (x0 x1 x2 : FVec Ideal S33280x512 .bf16) (x3 : FVec Ideal S1x8x513 .f32)

/-- A distance's word. -/
def apart (r j : Nat) : BitVec 32 := IntOp.subi (IntOp.addi (BitVec.ofNat 32 r) 512#32) (BitVec.ofNat 32 j)

/-- A distance depends on the difference alone. -/
theorem apart_shift (a r j : Nat) : apart (a + r) (a + j) = apart r j := by
  unfold apart IntOp.subi IntOp.addi
  rw [BitVec.ofNat_add, BitVec.ofNat_add]
  show BitVec.ofNat 32 a + BitVec.ofNat 32 r + 512#32 - (BitVec.ofNat 32 a + BitVec.ofNat 32 j) = _
  generalize BitVec.ofNat 32 a = x, BitVec.ofNat 32 r = y, BitVec.ofNat 32 j = z
  bv_omega

/-- The reference's lookup of the bias at an element. -/
theorem gath (x : FVec Ideal S8x513 .f32) (i : IVec S64x576x1 32) (h : Fin 8) (r : Fin 64) (j : Fin 576) :
    Host.gather gather_S8x513_S64x576x1_S8x64x576_0_1_n_n_1_2_81 x i (ix3 h r j)
      = x (ix2 h ⟨min (i (ix3 r j 0)).toInt.toNat 512, by omega⟩) :=
  Gather.gather_head_apply (by decide) _ x i h r j

/-- The reference's bias at an element of the band. -/
theorem bias_ref (h : Fin 8) (r : Fin 64) (k : Fin 576) :
    val_main_v50 (F := Ideal) x3 (ix3 h r k) = Gather.look x3 h (apart r.val k.val) := by
  unfold val_main_v50
  rw [gath]
  pointwise [val_main_v35, val_main_v49, val_main_v48, val_main_v47, val_main_v46, val_main_v45, val_main_v44, val_main_v43, val_main_v42,
    val_main_v41, val_main_v40, val_main_v39, val_main_v38, val_main_v37, val_main_v36, val_main_v34, val_main_v33, val_main_v32, val_main_v31, val_main_c_1, val_main_c_2, val_main_c_3,
    val_main_c_4, val_main_c_5, val_main_c_6, val_main_call2_v0, val_main_call2_v1, val_main_call2_v2, val_main_call2_v3, val_main_call2_v4]
  rfl

end Cert.AttnReferenceIdeal.Pure
end
-- ==== Proof.AttnValue.lean ====
module

public import proofs.«01_k».proof.Proof.AttnBias
public import proofs.«01_k».proof.Proof.AttnCore

@[expose] public section

set_option maxRecDepth 16384
noncomputable section
open Idealize.ShloMosaic Idealize.ShloMosaic.TcCoe Idealize.SL.Sem
open Idealize.ShloMosaic.Pipeline (Dat)
namespace Cert.AttnKernelIdeal.Pure
open Cert.AttnKernelIdeal Cert.AttnKernelIdeal.Gen Cert.Softmax
open Cert.AttnReferenceIdeal.Read Cert.AttnReferenceIdeal.Pure
/-- A sum over a pair's lanes with the other head's lanes cleared is the sum over one head's lanes. -/
theorem dot_lanes (o : Fin 2) (hm : IVec S1x128 1) (hhm : ∀ l : Fin 128, hm (ix2 0 l) = if l.val / 64 = o.val then 1#1 else 0#1)
    (f g : Fin 128 → EReal) :
    ∑ k, Scalar.select (hm (ix2 0 k)) (f k) 0 * g k
      = ∑ d : Fin 64, f ⟨64 * o.val + d.val, by omega⟩ * g ⟨64 * o.val + d.val, by omega⟩ := by
  refine sum_window (fun d : Fin 64 => (⟨64 * o.val + d.val, by omega⟩ : Fin 128))
    (fun a b e => Fin.ext (by have := congrArg Fin.val e; dsimp only at this; omega))
    (fun k : Fin 128 => if k.val / 64 = o.val then (0 : EReal) else ⊥) (fun _ => 0) ?_ ?_ _ _ ?_ ?_
  · exact fun d => if_pos (by dsimp only; omega)
  · exact fun k hk => if_neg fun e => hk ⟨k.val % 64, by omega⟩ (Fin.ext (by dsimp only; omega))
  · intro d
    rw [hhm, if_pos (by dsimp only; omega)]
    simp [Scalar.select]
  · intro k hk
    rw [hhm, if_neg fun e => hk ⟨k.val % 64, by omega⟩ (Fin.ext (by dsimp only; omega))]
    simp [Scalar.select]

/-- The key of the window at an element of a row's band. -/
def bandKey (r : Fin 256) (k : Fin 576) : Fin 768 := ⟨64 * (r.val / 64) + k.val, by omega⟩

/-- Different elements of the band are different keys. -/
theorem bandKey_inj (r : Fin 256) : Function.Injective (bandKey r) := fun a b e => Fin.ext (by
  have := congrArg Fin.val e
  simp only [bandKey] at this
  omega)

variable (x0 x1 x2 : FVec Ideal Cert.AttnReferenceIdeal.S33280x512 .bf16) (x3 : FVec Ideal Cert.AttnReferenceIdeal.S1x8x513 .f32)

/-- A head's row of scores in the reference. -/
def refRow (t : Fin 128) (hd : Fin 8) (r : Fin 256) (k : Fin 576) : EReal :=
  val_main_v66 (F := Ideal) x0 x1 x3 (ix5 ⟨t.val / 64, by omega⟩ ⟨4 * (t.val % 64) + r.val / 64, by omega⟩ hd ⟨r.val % 64, by omega⟩ k)

section Finite
variable (hf0 : ∀ i, ∃ a : ℝ, x0 i = a) (hf1 : ∀ i, ∃ a : ℝ, x1 i = a) (hf3 : ∀ i, ∃ a : ℝ, x3 i = a)
include hf0 hf1 hf3

/-- A score of a key inside the prompt is real. -/
theorem refRow_real (t : Fin 128) (hd : Fin 8) (r : Fin 256) (k : Fin 576) (hv : 512 ≤ k.val + 64 * (4 * (t.val % 64) + r.val / 64)) :
    ∃ a : ℝ, refRow x0 x1 x3 t hd r k = a := by
  choose a ha using hf0
  choose b hb using hf1
  choose g hg using hf3
  unfold refRow
  rw [score_ref, if_pos hv, bias_ref]
  simp only [query_ref]
  rw [Finset.sum_congr rfl fun d _ => by rw [band_ref _ _ _ _ _ _ hv, ha, hb, ← EReal.coe_mul]]
  unfold Cert.Gather.look
  rw [hg]
  exact ⟨_, (congrArg (· + _) (map_sum (⟨⟨Real.toEReal, EReal.coe_zero⟩, EReal.coe_add⟩ : ℝ →+ EReal) _ _).symm).trans
    (EReal.coe_add _ _).symm⟩

/-- A row of scores is proper. -/
theorem refRow_proper (t : Fin 128) (hd : Fin 8) (r : Fin 256) : Proper (refRow x0 x1 x3 t hd r) := by
  refine ⟨fun k => ?_, ⟨575, by omega⟩, ?_⟩
  · by_cases hv : 512 ≤ k.val + 64 * (4 * (t.val % 64) + r.val / 64)
    · obtain ⟨a, ha⟩ := refRow_real x0 x1 x3 hf0 hf1 hf3 t hd r k hv
      rw [ha]; exact EReal.coe_ne_top a
    · unfold refRow
      rw [score_ref, if_neg hv]; exact bot_ne_top
  · obtain ⟨a, ha⟩ := refRow_real x0 x1 x3 hf0 hf1 hf3 t hd r ⟨575, by omega⟩ (by dsimp only; omega)
    rw [ha]; exact EReal.coe_ne_bot a
end Finite

section Half
variable (t : Fin 128) (p : Fin 4) (o : Fin 2) (hm : IVec S1x128 1)
  (hhm : ∀ l : Fin 128, hm (ix2 0 l) = if l.val / 64 = o.val then 1#1 else 0#1)
  (M : FVec Ideal S1x768 .f32) (q : Vec Ideal S256x128 .bf16) (K V : FVec Ideal S768x128 .bf16) (B : Vec Ideal S1x256x768 .f32)
  (hM : ∀ j : Fin 768, M (ix2 0 j) = if 2 ≤ j.val / 256 + t.val % 64 then 0 else ⊥)
  (hq : ∀ (r : Fin 256) (l : Fin 128), q (ix2 r l) = x0 (ix2 ⟨256 * t.val + r.val, by omega⟩ ⟨128 * p.val + l.val, by omega⟩))
  (hK : ∀ (j : Fin 768) (l : Fin 128), 512 ≤ j.val + 256 * (t.val % 64) →
    K (ix2 j l) = x1 (ix2 ⟨t.val / 64 * 16384 + (256 * (t.val % 64) + j.val - 512), by omega⟩ ⟨128 * p.val + l.val, by omega⟩))
  (hB : ∀ (r : Fin 256) (j : Fin 768), B (ix3 0 r j) = if r.val / 64 ≤ j.val / 64 ∧ j.val / 64 ≤ r.val / 64 + 8 then
    Cert.Gather.look x3 ⟨2 * p.val + o.val, by omega⟩ (apart r.val j.val) else ⊥)

/-- A head's row of scores in the kernel. -/
def row (r : Fin 256) (j : Fin 768) : EReal :=
  (∑ k, Scalar.select (hm (ix2 0 k)) (q (ix2 r k)) 0 * K (ix2 j k)) + B (ix3 0 r j) + M (ix2 0 j)

include hhm hM hq hK hB in
/-- Inside the band the kernel's scores are the reference's. -/
theorem row_in (r : Fin 256) (k : Fin 576) :
    row hm M q K B r (bandKey r k) = refRow x0 x1 x3 t ⟨2 * p.val + o.val, by omega⟩ r k := by
  unfold row refRow
  rw [score_ref, hM, hB, if_pos (by simp only [bandKey]; omega)]
  by_cases hv : 512 ≤ k.val + 64 * (4 * (t.val % 64) + r.val / 64)
  · rw [if_pos (by simp only [bandKey]; omega), if_pos hv, add_zero, bias_ref,
      dot_lanes o hm hhm (fun l => q (ix2 r l)) fun l => K (ix2 (bandKey r k) l)]
    refine congrArg₂ (· + ·) (Finset.sum_congr rfl fun d _ => ?_) (congrArg _ ?_)
    · rw [hq, hK _ _ (by simp only [bandKey]; omega), query_ref, band_ref _ _ _ _ _ _ hv]
      refine congrArg₂ (· * ·) (congrArg x0 ((ix2_inj ..).2 ⟨Fin.ext ?_, Fin.ext ?_⟩)) (congrArg x1 ((ix2_inj ..).2 ⟨Fin.ext ?_, Fin.ext ?_⟩))
      all_goals
        simp only [bandKey]
        omega
    · rw [← apart_shift (64 * (r.val / 64)) (r.val % 64) k.val]
      refine congrArg₂ apart ?_ rfl
      omega
  · rw [if_neg (by simp only [bandKey]; omega), if_neg hv, EReal.add_bot]

include hB in
/-- Outside the band the kernel's scores are minus infinity. -/
theorem row_out (r : Fin 256) (j : Fin 768) (hj : ∀ k, bandKey r k ≠ j) : row hm M q K B r j = ⊥ := by
  unfold row
  rw [hB, if_neg, EReal.add_bot, EReal.bot_add]
  exact fun h => hj ⟨j.val - 64 * (r.val / 64), by omega⟩ (Fin.ext (by simp only [bandKey]; omega))

variable (hf0 : ∀ i, ∃ a : ℝ, x0 i = a) (hf1 : ∀ i, ∃ a : ℝ, x1 i = a) (hf3 : ∀ i, ∃ a : ℝ, x3 i = a)
include hhm hM hq hK hB hf0 hf1 hf3

/-- On its own lanes a head adds the reference's result. -/
theorem head_own (hV : ∀ (j : Fin 768) (l : Fin 128), 512 ≤ j.val + 256 * (t.val % 64) →
      V (ix2 j l) = x2 (ix2 ⟨t.val / 64 * 16384 + (256 * (t.val % 64) + j.val - 512), by omega⟩ ⟨128 * p.val + l.val, by omega⟩))
    (r : Fin 256) (l : Fin 128) (hl : l.val / 64 = o.val) :
    head hm M q K V B (ix2 r l)
      = val_main_v81 (F := Ideal) x0 x1 x2 x3 (ix2 ⟨256 * t.val + r.val, by omega⟩ ⟨128 * p.val + l.val, by omega⟩) := by
  rw [head_apply]
  refine (late_window (bandKey r) (bandKey_inj r) (row hm M q K B r) (refRow x0 x1 x3 t ⟨2 * p.val + o.val, by omega⟩ r)
    (row_in x0 x1 x3 t p o hm hhm M q K B hM hq hK hB r) (row_out x3 p o hm M q K B hB r) _
    (fun k => val_main_v20 (F := Ideal) x2 (ix5 ⟨t.val / 64, by omega⟩ ⟨4 * (t.val % 64) + r.val / 64, by omega⟩ k
      ⟨2 * p.val + o.val, by omega⟩ ⟨l.val % 64, by omega⟩)) (fun k hk => ?_)
    (refRow_proper x0 x1 x3 hf0 hf1 hf3 t _ r)).trans ?_
  · have hv : 512 ≤ k.val + 64 * (4 * (t.val % 64) + r.val / 64) := by
      by_contra hn
      refine hk ?_
      unfold refRow
      rw [score_ref, if_neg hn]
    rw [hhm, if_pos hl, hV _ _ (by simp only [bandKey]; omega), band_ref _ _ _ _ _ _ hv]
    refine Eq.trans (b := x2 _) (by simp [Scalar.select]; rfl) (congrArg x2 ((ix2_inj ..).2 ⟨Fin.ext ?_, Fin.ext ?_⟩))
    all_goals
      simp only [bandKey]
      omega
  · refine (out_ref x0 x1 x2 x3 _ _ _ _ _).symm.trans (congrArg _ ((ix2_inj ..).2 ⟨Fin.ext ?_, Fin.ext ?_⟩))
    all_goals
      dsimp only
      omega

/-- On the other head's lanes a head adds zero. -/
theorem head_other (r : Fin 256) (l : Fin 128) (hl : l.val / 64 ≠ o.val) : head hm M q K V B (ix2 r l) = 0 := by
  rw [head_apply]
  refine Eq.trans (congrArg (late (row hm M q K B r)) (funext fun j => ?_))
    (late_zero _ (proper_window (bandKey r) (bandKey_inj r) (row hm M q K B r) (refRow x0 x1 x3 t ⟨2 * p.val + o.val, by omega⟩ r)
      (row_in x0 x1 x3 t p o hm hhm M q K B hM hq hK hB r) (row_out x3 p o hm M q K B hB r)
      (refRow_proper x0 x1 x3 hf0 hf1 hf3 t _ r)))
  rw [hhm, if_neg hl]
  simp [Scalar.select]
end Half

/-- A pair's block is the reference's result. -/
theorem pair_eq (t : Fin 128) (p : Fin 4)
    (M : FVec Ideal S1x768 .f32) (q : Vec Ideal S256x128 .bf16) (K V : FVec Ideal S768x128 .bf16) (B0 B1 : Vec Ideal S1x256x768 .f32)
    (hM : ∀ j : Fin 768, M (ix2 0 j) = if 2 ≤ j.val / 256 + t.val % 64 then 0 else ⊥)
    (hq : ∀ (r : Fin 256) (l : Fin 128), q (ix2 r l) = x0 (ix2 ⟨256 * t.val + r.val, by omega⟩ ⟨128 * p.val + l.val, by omega⟩))
    (hK : ∀ (j : Fin 768) (l : Fin 128), 512 ≤ j.val + 256 * (t.val % 64) →
      K (ix2 j l) = x1 (ix2 ⟨t.val / 64 * 16384 + (256 * (t.val % 64) + j.val - 512), by omega⟩ ⟨128 * p.val + l.val, by omega⟩))
    (hV : ∀ (j : Fin 768) (l : Fin 128), 512 ≤ j.val + 256 * (t.val % 64) →
      V (ix2 j l) = x2 (ix2 ⟨t.val / 64 * 16384 + (256 * (t.val % 64) + j.val - 512), by omega⟩ ⟨128 * p.val + l.val, by omega⟩))
    (hB0 : ∀ (r : Fin 256) (j : Fin 768), B0 (ix3 0 r j) = if r.val / 64 ≤ j.val / 64 ∧ j.val / 64 ≤ r.val / 64 + 8 then
      Cert.Gather.look x3 ⟨2 * p.val + 0, by omega⟩ (apart r.val j.val) else ⊥)
    (hB1 : ∀ (r : Fin 256) (j : Fin 768), B1 (ix3 0 r j) = if r.val / 64 ≤ j.val / 64 ∧ j.val / 64 ≤ r.val / 64 + 8 then
      Cert.Gather.look x3 ⟨2 * p.val + 1, by omega⟩ (apart r.val j.val) else ⊥)
    (hf0 : ∀ i, ∃ a : ℝ, x0 i = a) (hf1 : ∀ i, ∃ a : ℝ, x1 i = a) (hf3 : ∀ i, ∃ a : ℝ, x3 i = a) (r : Fin 256) (l : Fin 128) :
    pair M q K V B0 B1 (ix2 r l)
      = val_main_v81 (F := Ideal) x0 x1 x2 x3 (ix2 ⟨256 * t.val + r.val, by omega⟩ ⟨128 * p.val + l.val, by omega⟩) := by
  have h0 : ∀ l : Fin 128, lanes0 (ix2 0 l) = if l.val / 64 = (0 : Fin 2).val then 1#1 else 0#1 := fun l => by
    rw [lanes0_apply]
    exact if_congr (by show l.val < 64 ↔ l.val / 64 = 0; omega) rfl rfl
  have h1 : ∀ l : Fin 128, lanes1 (ix2 0 l) = if l.val / 64 = (1 : Fin 2).val then 1#1 else 0#1 := fun l => by
    rw [lanes1_apply]
    by_cases h : l.val < 64
    · rw [if_pos h, if_neg (by show ¬ l.val / 64 = 1; omega)]
    · rw [if_neg h, if_pos (by show l.val / 64 = 1; omega)]
  rw [pair_apply]
  by_cases h : l.val < 64
  · rw [head_own x0 x1 x2 x3 t p 0 lanes0 h0 M q K V B0 hM hq hK hB0 hf0 hf1 hf3 hV r l (by show l.val / 64 = 0; omega),
      head_other x0 x1 x3 t p 1 lanes1 h1 M q K V B1 hM hq hK hB1 hf0 hf1 hf3 r l (by show l.val / 64 ≠ 1; omega), add_zero]
  · rw [head_own x0 x1 x2 x3 t p 1 lanes1 h1 M q K V B1 hM hq hK hB1 hf0 hf1 hf3 hV r l (by show l.val / 64 = 1; omega),
      head_other x0 x1 x3 t p 0 lanes0 h0 M q K V B0 hM hq hK hB0 hf0 hf1 hf3 r l (by show l.val / 64 ≠ 0; omega), zero_add]

end Cert.AttnKernelIdeal.Pure

namespace Cert.AttnKernelIdeal.Bridge
open Cert.AttnKernelIdeal Cert.AttnKernelIdeal.Gen Cert.AttnKernelIdeal.Pure
open Cert.AttnReferenceIdeal.Read Cert.AttnReferenceIdeal.Pure
variable (m : (ℓ : Loc nD τ sig) → Buf (Elt Ideal) ℓ)

/-- The number of grid points. -/
theorem points (t : Fin cfg0.N) : t.val < 128 := t.isLt

/-- Window 0 holds a block of the queries. -/
theorem blk0 (c : Dev nD) (t : Fin cfg0.N) (r : Fin 256) (l : Fin 512) :
    iblk m c 0 t (ix2 r l) = (m ((c : Thread nD τ).loc main_arg0)) (ix2 ⟨256 * t.val + r.val, by have := points t; omega⟩ l) := by
  blk_simp [iblk]
  rw [V_main_arg0]
  blk_ext [idx t]

/-- Window 1 holds a block of the keys two blocks back. -/
theorem blk1 (c : Dev nD) (t : Fin cfg0.N) (r : Fin 256) (l : Fin 512) :
    iblk m c 1 t (ix2 r l) = (m ((c : Thread nD τ).loc main_arg1)) (ix2 ⟨256 * (t.val / 64 * 64 + (t.val % 64 - 2)) + r.val, by have := points t; omega⟩ l) := by
  blk_simp [iblk]
  rw [V_main_arg1]
  blk_ext [idx t]

/-- Window 2 holds a block of the keys one block back. -/
theorem blk2 (c : Dev nD) (t : Fin cfg0.N) (r : Fin 256) (l : Fin 512) :
    iblk m c 2 t (ix2 r l) = (m ((c : Thread nD τ).loc main_arg1)) (ix2 ⟨256 * (t.val / 64 * 64 + (t.val % 64 - 1)) + r.val, by have := points t; omega⟩ l) := by
  blk_simp [iblk]
  rw [V_main_arg1]
  blk_ext [idx t]

/-- Window 3 holds a block of the keys. -/
theorem blk3 (c : Dev nD) (t : Fin cfg0.N) (r : Fin 256) (l : Fin 512) :
    iblk m c 3 t (ix2 r l) = (m ((c : Thread nD τ).loc main_arg1)) (ix2 ⟨256 * t.val + r.val, by have := points t; omega⟩ l) := by
  blk_simp [iblk]
  rw [V_main_arg1]
  blk_ext [idx t]

/-- Window 4 holds a block of the values two blocks back. -/
theorem blk4 (c : Dev nD) (t : Fin cfg0.N) (r : Fin 256) (l : Fin 512) :
    iblk m c 4 t (ix2 r l) = (m ((c : Thread nD τ).loc main_arg2)) (ix2 ⟨256 * (t.val / 64 * 64 + (t.val % 64 - 2)) + r.val, by have := points t; omega⟩ l) := by
  blk_simp [iblk]
  rw [V_main_arg2]
  blk_ext [idx t]

/-- Window 5 holds a block of the values one block back. -/
theorem blk5 (c : Dev nD) (t : Fin cfg0.N) (r : Fin 256) (l : Fin 512) :
    iblk m c 5 t (ix2 r l) = (m ((c : Thread nD τ).loc main_arg2)) (ix2 ⟨256 * (t.val / 64 * 64 + (t.val % 64 - 1)) + r.val, by have := points t; omega⟩ l) := by
  blk_simp [iblk]
  rw [V_main_arg2]
  blk_ext [idx t]

/-- Window 6 holds a block of the values. -/
theorem blk6 (c : Dev nD) (t : Fin cfg0.N) (r : Fin 256) (l : Fin 512) :
    iblk m c 6 t (ix2 r l) = (m ((c : Thread nD τ).loc main_arg2)) (ix2 ⟨256 * t.val + r.val, by have := points t; omega⟩ l) := by
  blk_simp [iblk]
  rw [V_main_arg2]
  blk_ext [idx t]

/-- The last window holds the biases. -/
theorem blk7 (c : Dev nD) (t : Fin cfg0.N) (h : Fin 8) (r : Fin 256) (j : Fin 768) :
    iblk m c 7 t (ix3 h r j) = if r.val / 64 ≤ j.val / 64 ∧ j.val / 64 ≤ r.val / 64 + 8 then
      Gather.look (m ((c : Thread nD τ).loc main_arg3)) h (apart r.val j.val) else ⊥ := by
  refine Eq.trans ?_ (bias_entry m c h r j)
  blk_simp [iblk]
  refine congrArg (V m c main_v32) ?_
  blk_ext [idx t]

/-- The three blocks of keys, one after another. -/
theorem keys_apply (x1 x2 x3 : Vec Ideal S256x512 .bf16) (j : Fin 768) (l : Fin 512) :
    k0_pay2 (F := Ideal) x1 x2 x3 (ix2 j l) = if h : j.val < 256 then x1 (ix2 ⟨j.val, h⟩ l)
      else if h' : j.val < 512 then x2 (ix2 ⟨j.val - 256, by omega⟩ l) else x3 (ix2 ⟨j.val - 512, by omega⟩ l) := by
  pointwise [k0_pay2]
  split_ifs
  all_goals first
    | rfl
    | (exfalso; omega)
    | rw [dif_pos (show j.val < 512 by omega)]
    | (rw [dif_neg (show ¬ j.val < 512 by omega)]
       exact congrArg x3 ((ix2_inj ..).2 ⟨Fin.ext (Nat.sub_sub _ _ _), rfl⟩))

/-- The three blocks of values, one after another. -/
theorem values_apply (x1 x2 x3 : Vec Ideal S256x512 .bf16) (j : Fin 768) (l : Fin 512) :
    k0_pay3 (F := Ideal) x1 x2 x3 (ix2 j l) = if h : j.val < 256 then x1 (ix2 ⟨j.val, h⟩ l)
      else if h' : j.val < 512 then x2 (ix2 ⟨j.val - 256, by omega⟩ l) else x3 (ix2 ⟨j.val - 512, by omega⟩ l) := by
  pointwise [k0_pay3]
  split_ifs
  all_goals first
    | rfl
    | (exfalso; omega)
    | rw [dif_pos (show j.val < 512 by omega)]
    | (rw [dif_neg (show ¬ j.val < 512 by omega)]
       exact congrArg x3 ((ix2_inj ..).2 ⟨Fin.ext (Nat.sub_sub _ _ _), rfl⟩))

/-- A load of a whole block is the block. -/
theorem ld_all (x : Vec Ideal S256x512 .bf16) (r : Fin 256) (l : Fin 512) : View.ld x r0_0 (ix2 r l) = x (ix2 r l) := by
  refine congrArg x (funext fun a => Fin.ext ((Rect.idx_unit_val _ _ _ _ a).trans ?_))
  match a with
  | ⟨0, _⟩ => exact Nat.zero_add _
  | ⟨1, _⟩ => exact Nat.zero_add _

/-- A load of pair 3's columns. -/
theorem ld_cols3 (x : Vec Ideal S256x512 .bf16) (r : Fin 256) (l : Fin 128) :
    View.ld x r0_10 (ix2 r l) = x (ix2 r ⟨128 * 3 + l.val, by omega⟩) := by
  refine congrArg x (funext fun a => Fin.ext ((Rect.idx_unit_val _ _ _ _ a).trans ?_))
  match a with
  | ⟨0, _⟩ => exact Nat.zero_add _
  | ⟨1, _⟩ => rfl

/-- A load of head 6's biases. -/
theorem ld_bias6 (x : Vec Ideal S8x256x768 .f32) (r : Fin 256) (j : Fin 768) :
    View.ld x r0_11 (ix3 0 r j) = x (ix3 ⟨2 * 3 + 0, by omega⟩ r j) := by
  refine congrArg x (funext fun a => Fin.ext ((Rect.idx_unit_val _ _ _ _ a).trans ?_))
  match a with
  | ⟨0, _⟩ => rfl
  | ⟨1, _⟩ => exact Nat.zero_add _
  | ⟨2, _⟩ => exact Nat.zero_add _

/-- A load of head 7's biases. -/
theorem ld_bias7 (x : Vec Ideal S8x256x768 .f32) (r : Fin 256) (j : Fin 768) :
    View.ld x r0_12 (ix3 0 r j) = x (ix3 ⟨2 * 3 + 1, by omega⟩ r j) := by
  refine congrArg x (funext fun a => Fin.ext ((Rect.idx_unit_val _ _ _ _ a).trans ?_))
  match a with
  | ⟨0, _⟩ => rfl
  | ⟨1, _⟩ => exact Nat.zero_add _
  | ⟨2, _⟩ => exact Nat.zero_add _

/-- Pair 3's columns of the keys. -/
theorem keys3 (K : FVec Ideal S768x512 .bf16) (j : Fin 768) (l : Fin 128) :
    k0_pay39 (F := Ideal) K (ix2 j l) = K (ix2 j ⟨128 * 3 + l.val, by omega⟩) := by
  pointwise [k0_pay39]

/-- Pair 3's columns of the values. -/
theorem values3 (K : FVec Ideal S768x512 .bf16) (j : Fin 768) (l : Fin 128) :
    k0_pay40 (F := Ideal) K (ix2 j l) = K (ix2 j ⟨128 * 3 + l.val, by omega⟩) := by
  pointwise [k0_pay40]

/-- A load of pair 2's columns. -/
theorem ld_cols2 (x : Vec Ideal S256x512 .bf16) (r : Fin 256) (l : Fin 128) :
    View.ld x r0_7 (ix2 r l) = x (ix2 r ⟨128 * 2 + l.val, by omega⟩) := by
  refine congrArg x (funext fun a => Fin.ext ((Rect.idx_unit_val _ _ _ _ a).trans ?_))
  match a with
  | ⟨0, _⟩ => exact Nat.zero_add _
  | ⟨1, _⟩ => rfl

/-- A load of head 4's biases. -/
theorem ld_bias4 (x : Vec Ideal S8x256x768 .f32) (r : Fin 256) (j : Fin 768) :
    View.ld x r0_8 (ix3 0 r j) = x (ix3 ⟨2 * 2 + 0, by omega⟩ r j) := by
  refine congrArg x (funext fun a => Fin.ext ((Rect.idx_unit_val _ _ _ _ a).trans ?_))
  match a with
  | ⟨0, _⟩ => rfl
  | ⟨1, _⟩ => exact Nat.zero_add _
  | ⟨2, _⟩ => exact Nat.zero_add _

/-- A load of head 5's biases. -/
theorem ld_bias5 (x : Vec Ideal S8x256x768 .f32) (r : Fin 256) (j : Fin 768) :
    View.ld x r0_9 (ix3 0 r j) = x (ix3 ⟨2 * 2 + 1, by omega⟩ r j) := by
  refine congrArg x (funext fun a => Fin.ext ((Rect.idx_unit_val _ _ _ _ a).trans ?_))
  match a with
  | ⟨0, _⟩ => rfl
  | ⟨1, _⟩ => exact Nat.zero_add _
  | ⟨2, _⟩ => exact Nat.zero_add _

/-- Pair 2's columns of the keys. -/
theorem keys2 (K : FVec Ideal S768x512 .bf16) (j : Fin 768) (l : Fin 128) :
    k0_pay29 (F := Ideal) K (ix2 j l) = K (ix2 j ⟨128 * 2 + l.val, by omega⟩) := by
  pointwise [k0_pay29]

/-- Pair 2's columns of the values. -/
theorem values2 (K : FVec Ideal S768x512 .bf16) (j : Fin 768) (l : Fin 128) :
    k0_pay30 (F := Ideal) K (ix2 j l) = K (ix2 j ⟨128 * 2 + l.val, by omega⟩) := by
  pointwise [k0_pay30]

/-- A load of pair 1's columns. -/
theorem ld_cols1 (x : Vec Ideal S256x512 .bf16) (r : Fin 256) (l : Fin 128) :
    View.ld x r0_4 (ix2 r l) = x (ix2 r ⟨128 * 1 + l.val, by omega⟩) := by
  refine congrArg x (funext fun a => Fin.ext ((Rect.idx_unit_val _ _ _ _ a).trans ?_))
  match a with
  | ⟨0, _⟩ => exact Nat.zero_add _
  | ⟨1, _⟩ => rfl

/-- A load of head 2's biases. -/
theorem ld_bias2 (x : Vec Ideal S8x256x768 .f32) (r : Fin 256) (j : Fin 768) :
    View.ld x r0_5 (ix3 0 r j) = x (ix3 ⟨2 * 1 + 0, by omega⟩ r j) := by
  refine congrArg x (funext fun a => Fin.ext ((Rect.idx_unit_val _ _ _ _ a).trans ?_))
  match a with
  | ⟨0, _⟩ => rfl
  | ⟨1, _⟩ => exact Nat.zero_add _
  | ⟨2, _⟩ => exact Nat.zero_add _

/-- A load of head 3's biases. -/
theorem ld_bias3 (x : Vec Ideal S8x256x768 .f32) (r : Fin 256) (j : Fin 768) :
    View.ld x r0_6 (ix3 0 r j) = x (ix3 ⟨2 * 1 + 1, by omega⟩ r j) := by
  refine congrArg x (funext fun a => Fin.ext ((Rect.idx_unit_val _ _ _ _ a).trans ?_))
  match a with
  | ⟨0, _⟩ => rfl
  | ⟨1, _⟩ => exact Nat.zero_add _
  | ⟨2, _⟩ => exact Nat.zero_add _

/-- Pair 1's columns of the keys. -/
theorem keys1 (K : FVec Ideal S768x512 .bf16) (j : Fin 768) (l : Fin 128) :
    k0_pay16 (F := Ideal) K (ix2 j l) = K (ix2 j ⟨128 * 1 + l.val, by omega⟩) := by
  pointwise [k0_pay16]

/-- Pair 1's columns of the values. -/
theorem values1 (K : FVec Ideal S768x512 .bf16) (j : Fin 768) (l : Fin 128) :
    k0_pay17 (F := Ideal) K (ix2 j l) = K (ix2 j ⟨128 * 1 + l.val, by omega⟩) := by
  pointwise [k0_pay17]

/-- A load of pair 0's columns. -/
theorem ld_cols0 (x : Vec Ideal S256x512 .bf16) (r : Fin 256) (l : Fin 128) :
    View.ld x r0_1 (ix2 r l) = x (ix2 r ⟨128 * 0 + l.val, by omega⟩) := by
  refine congrArg x (funext fun a => Fin.ext ((Rect.idx_unit_val _ _ _ _ a).trans ?_))
  match a with
  | ⟨0, _⟩ => exact Nat.zero_add _
  | ⟨1, _⟩ => rfl

/-- A load of head 0's biases. -/
theorem ld_bias0 (x : Vec Ideal S8x256x768 .f32) (r : Fin 256) (j : Fin 768) :
    View.ld x r0_2 (ix3 0 r j) = x (ix3 ⟨2 * 0 + 0, by omega⟩ r j) := by
  refine congrArg x (funext fun a => Fin.ext ((Rect.idx_unit_val _ _ _ _ a).trans ?_))
  match a with
  | ⟨0, _⟩ => rfl
  | ⟨1, _⟩ => exact Nat.zero_add _
  | ⟨2, _⟩ => exact Nat.zero_add _

/-- A load of head 1's biases. -/
theorem ld_bias1 (x : Vec Ideal S8x256x768 .f32) (r : Fin 256) (j : Fin 768) :
    View.ld x r0_3 (ix3 0 r j) = x (ix3 ⟨2 * 0 + 1, by omega⟩ r j) := by
  refine congrArg x (funext fun a => Fin.ext ((Rect.idx_unit_val _ _ _ _ a).trans ?_))
  match a with
  | ⟨0, _⟩ => rfl
  | ⟨1, _⟩ => exact Nat.zero_add _
  | ⟨2, _⟩ => exact Nat.zero_add _

/-- Pair 0's columns of the keys. -/
theorem keys0 (K : FVec Ideal S768x512 .bf16) (j : Fin 768) (l : Fin 128) :
    k0_pay6 (F := Ideal) K (ix2 j l) = K (ix2 j ⟨128 * 0 + l.val, by omega⟩) := by
  pointwise [k0_pay6]

/-- Pair 0's columns of the values. -/
theorem values0 (K : FVec Ideal S768x512 .bf16) (j : Fin 768) (l : Fin 128) :
    k0_pay7 (F := Ideal) K (ix2 j l) = K (ix2 j ⟨128 * 0 + l.val, by omega⟩) := by
  pointwise [k0_pay7]

/-- The window of keys at a grid point. -/
theorem keys_point (c : Dev nD) (t : Fin cfg0.N) (j : Fin 768) (l : Fin 512) (h : 512 ≤ j.val + 256 * (t.val % 64)) :
    k0_pay2 (F := Ideal) (View.ld (iblk m c 1 t) r0_0) (View.ld (iblk m c 2 t) r0_0) (View.ld (iblk m c 3 t) r0_0) (ix2 j l)
      = (m ((c : Thread nD τ).loc main_arg1))
          (ix2 ⟨t.val / 64 * 16384 + (256 * (t.val % 64) + j.val - 512), by have := points t; omega⟩ l) := by
  rw [keys_apply]
  split_ifs
  · rw [ld_all]
    refine (blk1 m c t _ _).trans (congrArg _ ((ix2_inj ..).2 ⟨Fin.ext ?_, rfl⟩))
    dsimp only
    omega
  · rw [ld_all]
    refine (blk2 m c t _ _).trans (congrArg _ ((ix2_inj ..).2 ⟨Fin.ext ?_, rfl⟩))
    dsimp only
    omega
  · rw [ld_all]
    refine (blk3 m c t _ _).trans (congrArg _ ((ix2_inj ..).2 ⟨Fin.ext ?_, rfl⟩))
    dsimp only
    omega

/-- The window of values at a grid point. -/
theorem values_point (c : Dev nD) (t : Fin cfg0.N) (j : Fin 768) (l : Fin 512) (h : 512 ≤ j.val + 256 * (t.val % 64)) :
    k0_pay3 (F := Ideal) (View.ld (iblk m c 4 t) r0_0) (View.ld (iblk m c 5 t) r0_0) (View.ld (iblk m c 6 t) r0_0) (ix2 j l)
      = (m ((c : Thread nD τ).loc main_arg2))
          (ix2 ⟨t.val / 64 * 16384 + (256 * (t.val % 64) + j.val - 512), by have := points t; omega⟩ l) := by
  rw [values_apply]
  split_ifs
  · rw [ld_all]
    refine (blk4 m c t _ _).trans (congrArg _ ((ix2_inj ..).2 ⟨Fin.ext ?_, rfl⟩))
    dsimp only
    omega
  · rw [ld_all]
    refine (blk5 m c t _ _).trans (congrArg _ ((ix2_inj ..).2 ⟨Fin.ext ?_, rfl⟩))
    dsimp only
    omega
  · rw [ld_all]
    refine (blk6 m c t _ _).trans (congrArg _ ((ix2_inj ..).2 ⟨Fin.ext ?_, rfl⟩))
    dsimp only
    omega

/-- Pair 3's block at a grid point is the reference's result there. -/
theorem piece3 (c : Dev nD) (t : Fin cfg0.N) (r : Fin 256) (l : Fin 128)
    (hf0 : ∀ i, ∃ a : ℝ, (m ((c : Thread nD τ).loc main_arg0) : FVec Ideal S33280x512 .bf16) i = (a : EReal))
    (hf1 : ∀ i, ∃ a : ℝ, (m ((c : Thread nD τ).loc main_arg1) : FVec Ideal S33280x512 .bf16) i = (a : EReal))
    (hf3 : ∀ i, ∃ a : ℝ, (m ((c : Thread nD τ).loc main_arg3) : FVec Ideal S1x8x513 .f32) i = (a : EReal)) :
    pair (k0_pay5 (F := Ideal) (k0_pay4 (grid0.coords t)) 0#32) (View.ld (iblk m c 0 t) r0_10)
        (k0_pay39 (k0_pay2 (View.ld (iblk m c 1 t) r0_0) (View.ld (iblk m c 2 t) r0_0) (View.ld (iblk m c 3 t) r0_0)))
        (k0_pay40 (k0_pay3 (View.ld (iblk m c 4 t) r0_0) (View.ld (iblk m c 5 t) r0_0) (View.ld (iblk m c 6 t) r0_0)))
        (View.ld (iblk m c 7 t) r0_11) (View.ld (iblk m c 7 t) r0_12) (ix2 r l)
      = val_main_v81 (F := Ideal) (m ((c : Thread nD τ).loc main_arg0)) (m ((c : Thread nD τ).loc main_arg1)) (m ((c : Thread nD τ).loc main_arg2))
          (m ((c : Thread nD τ).loc main_arg3))
          (ix2 ⟨256 * t.val + r.val, by have := points t; omega⟩ ⟨128 * 3 + l.val, by omega⟩) := by
  refine pair_eq _ _ _ _ ⟨t.val, points t⟩ ⟨3, by decide⟩ _ _ _ _ _ _ (fun j => ?_) (fun r l => ?_) (fun j l h => ?_) (fun j l h => ?_)
    (fun r j => ?_) (fun r j => ?_) hf0 hf1 hf3 r l
  · rw [start_apply, (idx t).2.2.2.2.2.2.2.2.2]
  · exact (ld_cols3 _ r l).trans (blk0 m c t r _)
  · exact (keys3 _ j l).trans (keys_point m c t j _ h)
  · exact (values3 _ j l).trans (values_point m c t j _ h)
  · exact (ld_bias6 _ r j).trans (blk7 m c t _ r j)
  · exact (ld_bias7 _ r j).trans (blk7 m c t _ r j)

/-- Pair 2's block at a grid point is the reference's result there. -/
theorem piece2 (c : Dev nD) (t : Fin cfg0.N) (r : Fin 256) (l : Fin 128)
    (hf0 : ∀ i, ∃ a : ℝ, (m ((c : Thread nD τ).loc main_arg0) : FVec Ideal S33280x512 .bf16) i = (a : EReal))
    (hf1 : ∀ i, ∃ a : ℝ, (m ((c : Thread nD τ).loc main_arg1) : FVec Ideal S33280x512 .bf16) i = (a : EReal))
    (hf3 : ∀ i, ∃ a : ℝ, (m ((c : Thread nD τ).loc main_arg3) : FVec Ideal S1x8x513 .f32) i = (a : EReal)) :
    pair (k0_pay5 (F := Ideal) (k0_pay4 (grid0.coords t)) 0#32) (View.ld (iblk m c 0 t) r0_7)
        (k0_pay29 (k0_pay2 (View.ld (iblk m c 1 t) r0_0) (View.ld (iblk m c 2 t) r0_0) (View.ld (iblk m c 3 t) r0_0)))
        (k0_pay30 (k0_pay3 (View.ld (iblk m c 4 t) r0_0) (View.ld (iblk m c 5 t) r0_0) (View.ld (iblk m c 6 t) r0_0)))
        (View.ld (iblk m c 7 t) r0_8) (View.ld (iblk m c 7 t) r0_9) (ix2 r l)
      = val_main_v81 (F := Ideal) (m ((c : Thread nD τ).loc main_arg0)) (m ((c : Thread nD τ).loc main_arg1)) (m ((c : Thread nD τ).loc main_arg2))
          (m ((c : Thread nD τ).loc main_arg3))
          (ix2 ⟨256 * t.val + r.val, by have := points t; omega⟩ ⟨128 * 2 + l.val, by omega⟩) := by
  refine pair_eq _ _ _ _ ⟨t.val, points t⟩ ⟨2, by decide⟩ _ _ _ _ _ _ (fun j => ?_) (fun r l => ?_) (fun j l h => ?_) (fun j l h => ?_)
    (fun r j => ?_) (fun r j => ?_) hf0 hf1 hf3 r l
  · rw [start_apply, (idx t).2.2.2.2.2.2.2.2.2]
  · exact (ld_cols2 _ r l).trans (blk0 m c t r _)
  · exact (keys2 _ j l).trans (keys_point m c t j _ h)
  · exact (values2 _ j l).trans (values_point m c t j _ h)
  · exact (ld_bias4 _ r j).trans (blk7 m c t _ r j)
  · exact (ld_bias5 _ r j).trans (blk7 m c t _ r j)

/-- Pair 1's block at a grid point is the reference's result there. -/
theorem piece1 (c : Dev nD) (t : Fin cfg0.N) (r : Fin 256) (l : Fin 128)
    (hf0 : ∀ i, ∃ a : ℝ, (m ((c : Thread nD τ).loc main_arg0) : FVec Ideal S33280x512 .bf16) i = (a : EReal))
    (hf1 : ∀ i, ∃ a : ℝ, (m ((c : Thread nD τ).loc main_arg1) : FVec Ideal S33280x512 .bf16) i = (a : EReal))
    (hf3 : ∀ i, ∃ a : ℝ, (m ((c : Thread nD τ).loc main_arg3) : FVec Ideal S1x8x513 .f32) i = (a : EReal)) :
    pair (k0_pay5 (F := Ideal) (k0_pay4 (grid0.coords t)) 0#32) (View.ld (iblk m c 0 t) r0_4)
        (k0_pay16 (k0_pay2 (View.ld (iblk m c 1 t) r0_0) (View.ld (iblk m c 2 t) r0_0) (View.ld (iblk m c 3 t) r0_0)))
        (k0_pay17 (k0_pay3 (View.ld (iblk m c 4 t) r0_0) (View.ld (iblk m c 5 t) r0_0) (View.ld (iblk m c 6 t) r0_0)))
        (View.ld (iblk m c 7 t) r0_5) (View.ld (iblk m c 7 t) r0_6) (ix2 r l)
      = val_main_v81 (F := Ideal) (m ((c : Thread nD τ).loc main_arg0)) (m ((c : Thread nD τ).loc main_arg1)) (m ((c : Thread nD τ).loc main_arg2))
          (m ((c : Thread nD τ).loc main_arg3))
          (ix2 ⟨256 * t.val + r.val, by have := points t; omega⟩ ⟨128 * 1 + l.val, by omega⟩) := by
  refine pair_eq _ _ _ _ ⟨t.val, points t⟩ ⟨1, by decide⟩ _ _ _ _ _ _ (fun j => ?_) (fun r l => ?_) (fun j l h => ?_) (fun j l h => ?_)
    (fun r j => ?_) (fun r j => ?_) hf0 hf1 hf3 r l
  · rw [start_apply, (idx t).2.2.2.2.2.2.2.2.2]
  · exact (ld_cols1 _ r l).trans (blk0 m c t r _)
  · exact (keys1 _ j l).trans (keys_point m c t j _ h)
  · exact (values1 _ j l).trans (values_point m c t j _ h)
  · exact (ld_bias2 _ r j).trans (blk7 m c t _ r j)
  · exact (ld_bias3 _ r j).trans (blk7 m c t _ r j)

/-- Pair 0's block at a grid point is the reference's result there. -/
theorem piece0 (c : Dev nD) (t : Fin cfg0.N) (r : Fin 256) (l : Fin 128)
    (hf0 : ∀ i, ∃ a : ℝ, (m ((c : Thread nD τ).loc main_arg0) : FVec Ideal S33280x512 .bf16) i = (a : EReal))
    (hf1 : ∀ i, ∃ a : ℝ, (m ((c : Thread nD τ).loc main_arg1) : FVec Ideal S33280x512 .bf16) i = (a : EReal))
    (hf3 : ∀ i, ∃ a : ℝ, (m ((c : Thread nD τ).loc main_arg3) : FVec Ideal S1x8x513 .f32) i = (a : EReal)) :
    pair (k0_pay5 (F := Ideal) (k0_pay4 (grid0.coords t)) 0#32) (View.ld (iblk m c 0 t) r0_1)
        (k0_pay6 (k0_pay2 (View.ld (iblk m c 1 t) r0_0) (View.ld (iblk m c 2 t) r0_0) (View.ld (iblk m c 3 t) r0_0)))
        (k0_pay7 (k0_pay3 (View.ld (iblk m c 4 t) r0_0) (View.ld (iblk m c 5 t) r0_0) (View.ld (iblk m c 6 t) r0_0)))
        (View.ld (iblk m c 7 t) r0_2) (View.ld (iblk m c 7 t) r0_3) (ix2 r l)
      = val_main_v81 (F := Ideal) (m ((c : Thread nD τ).loc main_arg0)) (m ((c : Thread nD τ).loc main_arg1)) (m ((c : Thread nD τ).loc main_arg2))
          (m ((c : Thread nD τ).loc main_arg3))
          (ix2 ⟨256 * t.val + r.val, by have := points t; omega⟩ ⟨128 * 0 + l.val, by omega⟩) := by
  refine pair_eq _ _ _ _ ⟨t.val, points t⟩ ⟨0, by decide⟩ _ _ _ _ _ _ (fun j => ?_) (fun r l => ?_) (fun j l h => ?_) (fun j l h => ?_)
    (fun r j => ?_) (fun r j => ?_) hf0 hf1 hf3 r l
  · rw [start_apply, (idx t).2.2.2.2.2.2.2.2.2]
  · exact (ld_cols0 _ r l).trans (blk0 m c t r _)
  · exact (keys0 _ j l).trans (keys_point m c t j _ h)
  · exact (values0 _ j l).trans (values_point m c t j _ h)
  · exact (ld_bias0 _ r j).trans (blk7 m c t _ r j)
  · exact (ld_bias1 _ r j).trans (blk7 m c t _ r j)

/-- What a grid point stores. -/
theorem point8 (c : Dev nD) (t : Fin cfg0.N) (r : Fin 256) (l : Fin 512)
    (hf0 : ∀ i, ∃ a : ℝ, (m ((c : Thread nD τ).loc main_arg0) : FVec Ideal S33280x512 .bf16) i = (a : EReal))
    (hf1 : ∀ i, ∃ a : ℝ, (m ((c : Thread nD τ).loc main_arg1) : FVec Ideal S33280x512 .bf16) i = (a : EReal))
    (hf3 : ∀ i, ∃ a : ℝ, (m ((c : Thread nD τ).loc main_arg3) : FVec Ideal S1x8x513 .f32) i = (a : EReal)) :
    out0_8 (F := Ideal) (grid0.coords t) (iblk m c 0 t) (iblk m c 1 t) (iblk m c 2 t) (iblk m c 3 t) (iblk m c 4 t) (iblk m c 5 t)
        (iblk m c 6 t) (iblk m c 7 t) (ix2 r l)
      = val_main_v81 (F := Ideal) (m ((c : Thread nD τ).loc main_arg0)) (m ((c : Thread nD τ).loc main_arg1)) (m ((c : Thread nD τ).loc main_arg2))
          (m ((c : Thread nD τ).loc main_arg3))
          (ix2 ⟨256 * t.val + r.val, by have := points t; omega⟩ l) := by
  unfold_out out0_8
  canon_tiles x h
  all_goals idx_vars x
  · obtain rfl : r = x0 := Fin.ext h0
    obtain rfl : l = ⟨128 * 3 + x1.val, Nat.add_lt_add_left x1.isLt (128 * 3)⟩ := Fin.ext (h1)
    refine (congrFun (pair3 _ _ _ _ _ _) (ix2 r x1)).trans (piece3 m c t r x1 hf0 hf1 hf3)
  · obtain rfl : r = x0 := Fin.ext h0
    obtain rfl : l = ⟨128 * 2 + x1.val, Nat.lt_trans (Nat.add_lt_add_left x1.isLt (128 * 2)) (by decide)⟩ := Fin.ext (h1)
    refine (congrFun (pair2 _ _ _ _ _ _) (ix2 r x1)).trans (piece2 m c t r x1 hf0 hf1 hf3)
  · obtain rfl : r = x0 := Fin.ext h0
    obtain rfl : l = ⟨128 * 1 + x1.val, Nat.lt_trans (Nat.add_lt_add_left x1.isLt (128 * 1)) (by decide)⟩ := Fin.ext (h1)
    refine (congrFun (pair1 _ _ _ _ _ _) (ix2 r x1)).trans (piece1 m c t r x1 hf0 hf1 hf3)
  · obtain rfl : r = x0 := Fin.ext h0
    obtain rfl : l = ⟨128 * 0 + x1.val, Nat.lt_trans (Nat.add_lt_add_left x1.isLt (128 * 0)) (by decide)⟩ := Fin.ext (h1.trans (Nat.zero_add _).symm)
    refine (congrFun (pair0 _ _ _ _ _ _) (ix2 r x1)).trans (piece0 m c t r x1 hf0 hf1 hf3)

/-- The result's array after the run. -/
theorem final8 (c : Dev nD)
    (hf0 : ∀ i, ∃ a : ℝ, (m ((c : Thread nD τ).loc main_arg0) : FVec Ideal S33280x512 .bf16) i = (a : EReal))
    (hf1 : ∀ i, ∃ a : ℝ, (m ((c : Thread nD τ).loc main_arg1) : FVec Ideal S33280x512 .bf16) i = (a : EReal))
    (hf3 : ∀ i, ∃ a : ℝ, (m ((c : Thread nD τ).loc main_arg3) : FVec Ideal S1x8x513 .f32) i = (a : EReal)) :
    (dats m 0 c).arrAt 8 (cfgs 0).N
      = val_main_v81 (F := Ideal) (m ((c : Thread nD τ).loc main_arg0)) (m ((c : Thread nD τ).loc main_arg1)) (m ((c : Thread nD τ).loc main_arg2))
          (m ((c : Thread nD τ).loc main_arg3)) := by
  refine (dats m 0 c).arrAt_eq_of_covers 8 _ (by decide +kernel) fun t _ y => ?_
  blk_simp
  rw [after0_8]
  idx_vars y
  refine (point8 m c t y0 y1 hf0 hf1 hf3).trans ?_
  blk_ext [idx t]

end Cert.AttnKernelIdeal.Bridge
end
-- ==== Proof.AttnClaim.lean ====
module

public import proofs.«01_k».proof.Defs
public import proofs.«01_k».proof.Proof.AttnValue
public import proofs.«01_k».proof.Proof.Gen.AttnReferenceIdeal.Run
public import proofs.«01_k».proof.Proof.Gen.Pre_attn_finite
public import Idealize.ShloMosaic.Lib.ReduceAll
public import Idealize.ShloMosaic.Lib.Claim

@[expose] public section

set_option maxRecDepth 16384
noncomputable section
open Idealize.ShloMosaic Idealize.ShloMosaic.TcCoe Idealize.SL.Sem

namespace Cert.AttnReferenceIdeal.Named
open Cert.AttnReferenceIdeal Cert.AttnReferenceIdeal.Gen Cert.AttnReferenceIdeal.Read

/-- The reference's run, its result by the name of its stage. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81) = val_main_v81 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (val_main_v81_eq _ _), (h c).2⟩) (Value.run m ρ)

end Cert.AttnReferenceIdeal.Named

namespace Cert.Finite

/-- An extended real whose absolute value is below plus infinity is real. -/
theorem real_of_lt (x : EReal) (h : Ideal.cmp .olt (max x (-x)) (Ideal.ofBits .f32 0x7F800000#32) = 1#1) : ∃ a : ℝ, x = a := by
  have e : Ideal.ofBits .f32 0x7F800000#32 = ⊤ := by simp [Ideal.ofBits, Ideal.ieee]
  rw [e] at h
  induction x with
  | bot => simp [Ideal.cmp] at h
  | top => simp [Ideal.cmp] at h
  | coe a => exact ⟨a, rfl⟩

/-- Both flags are set when their conjunction is. -/
theorem both : ∀ a b : BitVec 1, IntOp.andi a b = 1#1 → a = 1#1 ∧ b = 1#1 := by decide +kernel

end Cert.Finite

namespace Cert.Pre_attn_finite.Real
open Cert.Pre_attn_finite Cert.Finite
attribute [local instance] Cert.Pre_attn_finite.Gen.facts

/-- The precondition says that the queries, the keys and the biases are real. -/
theorem finite (x0 x1 x2 : FVec Ideal S33280x512 .bf16) (x3 : FVec Ideal S1x8x513 .f32)
    (h : fn (F := Ideal) x0 x1 x2 x3 = fun _ => 1#1) :
    (∀ i, ∃ a : ℝ, x0 i = (a : EReal)) ∧ (∀ i, ∃ a : ℝ, x1 i = (a : EReal)) ∧ ∀ i, ∃ a : ℝ, x3 i = (a : EReal) := by
  have h0 := congrFun h ix0
  unfold fn at h0
  obtain ⟨h01, h3⟩ := both _ _ h0
  obtain ⟨h0, h1⟩ := both _ _ h01
  refine ⟨fun i => real_of_lt _ ?_, fun i => real_of_lt _ ?_, fun i => real_of_lt _ ?_⟩
  · exact Host.reduce_andi_all _ _ _ _ _ h0 i
  · exact Host.reduce_andi_all _ _ _ _ _ h1 i
  · exact Host.reduce_andi_all _ _ _ _ _ h3 i

end Cert.Pre_attn_finite.Real

namespace Cert.Proof
attribute [local instance] Cert.AttnKernelIdeal.Gen.facts Cert.AttnReferenceIdeal.Gen.facts Cert.Pre_attn_finite.Gen.facts

/-- The named constant of the mask stands for minus infinity. -/
theorem preserves_attn : Cert.preserves_AttnKernel_AttnKernelIdeal :=
  IdealRules.named_const.statement Cert.AttnKernelIdeal.κ "mask" .f32 0xF149F2CA#32 ⊥ rfl

set_option maxHeartbeats 2000000 in
/-- The attention kernel and its reference give equal results over the extended reals. -/
theorem algebraic_attn : Cert.algebraic_AttnKernelIdeal_AttnReferenceIdeal_pre_attn_finite := by
  pair_intro
  · run_from Cert.AttnKernelIdeal.Gen.run_main m g
    exact Cert.AttnKernelIdeal.Gen.V_main_arg3 m c
  · refine (θ_run _ _ _).mono (fun r h c => ?_) (Cert.AttnReferenceIdeal.Named.run_named m' g')
    obtain ⟨h0, hr⟩ := h c
    obtain ⟨a0, a1, a2, a3⟩ := hagree c
    obtain ⟨f0, f1, f3⟩ := Cert.Pre_attn_finite.Real.finite _ _ _ _ (hpre c)
    rw [a0, a1, a2, a3] at h0
    exact ⟨h0.trans (Cert.AttnKernelIdeal.Bridge.final8 m c f0 f1 f3).symm, hr⟩

end Cert.Proof
end
-- ==== Proof.ProjPure.lean ====
module

public import proofs.«01_k».proof.Proof.Gen.ProjKernelIdeal.Skeleton
public import proofs.«01_k».proof.Proof.Gen.ProjReferenceIdeal.Read
public import Idealize.ShloMosaic.Lib.Pointwise

@[expose] public section

set_option maxRecDepth 16384
noncomputable section
open Idealize.ShloMosaic Idealize.ShloMosaic.TcCoe Idealize.SL.Sem

namespace Cert.ProjKernelIdeal.Pure
open Cert.ProjKernelIdeal Cert.ProjKernelIdeal.Gen

/-- One normalized element: the row's element over the root of the row's mean square, times the gain. -/
def normed (row gain : Fin 1024 → EReal) (l : Fin 1024) : EReal :=
  row l * Ideal.rsqrt (Ideal.div (∑ k, row k * row k) (Ideal.ofBits .f32 0x44800000#32) + Ideal.ofBits .f32 0x358637BD#32) * gain l

/-- The kernel's normalized block, read at a row and a column. -/
theorem norm_pay (i : grid0.Coords) (a b : FVec Ideal S512x1024 .f32) (g : FVec Ideal S1x1024 .f32) (r : Fin 512) (l : Fin 1024) :
    k0_pay4 (F := Ideal) i a b g (ix2 r l)
      = normed (fun k => Scalar.select (Scalar.cmpi .slt (BitVec.ofNat 32 (i 0).val) 64#32) (a (ix2 r k)) (b (ix2 r k))) (fun k => g (ix2 0 k)) l := by
  pointwise [k0_pay4, normed]

end Cert.ProjKernelIdeal.Pure

namespace Cert.ProjReferenceIdeal.Pure
open Cert.ProjReferenceIdeal Cert.ProjReferenceIdeal.Read
variable (x0 : FVec Ideal S2x16384x1024 .f32) (x1 : FVec Ideal S32x16x1024 .f32) (x2 : FVec Ideal S1x1024 .f32)
variable (x3 : FVec Ideal S1x1024x4608 .f32) (x4 : FVec Ideal S1x4608 .f32)

/-- A row of the joined token matrix. -/
theorem row_ref (R : Fin 33280) (l : Fin 1024) :
    val_main_v2 (F := Ideal) x0 x1 (ix2 R l)
      = if h : (R : ℕ) < 32768 then x0 (ix3 ⟨(R : ℕ) / 16384, by omega⟩ ⟨(R : ℕ) % 16384, by omega⟩ l)
        else x1 (ix3 ⟨((R : ℕ) - 32768) / 16, by omega⟩ ⟨((R : ℕ) - 32768) % 16, by omega⟩ l) := by
  pointwise [val_main_v2, val_main_v0, val_main_v1]

/-- The reference's normalized rows. -/
theorem norm_ref (R : Fin 33280) (l : Fin 1024) :
    val_main_v16 (F := Ideal) x0 x1 x2 (ix2 R l)
      = Cert.ProjKernelIdeal.Pure.normed (fun k => val_main_v2 (F := Ideal) x0 x1 (ix2 R k)) (fun k => x2 (ix2 0 k)) l := by
  pointwise [val_main_v16, val_main_v15, val_main_v14, val_main_v13, val_main_v12, val_main_v11, val_main_v10, val_main_v9, val_main_v8,
    val_main_v7, val_main_v6, val_main_v5, val_main_v4, val_main_v3, val_main_cst, val_main_cst_0, val_main_cst_1, Cert.ProjKernelIdeal.Pure.normed]

/-- The reference's projection, all columns. -/
theorem proj_ref (R : Fin 33280) (l : Fin 4608) :
    val_main_v22 (F := Ideal) x0 x1 x2 x3 x4 (ix2 R l)
      = (∑ k : Fin 1024, val_main_v16 (F := Ideal) x0 x1 x2 (ix2 R k) * x3 (ix3 0 k l)) + x4 (ix2 0 l) := by
  pointwise [val_main_v22, val_main_v21, val_main_v20, val_main_v19, val_main_v18, val_main_v17]

end Cert.ProjReferenceIdeal.Pure
-- ==== Proof.ProjValue.lean ====
module

public import proofs.«01_k».proof.Proof.Gen.ProjKernelIdeal.Frame
public import proofs.«01_k».proof.Proof.ProjPure
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.ProjKernelIdeal.Bridge
open Cert.ProjKernelIdeal Cert.ProjKernelIdeal.Gen Cert.ProjKernelIdeal.Pure
open Cert.ProjReferenceIdeal.Read
variable (m : (ℓ : Loc nD τ sig) → Buf (Elt Ideal) ℓ)

/-- The block each window holds at a grid point. -/
theorem idx : ∀ t : Fin cfg0.N, win0_0.index t = ![min t.val 63, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ (grid0.coords t 0).val = t.val :=
  (by decide +kernel : ∀ t : Fin grid0.N, _)

/-- The body's comparison of the grid point with 64. -/
theorem low : ∀ t : Fin cfg0.N, Scalar.cmpi .slt (BitVec.ofNat 32 (grid0.coords t 0).val) 64#32 = if t.val < 64 then 1#1 else 0#1 :=
  (by decide +kernel : ∀ t : Fin grid0.N, _)

/-- The first window's block is a stretch of the prompt's rows. -/
theorem blk0 (c : Dev nD) (t : Fin cfg0.N) (r : Fin 512) (k : Fin 1024) (h : t.val < 64) :
    iblk m c 0 t (ix2 r k) = (m ((c : Thread nD τ).loc main_arg0)) (ix3 ⟨(512 * t.val + r.val) / 16384, by omega⟩ ⟨(512 * t.val + r.val) % 16384, by omega⟩ k) := by
  blk_simp [iblk]
  entry_read
  pointwise
  blk_ext [idx t]

/-- The second window's block is all the sample rows. -/
theorem blk1 (c : Dev nD) (t : Fin cfg0.N) (r : Fin 512) (k : Fin 1024) :
    iblk m c 1 t (ix2 r k) = (m ((c : Thread nD τ).loc main_arg1)) (ix3 ⟨r.val / 16, by omega⟩ ⟨r.val % 16, by omega⟩ k) := by
  blk_simp [iblk]
  entry_read
  pointwise
  blk_ext [idx t]

/-- The third window's block is the gain. -/
theorem blk2 (c : Dev nD) (t : Fin cfg0.N) (k : Fin 1024) :
    iblk m c 2 t (ix2 0 k) = (m ((c : Thread nD τ).loc main_arg2)) (ix2 0 k) := by
  blk_simp [iblk]
  entry_read
  pointwise
  blk_ext [idx t]

/-- A row of a block is a row of the array. -/
theorem inRange (t : Fin cfg0.N) (r : Fin 512) : 512 * t.val + r.val < 33280 := by
  have h : t.val < 65 := t.isLt
  omega

/-- The kernel's normalized block at a grid point is the reference's normalized rows there. -/
theorem norm_point (c : Dev nD) (t : Fin cfg0.N) (r : Fin 512) (l : Fin 1024) :
    k0_pay4 (F := Ideal) (grid0.coords t) (iblk m c 0 t) (iblk m c 1 t) (iblk m c 2 t) (ix2 r l)
      = val_main_v16 (F := Ideal) (m ((c : Thread nD τ).loc main_arg0)) (m ((c : Thread nD τ).loc main_arg1)) (m ((c : Thread nD τ).loc main_arg2))
          (ix2 ⟨512 * t.val + r.val, inRange t r⟩ l) := by
  refine (norm_pay _ _ _ _ r l).trans (Eq.trans ?_ (Cert.ProjReferenceIdeal.Pure.norm_ref _ _ _ _ _).symm)
  refine congrArg₂ (fun a b => normed a b l) (funext fun k => ?_) (funext fun k => ?_)
  · refine Eq.trans ?_ (Cert.ProjReferenceIdeal.Pure.row_ref _ _ _ _).symm
    have h65 : t.val < 65 := t.isLt
    rw [low t]
    by_cases h : t.val < 64
    · rw [dif_pos (by show 512 * t.val + r.val < 32768; omega), if_pos h]
      exact blk0 m c t r k h
    · rw [dif_neg (by show ¬ 512 * t.val + r.val < 32768; omega), if_neg h]
      refine (blk1 m c t r k).trans (congrArg _ ?_)
      have h64 : t.val = 64 := by omega
      exact (ix3_inj ..).2 ⟨Fin.ext (by show r.val / 16 = (512 * t.val + r.val - 32768) / 16; omega),
        Fin.ext (by show r.val % 16 = (512 * t.val + r.val - 32768) % 16; omega), rfl⟩
  · exact blk2 m c t k

/-- The fourth window's block is the projection's matrix. -/
theorem blk3 (c : Dev nD) (t : Fin cfg0.N) (k : Fin 1024) (l : Fin 4608) :
    iblk m c 3 t (ix2 k l) = (m ((c : Thread nD τ).loc main_arg3)) (ix3 0 k l) := by
  blk_simp [iblk]
  entry_read
  pointwise
  blk_ext [idx t]

/-- The fifth window's block is the bias. -/
theorem blk4 (c : Dev nD) (t : Fin cfg0.N) (l : Fin 4608) :
    iblk m c 4 t (ix2 0 l) = (m ((c : Thread nD τ).loc main_arg4)) (ix2 0 l) := by
  blk_simp [iblk]
  entry_read
  pointwise
  blk_ext [idx t]

/-- What a grid point stores of the queries. -/
theorem point5 (c : Dev nD) (t : Fin cfg0.N) (r : Fin 512) (l : Fin 512) :
    out0_5 (F := Ideal) (grid0.coords t) (iblk m c 0 t) (iblk m c 1 t) (iblk m c 2 t) (iblk m c 3 t) (iblk m c 4 t) (ix2 r l)
      = val_main_v32 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨512 * t.val + r.val, inRange t r⟩ l) := by
  unfold_out out0_5
  frame_out
  pointwise [k0_pay9, k0_pay5, val_main_v32, val_main_v31, val_main_v30, val_main_cst_2, val_main_v23, Cert.ProjReferenceIdeal.Pure.proj_ref]
  simp only [norm_point m c t, blk3 m c t, blk4 m c t]

/-- The array of the queries after the run. -/
theorem final5 (c : Dev nD) : (dats m 0 c).arrAt 5 (cfgs 0).N
    = val_main_v32 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  idx_vars y
  refine (point5 m c t y0 y1).trans ?_
  blk_ext [idx t]

/-- What a grid point stores of the keys. -/
theorem point6 (c : Dev nD) (t : Fin cfg0.N) (r : Fin 512) (l : Fin 512) :
    out0_6 (F := Ideal) (grid0.coords t) (iblk m c 0 t) (iblk m c 1 t) (iblk m c 2 t) (iblk m c 3 t) (iblk m c 4 t) (ix2 r l)
      = val_main_v33 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨512 * t.val + r.val, inRange t r⟩ l) := by
  unfold_out out0_6
  frame_out
  pointwise [k0_pay10, k0_pay6, val_main_v33, val_main_v24, Cert.ProjReferenceIdeal.Pure.proj_ref]
  simp only [norm_point m c t, blk3 m c t, blk4 m c t]

/-- The array of the keys after the run. -/
theorem final6 (c : Dev nD) : (dats m 0 c).arrAt 6 (cfgs 0).N
    = val_main_v33 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp
  rw [after0_6]
  idx_vars y
  refine (point6 m c t y0 y1).trans ?_
  blk_ext [idx t]

/-- What a grid point stores of the values. -/
theorem point7 (c : Dev nD) (t : Fin cfg0.N) (r : Fin 512) (l : Fin 512) :
    out0_7 (F := Ideal) (grid0.coords t) (iblk m c 0 t) (iblk m c 1 t) (iblk m c 2 t) (iblk m c 3 t) (iblk m c 4 t) (ix2 r l)
      = val_main_v34 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨512 * t.val + r.val, inRange t r⟩ l) := by
  unfold_out out0_7
  frame_out
  pointwise [k0_pay11, k0_pay8, k0_pay7, val_main_v34, val_main_v25, Cert.ProjReferenceIdeal.Pure.proj_ref]
  simp only [norm_point m c t, blk3 m c t, blk4 m c t]

/-- The array of the values after the run. -/
theorem final7 (c : Dev nD) : (dats m 0 c).arrAt 7 (cfgs 0).N
    = val_main_v34 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 7 _ (by decide +kernel) fun t _ y => ?_
  blk_simp
  rw [after0_7]
  idx_vars y
  refine (point7 m c t y0 y1).trans ?_
  blk_ext [idx t]

/-- What a grid point stores of the keys and values side by side. -/
theorem point8 (c : Dev nD) (t : Fin cfg0.N) (r : Fin 512) (l : Fin 1024) :
    out0_8 (F := Ideal) (grid0.coords t) (iblk m c 0 t) (iblk m c 1 t) (iblk m c 2 t) (iblk m c 3 t) (iblk m c 4 t) (ix2 r l)
      = val_main_v35 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨512 * t.val + r.val, inRange t r⟩ l) := by
  unfold_out out0_8
  canon_tiles x h
  all_goals idx_vars x
  · obtain rfl : r = x0 := Fin.ext h0
    obtain rfl : l = ⟨512 + x1.val, Nat.add_lt_add_left x1.isLt 512⟩ := Fin.ext h1
    frame_out
    pointwise [k0_pay8, k0_pay7, val_main_v35, val_main_v24, val_main_v25, Cert.ProjReferenceIdeal.Pure.proj_ref]
    simp only [norm_point m c t, blk3 m c t, blk4 m c t]
  · obtain rfl : r = x0 := Fin.ext h0
    obtain rfl : l = ⟨x1.val, lt_trans x1.isLt (by decide)⟩ := Fin.ext h1
    frame_out
    pointwise [k0_pay6, val_main_v35, val_main_v24, val_main_v25, Cert.ProjReferenceIdeal.Pure.proj_ref]
    simp only [norm_point m c t, blk3 m c t, blk4 m c t]

/-- The array of the keys and values side by side after the run. -/
theorem final8 (c : Dev nD) : (dats m 0 c).arrAt 8 (cfgs 0).N
    = val_main_v35 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 8 _ (by decide +kernel) fun t _ y => ?_
  blk_simp
  rw [after0_8]
  idx_vars y
  refine (point8 m c t y0 y1).trans ?_
  blk_ext [idx t]

/-- What a grid point stores of the recurrence's inputs. -/
theorem point9 (c : Dev nD) (t : Fin cfg0.N) (r : Fin 512) (l : Fin 512) :
    out0_9 (F := Ideal) (grid0.coords t) (iblk m c 0 t) (iblk m c 1 t) (iblk m c 2 t) (iblk m c 3 t) (iblk m c 4 t) (ix2 r l)
      = val_main_v26 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨512 * t.val + r.val, inRange t r⟩ l) := by
  unfold_out out0_9
  frame_out
  pointwise [k0_pay12, val_main_v26, Cert.ProjReferenceIdeal.Pure.proj_ref]
  simp only [norm_point m c t, blk3 m c t, blk4 m c t]

/-- The array of the recurrence's inputs after the run. -/
theorem final9 (c : Dev nD) : (dats m 0 c).arrAt 9 (cfgs 0).N
    = val_main_v26 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 9 _ (by decide +kernel) fun t _ y => ?_
  blk_simp
  rw [after0_9]
  idx_vars y
  refine (point9 m c t y0 y1).trans ?_
  blk_ext [idx t]

/-- What a grid point stores of the recurrence's gates. -/
theorem point10 (c : Dev nD) (t : Fin cfg0.N) (r : Fin 512) (l : Fin 512) :
    out0_10 (F := Ideal) (grid0.coords t) (iblk m c 0 t) (iblk m c 1 t) (iblk m c 2 t) (iblk m c 3 t) (iblk m c 4 t) (ix2 r l)
      = val_main_v36 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨512 * t.val + r.val, inRange t r⟩ l) := by
  unfold_out out0_10
  frame_out
  pointwise [k0_pay1, k0_pay13, k0_pay14, val_main_v36, val_main_v27, Cert.ProjReferenceIdeal.Pure.proj_ref]
  simp only [norm_point m c t, blk3 m c t, blk4 m c t]

/-- The array of the recurrence's gates after the run. -/
theorem final10 (c : Dev nD) : (dats m 0 c).arrAt 10 (cfgs 0).N
    = val_main_v36 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 10 _ (by decide +kernel) fun t _ y => ?_
  blk_simp
  rw [after0_10]
  idx_vars y
  refine (point10 m c t y0 y1).trans ?_
  blk_ext [idx t]

/-- What a grid point stores of the attention's gates. -/
theorem point11 (c : Dev nD) (t : Fin cfg0.N) (r : Fin 512) (l : Fin 1024) :
    out0_11 (F := Ideal) (grid0.coords t) (iblk m c 0 t) (iblk m c 1 t) (iblk m c 2 t) (iblk m c 3 t) (iblk m c 4 t) (ix2 r l)
      = val_main_v37 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨512 * t.val + r.val, inRange t r⟩ l) := by
  unfold_out out0_11
  frame_out
  pointwise [k0_pay2, val_main_v37, val_main_v28, Cert.ProjReferenceIdeal.Pure.proj_ref]
  simp only [norm_point m c t, blk3 m c t, blk4 m c t]

/-- The array of the attention's gates after the run. -/
theorem final11 (c : Dev nD) : (dats m 0 c).arrAt 11 (cfgs 0).N
    = val_main_v37 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 11 _ (by decide +kernel) fun t _ y => ?_
  blk_simp
  rw [after0_11]
  idx_vars y
  refine (point11 m c t y0 y1).trans ?_
  blk_ext [idx t]

/-- What a grid point stores of the recurrence's output gates. -/
theorem point12 (c : Dev nD) (t : Fin cfg0.N) (r : Fin 512) (l : Fin 1024) :
    out0_12 (F := Ideal) (grid0.coords t) (iblk m c 0 t) (iblk m c 1 t) (iblk m c 2 t) (iblk m c 3 t) (iblk m c 4 t) (ix2 r l)
      = val_main_v38 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨512 * t.val + r.val, inRange t r⟩ l) := by
  unfold_out out0_12
  frame_out
  pointwise [k0_pay3, val_main_v38, val_main_v29, Cert.ProjReferenceIdeal.Pure.proj_ref]
  simp only [norm_point m c t, blk3 m c t, blk4 m c t]

/-- The array of the recurrence's output gates after the run. -/
theorem final12 (c : Dev nD) : (dats m 0 c).arrAt 12 (cfgs 0).N
    = val_main_v38 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 12 _ (by decide +kernel) fun t _ y => ?_
  blk_simp
  rw [after0_12]
  idx_vars y
  refine (point12 m c t y0 y1).trans ?_
  blk_ext [idx t]

end Cert.ProjKernelIdeal.Bridge
-- ==== Proof.ProjClaim.lean ====
module

public import proofs.«01_k».proof.Defs
public import proofs.«01_k».proof.Proof.ProjValue
public import proofs.«01_k».proof.Proof.Gen.ProjReferenceIdeal.Run
public import Idealize.ShloMosaic.Lib.Claim

@[expose] public section

set_option maxRecDepth 16384
noncomputable section
open Idealize.ShloMosaic Idealize.ShloMosaic.TcCoe Idealize.SL.Sem

namespace Cert.ProjReferenceIdeal.Named
open Cert.ProjReferenceIdeal Cert.ProjReferenceIdeal.Gen Cert.ProjReferenceIdeal.Read

/-- The reference's run, each result by the name of its stage. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v33) = val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v34) = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v35) = val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v26) = val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v37) = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, h2, h3, h4, h5, h6, h7, hr⟩ := h c
    exact ⟨h0.trans (val_main_v32_eq _ _ _ _ _), h1.trans (val_main_v33_eq _ _ _ _ _),
      h2.trans (val_main_v34_eq _ _ _ _ _), h3.trans (val_main_v35_eq _ _ _ _ _),
      h4.trans (val_main_v26_eq _ _ _ _ _), h5.trans (val_main_v36_eq _ _ _ _ _),
      h6.trans (val_main_v37_eq _ _ _ _ _), h7.trans (val_main_v38_eq _ _ _ _ _), hr⟩)
    (Value.run m ρ)

end Cert.ProjReferenceIdeal.Named

namespace Cert.Proof
attribute [local instance] Cert.ProjKernelIdeal.Gen.facts Cert.ProjReferenceIdeal.Gen.facts

set_option maxHeartbeats 2000000 in
/-- The projection kernel and its reference give equal results over the extended reals. -/
theorem algebraic_proj : Cert.algebraic_ProjKernelIdeal_ProjReferenceIdeal := by
  pair_intro
  · run_from Cert.ProjKernelIdeal.Gen.run_main m g
  · refine (θ_run _ _ _).mono (fun r h c => ?_) (Cert.ProjReferenceIdeal.Named.run_named m' g')
    obtain ⟨h0, h1, h2, h3, h4, h5, h6, h7, hr⟩ := h c
    obtain ⟨a0, a1, a2, a3, a4⟩ := hagree c
    rw [a0, a1, a2, a3, a4] at h0 h1 h2 h3 h4 h5 h6 h7
    exact ⟨h0.trans (Cert.ProjKernelIdeal.Bridge.final5 m c).symm, h1.trans (Cert.ProjKernelIdeal.Bridge.final6 m c).symm,
      h2.trans (Cert.ProjKernelIdeal.Bridge.final7 m c).symm, h3.trans (Cert.ProjKernelIdeal.Bridge.final8 m c).symm,
      h4.trans (Cert.ProjKernelIdeal.Bridge.final9 m c).symm, h5.trans (Cert.ProjKernelIdeal.Bridge.final10 m c).symm,
      h6.trans (Cert.ProjKernelIdeal.Bridge.final11 m c).symm, h7.trans (Cert.ProjKernelIdeal.Bridge.final12 m c).symm, hr⟩

end Cert.Proof
end
-- ==== Proof.MergePure.lean ====
module

public import proofs.«01_k».proof.Proof.Gen.MergeKernelIdeal.Skeleton
public import proofs.«01_k».proof.Proof.Gen.MergeReferenceIdeal.Read
public import Idealize.ShloMosaic.Lib.Pointwise

@[expose] public section

set_option maxRecDepth 16384
noncomputable section
open Idealize.ShloMosaic Idealize.ShloMosaic.TcCoe Idealize.SL.Sem

namespace Cert.MergeKernelIdeal.Pure
open Cert.MergeKernelIdeal Cert.MergeKernelIdeal.Gen

/-- The logistic function. -/
def gate (x : EReal) : EReal := Ideal.div (Ideal.ofBits .f32 0x3F800000#32) (Ideal.ofBits .f32 0x3F800000#32 + Ideal.exp (-x))

/-- One element of the gated sum of the two branches. -/
def mixed (att rnn : Fin 512 → EReal) (ga gr : Fin 1024 → EReal) (wa wr : Fin 512 → Fin 1024 → EReal) (l : Fin 1024) : EReal :=
  gate (ga l) * (∑ k, att k * wa k l) + gate (gr l) * (∑ k, rnn k * wr k l)

/-- One element of the residual sum. -/
def merged (x mix : Fin 1024 → EReal) (w : Fin 1024 → Fin 1024 → EReal) (l : Fin 1024) : EReal :=
  x l + ∑ k, mix k * w k l

/-- One normalized element: the row's element over the root of the row's mean square, times the gain. -/
def normed (row gain : Fin 1024 → EReal) (l : Fin 1024) : EReal :=
  row l * Ideal.rsqrt (Ideal.div (∑ k, row k * row k) (Ideal.ofBits .f32 0x44800000#32) + Ideal.ofBits .f32 0x358637BD#32) * gain l

/-- The kernel's gated sum, read at a row and a column. -/
theorem mix_pay (i : grid0.Coords) (a b c d : FVec Ideal S512x512 .bf16) (wa wr : FVec Ideal S512x1024 .bf16)
    (ga gr : FVec Ideal S512x1024 .bf16) (r : Fin 512) (l : Fin 1024) :
    k0_pay3 (F := Ideal) i a b c d wa wr ga gr (ix2 r l)
      = mixed (fun k => Scalar.select (Scalar.cmpi .slt (BitVec.ofNat 32 (i 0).val) 64#32) (a (ix2 r k)) (b (ix2 r k)))
          (fun k => Scalar.select (Scalar.cmpi .slt (BitVec.ofNat 32 (i 0).val) 64#32) (c (ix2 r k)) (d (ix2 r k)))
          (fun k => ga (ix2 r k)) (fun k => gr (ix2 r k)) (fun k j => wa (ix2 k j)) (fun k j => wr (ix2 k j)) l := by
  pointwise [k0_pay3, mixed, gate, Ideal.logistic]

/-- The kernel's residual sum, read at a row and a column. -/
theorem merged_pay (i : grid0.Coords) (a b : FVec Ideal S512x1024 .f32) (mix : FVec Ideal S512x1024 .bf16)
    (w : FVec Ideal S1024x1024 .bf16) (r : Fin 512) (l : Fin 1024) :
    k0_pay4 (F := Ideal) (k0_pay2 (F := Ideal) i a b) mix w (ix2 r l)
      = merged (fun k => Scalar.select (Scalar.cmpi .slt (BitVec.ofNat 32 (i 0).val) 64#32) (a (ix2 r k)) (b (ix2 r k)))
          (fun k => mix (ix2 r k)) (fun k j => w (ix2 k j)) l := by
  pointwise [k0_pay4, k0_pay2, merged]

/-- The kernel's normalized rows, read at a row and a column. -/
theorem norm_pay (x : FVec Ideal S512x1024 .f32) (mix : FVec Ideal S512x1024 .bf16)
    (w : FVec Ideal S1024x1024 .bf16) (g : FVec Ideal S1x1024 .f32) (r : Fin 512) (l : Fin 1024) :
    k0_pay5 (F := Ideal) x mix w g (ix2 r l)
      = normed (fun k => k0_pay4 (F := Ideal) x mix w (ix2 r k)) (fun k => g (ix2 0 k)) l := by
  pointwise [k0_pay5, normed]

end Cert.MergeKernelIdeal.Pure

namespace Cert.MergeReferenceIdeal.Pure
open Cert.MergeReferenceIdeal Cert.MergeReferenceIdeal.Read Cert.MergeKernelIdeal.Pure
variable (x0 : FVec Ideal S2x16384x1024 .f32) (x1 : FVec Ideal S32x16x1024 .f32)
variable (x2 : FVec Ideal S32768x512 .bf16) (x3 : FVec Ideal S512x512 .bf16) (x4 : FVec Ideal S32768x512 .bf16) (x5 : FVec Ideal S512x512 .bf16)
variable (x6 x7 : FVec Ideal S33280x1024 .bf16) (x8 x9 : FVec Ideal S1x512x1024 .f32) (x10 : FVec Ideal S1x1024x1024 .f32) (x11 : FVec Ideal S1x1024 .f32)

/-- A row of the joined token matrix. -/
theorem row_ref (R : Fin 33280) (l : Fin 1024) :
    val_main_v2 (F := Ideal) x0 x1 (ix2 R l)
      = if h : (R : ℕ) < 32768 then x0 (ix3 ⟨(R : ℕ) / 16384, by omega⟩ ⟨(R : ℕ) % 16384, by omega⟩ l)
        else x1 (ix3 ⟨((R : ℕ) - 32768) / 16, by omega⟩ ⟨((R : ℕ) - 32768) % 16, by omega⟩ l) := by
  pointwise [val_main_v2, val_main_v0, val_main_v1]

/-- A row of the joined attention branch. -/
theorem att_ref (R : Fin 33280) (l : Fin 512) :
    val_main_v5 (F := Ideal) x2 x3 (ix2 R l)
      = if h : (R : ℕ) < 32768 then x2 (ix2 ⟨(R : ℕ), h⟩ l) else x3 (ix2 ⟨(R : ℕ) - 32768, by omega⟩ l) := by
  pointwise [val_main_v5, val_main_v3, val_main_v4]

/-- A row of the joined recurrent branch. -/
theorem rnn_ref (R : Fin 33280) (l : Fin 512) :
    val_main_v8 (F := Ideal) x4 x5 (ix2 R l)
      = if h : (R : ℕ) < 32768 then x4 (ix2 ⟨(R : ℕ), h⟩ l) else x5 (ix2 ⟨(R : ℕ) - 32768, by omega⟩ l) := by
  pointwise [val_main_v8, val_main_v6, val_main_v7]

/-- The reference's gated sum. -/
theorem mix_ref (R : Fin 33280) (l : Fin 1024) :
    val_main_v29 (F := Ideal) x2 x3 x4 x5 x6 x7 x8 x9 (ix2 R l)
      = mixed (fun k => val_main_v5 (F := Ideal) x2 x3 (ix2 R k)) (fun k => val_main_v8 (F := Ideal) x4 x5 (ix2 R k))
          (fun k => x6 (ix2 R k)) (fun k => x7 (ix2 R k)) (fun k j => x8 (ix3 0 k j)) (fun k j => x9 (ix3 0 k j)) l := by
  pointwise [val_main_v29, val_main_v28, val_main_v27, val_main_v26, val_main_cst_2, val_main_v25, val_main_v24, val_main_cst_1,
    val_main_v23, val_main_v22, val_main_v21, val_main_v20, val_main_v19, val_main_v18, val_main_cst_0, val_main_v17, val_main_v16,
    val_main_cst, val_main_v15, val_main_v14, val_main_v13, val_main_v12, val_main_v11, val_main_v10, val_main_v9, mixed, gate]

/-- The reference's residual sum. -/
theorem merged_ref (R : Fin 33280) (l : Fin 1024) :
    val_main_v32 (F := Ideal) x0 x1 x2 x3 x4 x5 x6 x7 x8 x9 x10 (ix2 R l)
      = merged (fun k => val_main_v2 (F := Ideal) x0 x1 (ix2 R k))
          (fun k => val_main_v29 (F := Ideal) x2 x3 x4 x5 x6 x7 x8 x9 (ix2 R k)) (fun k j => x10 (ix3 0 k j)) l := by
  pointwise [val_main_v32, val_main_v31, val_main_v30, merged]

/-- The reference's normalized rows. -/
theorem norm_ref (R : Fin 33280) (l : Fin 1024) :
    val_main_v46 (F := Ideal) x0 x1 x2 x3 x4 x5 x6 x7 x8 x9 x10 x11 (ix2 R l)
      = normed (fun k => val_main_v32 (F := Ideal) x0 x1 x2 x3 x4 x5 x6 x7 x8 x9 x10 (ix2 R k)) (fun k => x11 (ix2 0 k)) l := by
  pointwise [val_main_v46, val_main_v45, val_main_v44, val_main_v43, val_main_v42, val_main_v41, val_main_v40, val_main_v39, val_main_cst_5,
    val_main_v38, val_main_v37, val_main_cst_4, val_main_v36, val_main_v35, val_main_cst_3, val_main_v34, val_main_v33, normed]

end Cert.MergeReferenceIdeal.Pure
-- ==== Proof.MergeValue.lean ====
module

public import proofs.«01_k».proof.Proof.Gen.MergeKernelIdeal.Frame
public import proofs.«01_k».proof.Proof.MergePure
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.MergeKernelIdeal.Bridge
open Cert.MergeKernelIdeal Cert.MergeKernelIdeal.Gen Cert.MergeKernelIdeal.Pure
open Cert.MergeReferenceIdeal.Read
variable (m : (ℓ : Loc nD τ sig) → Buf (Elt Ideal) ℓ)

/-- The block each window holds at a grid point. -/
theorem idx : ∀ t : Fin cfg0.N, win0_0.index t = ![min t.val 63, 0] ∧ win0_1.index t = ![0, 0] ∧ win0_2.index t = ![min t.val 63, 0]
    ∧ win0_3.index t = ![0, 0] ∧ win0_4.index t = ![min t.val 63, 0] ∧ win0_5.index t = ![0, 0] ∧ win0_6.index t = ![t.val, 0]
    ∧ win0_7.index t = ![t.val, 0] ∧ win0_8.index t = ![0, 0] ∧ win0_9.index t = ![0, 0] ∧ win0_10.index t = ![0, 0]
    ∧ win0_11.index t = ![0, 0] ∧ win0_14.index t = ![t.val, 0] ∧ win0_15.index t = ![t.val, 0] ∧ (grid0.coords t 0).val = t.val :=
  (by decide +kernel : ∀ t : Fin grid0.N, _)

/-- The body's comparison of the grid point with 64. -/
theorem low : ∀ t : Fin cfg0.N, Scalar.cmpi .slt (BitVec.ofNat 32 (grid0.coords t 0).val) 64#32 = if t.val < 64 then 1#1 else 0#1 :=
  (by decide +kernel : ∀ t : Fin grid0.N, _)

/-- A row of a block is a row of the array. -/
theorem inRange (t : Fin cfg0.N) (r : Fin 512) : 512 * t.val + r.val < 33280 := by
  have h : t.val < 65 := t.isLt
  omega

/-- The first window's block is a stretch of the prompt's rows. -/
theorem blk0 (c : Dev nD) (t : Fin cfg0.N) (r : Fin 512) (k : Fin 1024) (h : t.val < 64) :
    iblk m c 0 t (ix2 r k) = (m ((c : Thread nD τ).loc main_arg0)) (ix3 ⟨(512 * t.val + r.val) / 16384, by omega⟩ ⟨(512 * t.val + r.val) % 16384, by omega⟩ k) := by
  blk_simp [iblk]
  entry_read
  pointwise
  blk_ext [idx t]

/-- The second window's block is all the sample rows. -/
theorem blk1 (c : Dev nD) (t : Fin cfg0.N) (r : Fin 512) (k : Fin 1024) :
    iblk m c 1 t (ix2 r k) = (m ((c : Thread nD τ).loc main_arg1)) (ix3 ⟨r.val / 16, by omega⟩ ⟨r.val % 16, by omega⟩ k) := by
  blk_simp [iblk]
  entry_read
  pointwise
  blk_ext [idx t]

/-- A block of the attention branch's prompt rows. -/
theorem blk2 (c : Dev nD) (t : Fin cfg0.N) (r : Fin 512) (k : Fin 512) (h : t.val < 64) :
    iblk m c 2 t (ix2 r k) = (m ((c : Thread nD τ).loc main_arg2)) (ix2 ⟨512 * t.val + r.val, by omega⟩ k) := by
  blk_simp [iblk]
  rw [V_main_arg2]
  blk_ext [idx t]

/-- A block of the recurrent branch's prompt rows. -/
theorem blk4 (c : Dev nD) (t : Fin cfg0.N) (r : Fin 512) (k : Fin 512) (h : t.val < 64) :
    iblk m c 4 t (ix2 r k) = (m ((c : Thread nD τ).loc main_arg4)) (ix2 ⟨512 * t.val + r.val, by omega⟩ k) := by
  blk_simp [iblk]
  rw [V_main_arg4]
  blk_ext [idx t]

/-- The block of the attention branch's sample rows. -/
theorem blk3 (c : Dev nD) (t : Fin cfg0.N) (r : Fin 512) (k : Fin 512) :
    iblk m c 3 t (ix2 r k) = (m ((c : Thread nD τ).loc main_arg3)) (ix2 r k) := by
  blk_simp [iblk]
  rw [V_main_arg3]
  blk_ext [idx t]

/-- The block of the recurrent branch's sample rows. -/
theorem blk5 (c : Dev nD) (t : Fin cfg0.N) (r : Fin 512) (k : Fin 512) :
    iblk m c 5 t (ix2 r k) = (m ((c : Thread nD τ).loc main_arg5)) (ix2 r k) := by
  blk_simp [iblk]
  rw [V_main_arg5]
  blk_ext [idx t]

/-- A block of the attention branch's gates. -/
theorem blk6 (c : Dev nD) (t : Fin cfg0.N) (r : Fin 512) (k : Fin 1024) :
    iblk m c 6 t (ix2 r k) = (m ((c : Thread nD τ).loc main_arg6)) (ix2 ⟨512 * t.val + r.val, inRange t r⟩ k) := by
  blk_simp [iblk]
  rw [V_main_arg6]
  blk_ext [idx t]

/-- A block of the recurrent branch's gates. -/
theorem blk7 (c : Dev nD) (t : Fin cfg0.N) (r : Fin 512) (k : Fin 1024) :
    iblk m c 7 t (ix2 r k) = (m ((c : Thread nD τ).loc main_arg7)) (ix2 ⟨512 * t.val + r.val, inRange t r⟩ k) := by
  blk_simp [iblk]
  rw [V_main_arg7]
  blk_ext [idx t]

/-- The block of the attention branch's matrix. -/
theorem blk8 (c : Dev nD) (t : Fin cfg0.N) (k : Fin 512) (l : Fin 1024) :
    iblk m c 8 t (ix2 k l) = (m ((c : Thread nD τ).loc main_arg8)) (ix3 0 k l) := by
  blk_simp [iblk]
  entry_read
  pointwise
  blk_ext [idx t]

/-- The block of the recurrent branch's matrix. -/
theorem blk9 (c : Dev nD) (t : Fin cfg0.N) (k : Fin 512) (l : Fin 1024) :
    iblk m c 9 t (ix2 k l) = (m ((c : Thread nD τ).loc main_arg9)) (ix3 0 k l) := by
  blk_simp [iblk]
  entry_read
  pointwise
  blk_ext [idx t]

/-- The block of the output matrix. -/
theorem blk10 (c : Dev nD) (t : Fin cfg0.N) (k : Fin 1024) (l : Fin 1024) :
    iblk m c 10 t (ix2 k l) = (m ((c : Thread nD τ).loc main_arg10)) (ix3 0 k l) := by
  blk_simp [iblk]
  entry_read
  pointwise
  blk_ext [idx t]

/-- The block of the gain. -/
theorem blk11 (c : Dev nD) (t : Fin cfg0.N) (k : Fin 1024) :
    iblk m c 11 t (ix2 0 k) = (m ((c : Thread nD τ).loc main_arg11)) (ix2 0 k) := by
  blk_simp [iblk]
  entry_read
  pointwise
  blk_ext [idx t]

/-- The token row the body picks is the reference's row. -/
theorem row_point (c : Dev nD) (t : Fin cfg0.N) (r : Fin 512) (k : Fin 1024) :
    Scalar.select (Scalar.cmpi .slt (BitVec.ofNat 32 (grid0.coords t 0).val) 64#32) (iblk m c 0 t (ix2 r k)) (iblk m c 1 t (ix2 r k))
      = val_main_v2 (F := Ideal) (m ((c : Thread nD τ).loc main_arg0)) (m ((c : Thread nD τ).loc main_arg1)) (ix2 ⟨512 * t.val + r.val, inRange t r⟩ k) := by
  refine Eq.trans ?_ (Cert.MergeReferenceIdeal.Pure.row_ref _ _ _ _).symm
  have h65 : t.val < 65 := t.isLt
  rw [low t]
  by_cases h : t.val < 64
  · rw [dif_pos (by show 512 * t.val + r.val < 32768; omega), if_pos h]
    exact blk0 m c t r k h
  · rw [dif_neg (by show ¬ 512 * t.val + r.val < 32768; omega), if_neg h]
    refine (blk1 m c t r k).trans (congrArg _ ?_)
    have h64 : t.val = 64 := by omega
    exact (ix3_inj ..).2 ⟨Fin.ext (by show r.val / 16 = (512 * t.val + r.val - 32768) / 16; omega),
      Fin.ext (by show r.val % 16 = (512 * t.val + r.val - 32768) % 16; omega), rfl⟩

/-- The attention row the body picks is the reference's row. -/
theorem att_point (c : Dev nD) (t : Fin cfg0.N) (r : Fin 512) (k : Fin 512) :
    Scalar.select (Scalar.cmpi .slt (BitVec.ofNat 32 (grid0.coords t 0).val) 64#32) (iblk m c 2 t (ix2 r k)) (iblk m c 3 t (ix2 r k))
      = val_main_v5 (F := Ideal) (m ((c : Thread nD τ).loc main_arg2)) (m ((c : Thread nD τ).loc main_arg3)) (ix2 ⟨512 * t.val + r.val, inRange t r⟩ k) := by
  refine Eq.trans ?_ (Cert.MergeReferenceIdeal.Pure.att_ref _ _ _ _).symm
  have h65 : t.val < 65 := t.isLt
  rw [low t]
  by_cases h : t.val < 64
  · rw [dif_pos (by show 512 * t.val + r.val < 32768; omega), if_pos h]
    exact blk2 m c t r k h
  · rw [dif_neg (by show ¬ 512 * t.val + r.val < 32768; omega), if_neg h]
    refine (blk3 m c t r k).trans (congrArg _ ?_)
    have h64 : t.val = 64 := by omega
    exact (ix2_inj ..).2 ⟨Fin.ext (by show r.val = 512 * t.val + r.val - 32768; omega), rfl⟩

/-- The recurrent row the body picks is the reference's row. -/
theorem rnn_point (c : Dev nD) (t : Fin cfg0.N) (r : Fin 512) (k : Fin 512) :
    Scalar.select (Scalar.cmpi .slt (BitVec.ofNat 32 (grid0.coords t 0).val) 64#32) (iblk m c 4 t (ix2 r k)) (iblk m c 5 t (ix2 r k))
      = val_main_v8 (F := Ideal) (m ((c : Thread nD τ).loc main_arg4)) (m ((c : Thread nD τ).loc main_arg5)) (ix2 ⟨512 * t.val + r.val, inRange t r⟩ k) := by
  refine Eq.trans ?_ (Cert.MergeReferenceIdeal.Pure.rnn_ref _ _ _ _).symm
  have h65 : t.val < 65 := t.isLt
  rw [low t]
  by_cases h : t.val < 64
  · rw [dif_pos (by show 512 * t.val + r.val < 32768; omega), if_pos h]
    exact blk4 m c t r k h
  · rw [dif_neg (by show ¬ 512 * t.val + r.val < 32768; omega), if_neg h]
    refine (blk5 m c t r k).trans (congrArg _ ?_)
    have h64 : t.val = 64 := by omega
    exact (ix2_inj ..).2 ⟨Fin.ext (by show r.val = 512 * t.val + r.val - 32768; omega), rfl⟩

/-- The gated sum at a grid point is the reference's. -/
theorem mix_point (c : Dev nD) (t : Fin cfg0.N) (r : Fin 512) (l : Fin 1024) :
    k0_pay3 (F := Ideal) (grid0.coords t) (iblk m c 2 t) (iblk m c 3 t) (iblk m c 4 t) (iblk m c 5 t) (iblk m c 8 t) (iblk m c 9 t) (iblk m c 6 t) (iblk m c 7 t) (ix2 r l)
      = val_main_v29 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
          (ix2 ⟨512 * t.val + r.val, inRange t r⟩ l) := by
  refine (mix_pay _ _ _ _ _ _ _ _ _ r l).trans (Eq.trans ?_ (Cert.MergeReferenceIdeal.Pure.mix_ref _ _ _ _ _ _ _ _ _ _).symm)
  simp only [att_point m c t, rnn_point m c t, blk6 m c t, blk7 m c t, blk8 m c t, blk9 m c t]

/-- The residual sum at a grid point is the reference's. -/
theorem merged_point (c : Dev nD) (t : Fin cfg0.N) (r : Fin 512) (l : Fin 1024) :
    k0_pay4 (F := Ideal) (k0_pay2 (F := Ideal) (grid0.coords t) (iblk m c 0 t) (iblk m c 1 t))
        (k0_pay3 (F := Ideal) (grid0.coords t) (iblk m c 2 t) (iblk m c 3 t) (iblk m c 4 t) (iblk m c 5 t) (iblk m c 8 t) (iblk m c 9 t) (iblk m c 6 t) (iblk m c 7 t))
        (iblk m c 10 t) (ix2 r l)
      = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
          (ix2 ⟨512 * t.val + r.val, inRange t r⟩ l) := by
  refine (merged_pay _ _ _ _ _ r l).trans (Eq.trans ?_ (Cert.MergeReferenceIdeal.Pure.merged_ref _ _ _ _ _ _ _ _ _ _ _ _ _).symm)
  simp only [row_point m c t, mix_point m c t, blk10 m c t]

/-- The normalized rows at a grid point are the reference's. -/
theorem norm_point (c : Dev nD) (t : Fin cfg0.N) (r : Fin 512) (l : Fin 1024) :
    k0_pay5 (F := Ideal) (k0_pay2 (F := Ideal) (grid0.coords t) (iblk m c 0 t) (iblk m c 1 t))
        (k0_pay3 (F := Ideal) (grid0.coords t) (iblk m c 2 t) (iblk m c 3 t) (iblk m c 4 t) (iblk m c 5 t) (iblk m c 8 t) (iblk m c 9 t) (iblk m c 6 t) (iblk m c 7 t))
        (iblk m c 10 t) (iblk m c 11 t) (ix2 r l)
      = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
          (ix2 ⟨512 * t.val + r.val, inRange t r⟩ l) := by
  refine (norm_pay _ _ _ _ r l).trans (Eq.trans ?_ (Cert.MergeReferenceIdeal.Pure.norm_ref _ _ _ _ _ _ _ _ _ _ _ _ _ _).symm)
  simp only [merged_point m c t, blk11 m c t]

/-- What a grid point stores of the residual sums. -/
theorem point14 (c : Dev nD) (t : Fin cfg0.N) (r : Fin 512) (l : Fin 1024) :
    (outsAt0 (F := Ideal) m c t.val t.isLt).1 (ix2 r l)
      = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
          (ix2 ⟨512 * t.val + r.val, inRange t r⟩ l) := by
  by_cases h0 : t.val % 65 = 0
  · rw [outsAt0_A m c t h0]
    dsimp only
    unfold out0_A_14
    frame_out
    exact merged_point m c t r l
  · rw [outsAt0_B m c t h0]
    dsimp only
    unfold out0_B_14
    frame_out
    exact merged_point m c t r l

/-- The array of the residual sums after the run. -/
theorem final14 (c : Dev nD) : (dats m 0 c).arrAt 14 (cfgs 0).N
    = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t _ y => ?_
  blk_simp
  rw [after0_14]
  idx_vars y
  refine (point14 m c t y0 y1).trans ?_
  blk_ext [idx t]

/-- What a grid point stores of the normalized rows. -/
theorem point15 (c : Dev nD) (t : Fin cfg0.N) (r : Fin 512) (l : Fin 1024) :
    (outsAt0 (F := Ideal) m c t.val t.isLt).2.1 (ix2 r l)
      = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
          (ix2 ⟨512 * t.val + r.val, inRange t r⟩ l) := by
  by_cases h0 : t.val % 65 = 0
  · rw [outsAt0_A m c t h0]
    dsimp only
    unfold out0_A_15
    frame_out
    exact norm_point m c t r l
  · rw [outsAt0_B m c t h0]
    dsimp only
    unfold out0_B_15
    frame_out
    exact norm_point m c t r l

/-- The array of the normalized rows after the run. -/
theorem final15 (c : Dev nD) : (dats m 0 c).arrAt 15 (cfgs 0).N
    = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t _ y => ?_
  blk_simp
  rw [after0_15]
  idx_vars y
  refine (point15 m c t y0 y1).trans ?_
  blk_ext [idx t]

end Cert.MergeKernelIdeal.Bridge
-- ==== Proof.MergeClaim.lean ====
module

public import proofs.«01_k».proof.Defs
public import proofs.«01_k».proof.Proof.MergeValue
public import proofs.«01_k».proof.Proof.Gen.MergeReferenceIdeal.Run
public import Idealize.ShloMosaic.Lib.Claim

@[expose] public section

set_option maxRecDepth 16384
noncomputable section
open Idealize.ShloMosaic Idealize.ShloMosaic.TcCoe Idealize.SL.Sem

namespace Cert.MergeReferenceIdeal.Named
open Cert.MergeReferenceIdeal Cert.MergeReferenceIdeal.Gen Cert.MergeReferenceIdeal.Read

/-- The reference's run, each result by the name of its stage. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v46) = val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => by
    obtain ⟨h0, h1, hr⟩ := h c
    exact ⟨h0.trans (val_main_v32_eq _ _ _ _ _ _ _ _ _ _ _), h1.trans (val_main_v46_eq _ _), hr⟩)
    (Value.run m ρ)

end Cert.MergeReferenceIdeal.Named

namespace Cert.Proof
attribute [local instance] Cert.MergeKernelIdeal.Gen.facts Cert.MergeReferenceIdeal.Gen.facts

set_option maxHeartbeats 2000000 in
/-- The merge kernel and its reference give equal results over the extended reals. -/
theorem algebraic_merge : Cert.algebraic_MergeKernelIdeal_MergeReferenceIdeal := by
  pair_intro
  · run_from Cert.MergeKernelIdeal.Gen.run_main m g
  · refine (θ_run _ _ _).mono (fun r h c => ?_) (Cert.MergeReferenceIdeal.Named.run_named m' g')
    obtain ⟨h0, h1, hr⟩ := h c
    obtain ⟨a0, a1, a2, a3, a4, a5, a6, a7, a8, a9, a10, a11, a12, a13, a14, a15⟩ := hagree c
    rw [a0, a1, a2, a3, a4, a5, a6, a7, a8, a9, a10] at h0
    rw [a0, a1, a2, a3, a4, a5, a6, a7, a8, a9, a10, a11] at h1
    exact ⟨h0.trans (Cert.MergeKernelIdeal.Bridge.final14 m c).symm, h1.trans (Cert.MergeKernelIdeal.Bridge.final15 m c).symm, hr⟩

end Cert.Proof
end
-- ==== Proof.SamplePure.lean ====
module

public import proofs.«01_k».proof.Proof.Gen.SampleKernelIdeal.Skeleton
public import Idealize.ShloMosaic.Lib.Pointwise
public import proofs.«01_k».proof.Proof.AttnSoftmax

@[expose] public section

set_option maxRecDepth 16384
noncomputable section
open Idealize.ShloMosaic Idealize.ShloMosaic.TcCoe Idealize.SL.Sem

namespace Cert.SampleKernelIdeal.Pure
open Cert.SampleKernelIdeal Cert.SampleKernelIdeal.Gen Cert.Softmax

/-- The kernel's word for a lane's head. -/
theorem lane_word : ∀ l : Fin 512, k0_pay8 (ix2 0 l) = BitVec.ofNat 32 (l.val / 64) := by decide +kernel

/-- The comparison of a lane's head with a head. -/
theorem head_word : ∀ a h : Fin 8, IntOp.cmpi .eq (BitVec.ofNat 32 a.val) (BitVec.ofNat 32 h.val) = if a.val = h.val then 1#1 else 0#1 := by
  decide +kernel

/-- The queries with the lanes of the other heads cleared. -/
def clear (h : Fin 8) (q : FVec Ideal S16x512 .bf16) : FVec Ideal S16x512 .bf16 :=
  fun i => if (i 1).val / 64 = h.val then q i else 0

/-- An element of the cleared queries. -/
theorem clear_apply (h : Fin 8) (q : FVec Ideal S16x512 .bf16) (r : Fin 16) (k : Fin 512) :
    clear h q (ix2 r k) = if k.val / 64 = h.val then q (ix2 r k) else 0 := rfl

/-- Choosing by the comparison of heads. -/
theorem choose_head (l : Fin 512) (h : Fin 8) (w : BitVec 32) (hw : w = BitVec.ofNat 32 h.val) (x y : EReal) :
    Scalar.select (IntOp.cmpi .eq (k0_pay8 (ix2 0 l)) w) x y = if l.val / 64 = h.val then x else y := by
  subst hw
  rw [lane_word, show IntOp.cmpi .eq (BitVec.ofNat 32 (l.val / 64)) (BitVec.ofNat 32 h.val) = _ from head_word ⟨l.val / 64, by omega⟩ h]
  by_cases e : l.val / 64 = h.val
  · rw [if_pos e, if_pos e]; rfl
  · rw [if_neg e, if_neg e]; rfl

/-- The first head's queries. -/
theorem clear0 (q : FVec Ideal S16x512 .bf16) : k0_pay10 (F := Ideal) q k0_pay9 (Scalar.ofBits .bf16 0x0000#16) = clear 0 q := by
  funext i
  idx_vars i
  rw [clear_apply, ← choose_head _ _ _ rfl]
  pointwise [k0_pay10, k0_pay9]

/-- The other heads' queries. -/
theorem clear_rest (q : FVec Ideal S16x512 .bf16) :
    k0_pay11 (F := Ideal) q k0_pay8 = clear 1 q ∧ k0_pay12 (F := Ideal) q k0_pay8 = clear 2 q ∧ k0_pay13 (F := Ideal) q k0_pay8 = clear 3 q
    ∧ k0_pay14 (F := Ideal) q k0_pay8 = clear 4 q ∧ k0_pay15 (F := Ideal) q k0_pay8 = clear 5 q ∧ k0_pay16 (F := Ideal) q k0_pay8 = clear 6 q
    ∧ k0_pay17 (F := Ideal) q k0_pay8 = clear 7 q := by
  refine ⟨?_, ?_, ?_, ?_, ?_, ?_, ?_⟩
  all_goals
    funext i
    idx_vars i
    rw [clear_apply, ← choose_head _ _ _ rfl]
    pointwise [k0_pay11, k0_pay12, k0_pay13, k0_pay14, k0_pay15, k0_pay16, k0_pay17]

/-- The eight heads' queries one below the other. -/
def stack (q : FVec Ideal S16x512 .bf16) : FVec Ideal S128x512 .bf16 :=
  concatenate S128x512 0 [⟨S16x512, clear 0 q⟩, ⟨S16x512, clear 1 q⟩, ⟨S16x512, clear 2 q⟩, ⟨S16x512, clear 3 q⟩, ⟨S16x512, clear 4 q⟩,
    ⟨S16x512, clear 5 q⟩, ⟨S16x512, clear 6 q⟩, ⟨S16x512, clear 7 q⟩]
    concatenates_S16x512_S16x512_S16x512_S16x512_S16x512_S16x512_S16x512_S16x512_S128x512_d0

/-- An element of the stacked queries. -/
theorem stack_apply (q : FVec Ideal S16x512 .bf16) (R : Fin 128) (k : Fin 512) :
    stack q (ix2 R k) = if k.val / 64 = R.val / 16 then q (ix2 ⟨R.val % 16, by omega⟩ k) else 0 := by
  pointwise [stack]
  split_ifs
  all_goals
    rw [clear_apply]
    refine (if_congr (by simp <;> omega) ?_ rfl)
    refine congrArg q ((ix2_inj ..).2 ⟨Fin.ext ?_, rfl⟩)
    simp only
    omega

/-- All heads' results over all lanes. -/
def all (S : FVec Ideal S128x512 .bf16) (K V : FVec Ideal S592x512 .bf16) (B : Vec Ideal S128x592 .f32) : FVec Ideal S128x512 .f32 :=
  have s : FVec Ideal S128x592 .f32 := addf (matmul dot_S128x512_S592x512_S128x592_1_1_0_0_n_n none S K (constant S128x592 .f32 0x00000000#32))
    (shapeCast S128x592 B shapeCasts_S128x592_S128x592)
  have e : FVec Ideal S128x592 .f32 := exp (subf s (broadcastTo S128x592 (shapeCast S128x1
      (multiReduction .maximumf [1] S128 s 0xFF800000#32 reduces_S128x592_S128 (.inl rfl) rfl) shapeCasts_S128_S128x1) broadcasts_S128x1_S128x592))
  divf (matmul dot_S128x592_S592x512_S128x512_1_0_0_1_n_n none (truncf .bf16 e bitsLt_bf16_f32) V (constant S128x512 .f32 0x00000000#32))
    (broadcastTo S128x512 (shapeCast S128x1 (multiReduction .add [1] S128 e 0x00000000#32 reduces_S128x592_S128 (.inl rfl) rfl)
      shapeCasts_S128_S128x1) broadcasts_S128x1_S128x512)

/-- The kernel's stacked results. -/
theorem all_eq (q : FVec Ideal S16x512 .bf16) (K V : FVec Ideal S592x512 .bf16) (B : Vec Ideal S128x592 .f32) :
    k0_pay18 (F := Ideal) K V (clear 0 q) (clear 1 q) (clear 2 q) (clear 3 q) (clear 4 q) (clear 5 q) (clear 6 q) (clear 7 q) B
      = all (stack q) K V B := rfl

/-- An element of the stacked results: the mean of the values over a row of scores. -/
theorem all_apply (S : FVec Ideal S128x512 .bf16) (K V : FVec Ideal S592x512 .bf16) (B : Vec Ideal S128x592 .f32) (R : Fin 128) (l : Fin 512) :
    all S K V B (ix2 R l) = late (fun j => (∑ k, S (ix2 R k) * K (ix2 j k)) + B (ix2 R j)) (fun j => V (ix2 j l)) := by
  pointwise [all, late, mass, top, neg_inf]

/-- Of eight terms only the chosen one counts. -/
theorem pick_sum (f : Fin 8 → EReal) (a : Fin 8) (g0 g1 g2 g3 g4 g5 g6 g7 : EReal) (e0 : g0 = f 0) (e1 : g1 = f 1) (e2 : g2 = f 2)
    (e3 : g3 = f 3) (e4 : g4 = f 4) (e5 : g5 = f 5) (e6 : g6 = f 6) (e7 : g7 = f 7) :
    (if a.val = (0 : Fin 8).val then g0 else 0) + (if a.val = (1 : Fin 8).val then g1 else 0) + (if a.val = (2 : Fin 8).val then g2 else 0)
      + (if a.val = (3 : Fin 8).val then g3 else 0) + (if a.val = (4 : Fin 8).val then g4 else 0) + (if a.val = (5 : Fin 8).val then g5 else 0)
      + (if a.val = (6 : Fin 8).val then g6 else 0) + (if a.val = (7 : Fin 8).val then g7 else 0) = f a := by
  subst e0 e1 e2 e3 e4 e5 e6 e7
  fin_cases a <;> simp

/-- The stored rows: each lane from its own head's rows. -/
theorem out_apply (q0 q1 q2 q3 q4 q5 q6 q7 : FVec Ideal S16x512 .bf16) (K V : FVec Ideal S592x512 .bf16) (B : Vec Ideal S128x592 .f32)
    (r : Fin 16) (l : Fin 512) :
    k0_pay22 (F := Ideal) k0_pay8 (k0_pay18 K V q0 q1 q2 q3 q4 q5 q6 q7 B) (k0_pay19 K V k0_pay8 q0 q1 q2 q3 q4 q5 q6 q7 B)
        (k0_pay20 K V q0 q1 q2 q3 q4 q5 q6 q7 B) (Scalar.ofBits .f32 0x00000000#32) (k0_pay21 k0_pay8) (ix2 r l)
      = k0_pay18 (F := Ideal) K V q0 q1 q2 q3 q4 q5 q6 q7 B (ix2 ⟨16 * (l.val / 64) + r.val, by omega⟩ l) := by
  unfold k0_pay19 k0_pay20
  generalize k0_pay18 (F := Ideal) K V q0 q1 q2 q3 q4 q5 q6 q7 B = W
  pointwise [k0_pay22, k0_pay21]
  refine (congrArg₂ (· + ·) (congrArg₂ (· + ·) (congrArg₂ (· + ·) (congrArg₂ (· + ·) (congrArg₂ (· + ·) (congrArg₂ (· + ·) (congrArg₂ (· + ·) (choose_head l 0 _ rfl _ _) (choose_head l 1 _ rfl _ _)) (choose_head l 2 _ rfl _ _)) (choose_head l 3 _ rfl _ _)) (choose_head l 4 _ rfl _ _)) (choose_head l 5 _ rfl _ _)) (choose_head l 6 _ rfl _ _)) (choose_head l 7 _ rfl _ _)).trans ?_
  refine pick_sum (fun h => W (ix2 ⟨16 * h.val + r.val, by omega⟩ l)) ⟨l.val / 64, by omega⟩ _ _ _ _ _ _ _ _ ?_ ?_ ?_ ?_ ?_ ?_ ?_ ?_
  all_goals exact congrArg W ((ix2_inj ..).2 ⟨Fin.ext (by simp), rfl⟩)

/-- The joined keys: the cache's rows, then the new tokens'. -/
theorem keys_apply (x : Vec Ideal S1x576x512 .f32) (y : Vec Ideal S16x512 .bf16) (j : Fin 592) (l : Fin 512) :
    k0_pay6 (F := Ideal) x y (ix2 j l)
      = if hj : (j : ℕ) < 576 then x (ix3 0 ⟨(j : ℕ), hj⟩ l) else y (ix2 ⟨(j : ℕ) - 576, by omega⟩ l) := by
  pointwise [k0_pay6, k0_pay4]

/-- The values are joined as the keys are. -/
theorem values_eq (x : Vec Ideal S1x576x512 .f32) (y : Vec Ideal S16x512 .bf16) : k0_pay7 (F := Ideal) x y = k0_pay6 (F := Ideal) x y := rfl

/-- A sum over all lanes with the other heads' lanes cleared is the sum over one head's lanes. -/
theorem dot_lanes (h : Fin 8) (f g : Fin 512 → EReal) :
    ∑ k, (if k.val / 64 = h.val then f k else 0) * g k
      = ∑ d : Fin 64, f ⟨h.val * 64 + d.val, by omega⟩ * g ⟨h.val * 64 + d.val, by omega⟩ := by
  refine sum_window (fun d : Fin 64 => (⟨h.val * 64 + d.val, by omega⟩ : Fin 512))
    (fun a b e => Fin.ext (by have := congrArg Fin.val e; dsimp only at this; omega))
    (fun k : Fin 512 => if k.val / 64 = h.val then (0 : EReal) else ⊥) (fun _ => 0) ?_ ?_ _ _ ?_ ?_
  · exact fun d => if_pos (by dsimp only; omega)
  · exact fun k hk => if_neg fun e => hk ⟨k.val % 64, by omega⟩ (Fin.ext (by dsimp only; omega))
  · intro d
    rw [if_pos (by dsimp only; omega)]
  · intro k hk
    rw [if_neg fun e => hk ⟨k.val % 64, by omega⟩ (Fin.ext (by dsimp only; omega)), zero_mul]

end Cert.SampleKernelIdeal.Pure
end
-- ==== Proof.SampleRef.lean ====
module

public import proofs.«01_k».proof.Proof.Gen.SampleReferenceIdeal.Read
public import proofs.«01_k».proof.Proof.AttnSoftmax
public import proofs.«01_k».proof.Proof.AttnGather
public import Idealize.ShloMosaic.Lib.Pointwise

@[expose] public section

set_option maxRecDepth 16384
noncomputable section
open Idealize.ShloMosaic Idealize.ShloMosaic.TcCoe Idealize.SL.Sem

namespace Cert.SampleReferenceIdeal.Pure
open Cert.SampleReferenceIdeal Cert.SampleReferenceIdeal.Read Cert.Softmax Cert.SampleReferenceIdeal.Gen
variable (x0 x1 x2 : FVec Ideal S33280x512 .bf16) (x3 : FVec Ideal S33280x1024 .f32) (x4 x5 : FVec Ideal S1x32x576x8x64 .f32)
variable (x6 : FVec Ideal S1x8x513 .f32)

/-- The word of the distance from a query to a key of the cache and the new tokens. -/
def gap (r j : Nat) : BitVec 32 := IntOp.subi (IntOp.addi (BitVec.ofNat 32 r) 576#32) (BitVec.ofNat 32 j)

/-- A new token's query. -/
theorem query_ref (b : Fin 32) (r : Fin 16) (h : Fin 8) (d : Fin 64) :
    val_main_v2 (F := Ideal) x0 (ix4 b r h d) = x0 (ix2 ⟨32768 + (b.val * 16 + r.val), by omega⟩ ⟨h.val * 64 + d.val, by omega⟩) := by
  pointwise [val_main_v2, val_main_v1, val_main_v0]

/-- The keys: the cache, then the new tokens. -/
theorem keys_ref (b : Fin 32) (j : Fin 592) (h : Fin 8) (d : Fin 64) :
    val_main_v7 (F := Ideal) x1 x4 (ix4 b j h d)
      = if hj : (j : ℕ) < 576 then x4 (ix5 0 b ⟨(j : ℕ), hj⟩ h d)
        else x1 (ix2 ⟨32768 + (b.val * 16 + ((j : ℕ) - 576)), by omega⟩ ⟨h.val * 64 + d.val, by omega⟩) := by
  pointwise [val_main_v7, val_main_v6, val_main_v5, val_main_v4, val_main_v3]

/-- The values are joined as the keys are. -/
theorem values_ref : val_main_v12 (F := Ideal) x2 x5 = val_main_v7 (F := Ideal) x2 x5 := rfl

/-- The lookup of the bias at an element. -/
theorem gath (x : FVec Ideal S8x513 .f32) (i : IVec S16x592x1 32) (h : Fin 8) (r : Fin 16) (j : Fin 592) :
    Host.gather gather_S8x513_S16x592x1_S8x16x592_0_1_n_n_1_2_81 x i (ix3 h r j)
      = x (ix2 h ⟨min (i (ix3 r j 0)).toInt.toNat 512, by omega⟩) :=
  Gather.gather_head_apply (by decide) _ x i h r j

/-- The bias of a query and a key. -/
theorem bias_ref (h : Fin 8) (r : Fin 16) (j : Fin 592) :
    val_main_v32 (F := Ideal) x6 (ix3 h r j) = Gather.look x6 h (gap r.val j.val) := by
  unfold val_main_v32
  rw [gath]
  pointwise [val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_v13,
    val_main_c, val_main_c_0, val_main_c_1, val_main_c_2, val_main_c_3, val_main_c_4, val_main_call0_v0, val_main_call0_v1, val_main_call0_v2, val_main_call0_v3,
    val_main_call0_v4]
  rfl

/-- The flag of a key inside the band. -/
theorem valid_ref (j : Fin 592) : val_main_v34 (F := Ideal) (ix2 0 j) = if 64 ≤ j.val then 1#1 else 0#1 := by
  have hw : ∀ j : Fin 592, IntOp.cmpi .sge (BitVec.ofNat 32 j.val) 64#32 = if 64 ≤ j.val then 1#1 else 0#1 := by decide +kernel
  pointwise [val_main_v34, val_main_v33, val_main_v16, val_main_v15, val_main_c_5]
  exact hw j

/-- A score. -/
theorem score_ref (b : Fin 32) (h : Fin 8) (r : Fin 16) (j : Fin 592) :
    val_main_v39 (F := Ideal) x0 x1 x4 x6 (ix4 b h r j)
      = if 64 ≤ j.val then
          (∑ d, val_main_v2 (F := Ideal) x0 (ix4 b r h d) * val_main_v7 (F := Ideal) x1 x4 (ix4 b j h d)) + val_main_v32 (F := Ideal) x6 (ix3 h r j)
        else ⊥ := by
  pointwise [val_main_v39, val_main_v38, val_main_v37, val_main_v36, val_main_v35, val_main_call1_v2, val_main_call1_v1, val_main_call1_v0, val_main_cst, valid_ref, neg_inf]
  split
  · simp [Scalar.select]
  · simp only [Scalar.select]
    exact neg_inf

/-- The largest along the last axis. -/
theorem fold_ref (s : FVec Ideal S32x8x16x592 .f32) (b : Fin 32) (h : Fin 8) (r : Fin 16) :
    Host.reduce FloatOps.maximumf s (constant (F := Ideal) S_ .f32 0xFF800000#32) reducesTo_S32x8x16x592_S32x8x16_d3 h_S_ (ix3 b h r)
      = top (fun k => s (ix4 b h r k)) := by
  pointwise [neg_inf, top]

/-- The largest of a query's scores. -/
theorem top_ref (b : Fin 32) (h : Fin 8) (r : Fin 16) :
    val_main_v42 (F := Ideal) x0 x1 x4 x6 (ix3 b h r) = top (fun k => val_main_v39 (F := Ideal) x0 x1 x4 x6 (ix4 b h r k)) := by
  rw [val_main_v42_apply, show val_main_v41 (F := Ideal) (ix3 b h r) = ⊥ from (val_main_v41_apply _).trans neg_inf]
  unfold val_main_v40
  generalize val_main_v39 (F := Ideal) x0 x1 x4 x6 = s
  exact (bot_sup_eq _).trans (fold_ref s b h r)

/-- A weight. -/
theorem weight_ref (b : Fin 32) (h : Fin 8) (r : Fin 16) (k : Fin 592) :
    val_main_v46 (F := Ideal) x0 x1 x4 x6 (ix4 b h r k)
      = Ideal.exp (val_main_v39 (F := Ideal) x0 x1 x4 x6 (ix4 b h r k) - val_main_v42 (F := Ideal) x0 x1 x4 x6 (ix3 b h r)) := by
  pointwise [val_main_v46, val_main_v45, val_main_v44, val_main_v43]

/-- The weights' sum. -/
theorem mass_ref (b : Fin 32) (h : Fin 8) (r : Fin 16) :
    val_main_v47 (F := Ideal) x0 x1 x4 x6 (ix3 b h r) = ∑ k, val_main_v46 (F := Ideal) x0 x1 x4 x6 (ix4 b h r k) := by
  pointwise [val_main_v47, val_main_cst_8]

/-- A weight's share. -/
theorem share_ref (b : Fin 32) (h : Fin 8) (r : Fin 16) (k : Fin 592) :
    val_main_v50 (F := Ideal) x0 x1 x4 x6 (ix4 b h r k)
      = Ideal.div (val_main_v46 (F := Ideal) x0 x1 x4 x6 (ix4 b h r k)) (val_main_v47 (F := Ideal) x0 x1 x4 x6 (ix3 b h r)) := by
  pointwise [val_main_v50, val_main_v49, val_main_v48]

/-- An element of the result: the values' mean. -/
theorem mix_ref (b : Fin 32) (h : Fin 8) (r : Fin 16) (d : Fin 64) :
    val_main_v66 (F := Ideal) x0 x1 x2 x4 x5 x6 (ix2 ⟨b.val * 16 + r.val, by omega⟩ ⟨h.val * 64 + d.val, by omega⟩)
      = ∑ k, val_main_v12 (F := Ideal) x2 x5 (ix4 b k h d) * val_main_v50 (F := Ideal) x0 x1 x4 x6 (ix4 b h r k) := by
  pointwise [val_main_v66, val_main_v65, val_main_v52, val_main_v51]

/-- An element of the reference's result. -/
theorem out_ref (b : Fin 32) (h : Fin 8) (r : Fin 16) (d : Fin 64) :
    val_main_v66 (F := Ideal) x0 x1 x2 x4 x5 x6 (ix2 ⟨b.val * 16 + r.val, by omega⟩ ⟨h.val * 64 + d.val, by omega⟩)
      = early (fun k => val_main_v39 (F := Ideal) x0 x1 x4 x6 (ix4 b h r k)) (fun k => val_main_v7 (F := Ideal) x2 x5 (ix4 b k h d)) := by
  rw [mix_ref, values_ref]
  unfold early mass
  refine Finset.sum_congr rfl fun k _ => ?_
  rw [share_ref, mass_ref, mul_comm]
  simp only [weight_ref, top_ref]

/-- The keys' state after the step: the cache without its oldest rows, then the new tokens' keys. -/
theorem kstate_ref (b : Fin 32) (j : Fin 576) (l : Fin 512) :
    val_main_v67 (F := Ideal) x3 x4 (ix3 b j l)
      = if hj : 16 + (j : ℕ) < 576 then x4 (ix5 0 b ⟨16 + (j : ℕ), hj⟩ ⟨l.val / 64, by omega⟩ ⟨l.val % 64, by omega⟩)
        else x3 (ix2 ⟨32768 + (b.val * 16 + (16 + (j : ℕ) - 576)), by omega⟩ ⟨l.val, by omega⟩) := by
  pointwise [val_main_v67, val_main_v58, val_main_v57, val_main_v56, val_main_v55, val_main_v54, val_main_v53]

/-- The values' state after the step. -/
theorem vstate_ref (b : Fin 32) (j : Fin 576) (l : Fin 512) :
    val_main_v68 (F := Ideal) x3 x5 (ix3 b j l)
      = if hj : 16 + (j : ℕ) < 576 then x5 (ix5 0 b ⟨16 + (j : ℕ), hj⟩ ⟨l.val / 64, by omega⟩ ⟨l.val % 64, by omega⟩)
        else x3 (ix2 ⟨32768 + (b.val * 16 + (16 + (j : ℕ) - 576)), by omega⟩ ⟨512 + l.val, by omega⟩) := by
  pointwise [val_main_v68, val_main_v64, val_main_v63, val_main_v62, val_main_v61, val_main_v60, val_main_v59]

end Cert.SampleReferenceIdeal.Pure
end
-- ==== Proof.SampleValue.lean ====
module

public import proofs.«01_k».proof.Proof.Gen.SampleKernelIdeal.Frame
public import proofs.«01_k».proof.Proof.SamplePure
public import proofs.«01_k».proof.Proof.SampleRef
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.SampleKernelIdeal.Bridge
open Cert.SampleKernelIdeal Cert.SampleKernelIdeal.Gen Cert.SampleKernelIdeal.Pure Cert.Softmax
open Cert.SampleReferenceIdeal.Read Cert.SampleReferenceIdeal.Pure
variable (m : (ℓ : Loc nD τ sig) → Buf (Elt Ideal) ℓ)

/-- The block each window holds at a grid point. -/
theorem idx : ∀ t : Fin cfg0.N, win0_0.index t = ![2048 + t.val, 0] ∧ win0_1.index t = ![2048 + t.val, 0] ∧ win0_2.index t = ![2048 + t.val, 0]
    ∧ win0_3.index t = ![2048 + t.val, 0] ∧ win0_4.index t = ![t.val, 0, 0] ∧ win0_5.index t = ![t.val, 0, 0] ∧ win0_6.index t = ![0, 0]
    ∧ win0_7.index t = ![t.val, 0] ∧ win0_8.index t = ![t.val, 0, 0] ∧ win0_9.index t = ![t.val, 0, 0] :=
  (by decide +kernel : ∀ t : Fin grid0.N, _)

/-- A sample's row is a row of the array. -/
theorem inRange (t : Fin cfg0.N) (r : Fin 16) : 32768 + (t.val * 16 + r.val) < 33280 := by
  have h : t.val < 32 := t.isLt
  omega

/-- A grid point is a sample. -/
theorem lt32 (t : Fin cfg0.N) : t.val < 32 := t.isLt

/-- A block of the queries. -/
theorem blk0 (c : Dev nD) (t : Fin cfg0.N) (r : Fin 16) (k : Fin 512) :
    iblk m c 0 t (ix2 r k) = (m ((c : Thread nD τ).loc main_arg0)) (ix2 ⟨32768 + (t.val * 16 + r.val), inRange t r⟩ k) := by
  blk_simp [iblk]
  rw [V_main_arg0]
  blk_ext [idx t]

/-- A block of the keys. -/
theorem blk1 (c : Dev nD) (t : Fin cfg0.N) (r : Fin 16) (k : Fin 512) :
    iblk m c 1 t (ix2 r k) = (m ((c : Thread nD τ).loc main_arg1)) (ix2 ⟨32768 + (t.val * 16 + r.val), inRange t r⟩ k) := by
  blk_simp [iblk]
  rw [V_main_arg1]
  blk_ext [idx t]

/-- A block of the values. -/
theorem blk2 (c : Dev nD) (t : Fin cfg0.N) (r : Fin 16) (k : Fin 512) :
    iblk m c 2 t (ix2 r k) = (m ((c : Thread nD τ).loc main_arg2)) (ix2 ⟨32768 + (t.val * 16 + r.val), inRange t r⟩ k) := by
  blk_simp [iblk]
  rw [V_main_arg2]
  blk_ext [idx t]

/-- A block of the unrounded keys and values. -/
theorem blk3 (c : Dev nD) (t : Fin cfg0.N) (r : Fin 16) (k : Fin 1024) :
    iblk m c 3 t (ix2 r k) = (m ((c : Thread nD τ).loc main_arg3)) (ix2 ⟨32768 + (t.val * 16 + r.val), inRange t r⟩ k) := by
  blk_simp [iblk]
  rw [V_main_arg3]
  blk_ext [idx t]

/-- The cached keys as the kernel takes them, the heads joined. -/
theorem cache_entry4 (c : Dev nD) (b : Fin 32) (j : Fin 576) (l : Fin 512) :
    (V m c main_v1 : FVec Ideal S32x576x512 .f32) (ix3 b j l) = (m ((c : Thread nD τ).loc main_arg4)) (ix5 0 b j ⟨l.val / 64, by omega⟩ ⟨l.val % 64, by omega⟩) := by
  unfold V
  simp only [hostOps0, hostOps0_1, hostOps0_2, hostOps0_3, hostOps0_4, List.flatten_cons, List.flatten_nil, List.append_nil, List.cons_append, List.nil_append]
  after_results_simp
  pointwise

/-- A block of the cached keys. -/
theorem blk4 (c : Dev nD) (t : Fin cfg0.N) (j : Fin 576) (l : Fin 512) :
    iblk m c 4 t (ix3 0 j l) = (m ((c : Thread nD τ).loc main_arg4)) (ix5 0 ⟨t.val, lt32 t⟩ j ⟨l.val / 64, by omega⟩ ⟨l.val % 64, by omega⟩) := by
  refine Eq.trans ?_ (cache_entry4 m c ⟨t.val, lt32 t⟩ j l)
  blk_simp [iblk]
  blk_ext [idx t]

/-- The cached values as the kernel takes them, the heads joined. -/
theorem cache_entry5 (c : Dev nD) (b : Fin 32) (j : Fin 576) (l : Fin 512) :
    (V m c main_v3 : FVec Ideal S32x576x512 .f32) (ix3 b j l) = (m ((c : Thread nD τ).loc main_arg5)) (ix5 0 b j ⟨l.val / 64, by omega⟩ ⟨l.val % 64, by omega⟩) := by
  unfold V
  simp only [hostOps0, hostOps0_1, hostOps0_2, hostOps0_3, hostOps0_4, List.flatten_cons, List.flatten_nil, List.append_nil, List.cons_append, List.nil_append]
  after_results_simp
  pointwise

/-- A block of the cached values. -/
theorem blk5 (c : Dev nD) (t : Fin cfg0.N) (j : Fin 576) (l : Fin 512) :
    iblk m c 5 t (ix3 0 j l) = (m ((c : Thread nD τ).loc main_arg5)) (ix5 0 ⟨t.val, lt32 t⟩ j ⟨l.val / 64, by omega⟩ ⟨l.val % 64, by omega⟩) := by
  refine Eq.trans ?_ (cache_entry5 m c ⟨t.val, lt32 t⟩ j l)
  blk_simp [iblk]
  blk_ext [idx t]

/-- The host's lookup of the bias at an element. -/
theorem host_gath (x : FVec Ideal S8x513 .f32) (i : IVec S16x592x1 32) (h : Fin 8) (r : Fin 16) (j : Fin 592) :
    Host.gather gather_S8x513_S16x592x1_S8x16x592_0_1_n_n_1_2_81 x i (ix3 h r j)
      = x (ix2 h ⟨min (i (ix3 r j 0)).toInt.toNat 512, by omega⟩) :=
  Gather.gather_head_apply (by decide) _ x i h r j

/-- The comparison of a key with the band's start. -/
theorem start_word : ∀ j : Fin 592, IntOp.cmpi .sge (BitVec.ofNat 32 j.val) 64#32 = if 64 ≤ j.val then 1#1 else 0#1 := by decide +kernel

set_option maxHeartbeats 1000000 in
/-- The bias array that the host prepares: the table's element inside the band, minus infinity outside. -/
theorem bias_entry (c : Dev nD) (R : Fin 128) (j : Fin 592) :
    (V m c main_v28 : FVec Ideal S128x592 .f32) (ix2 R j)
      = if 64 ≤ j.val then Gather.look (m ((c : Thread nD τ).loc main_arg6)) ⟨R.val / 16, by omega⟩ (gap (R.val % 16) j.val) else ⊥ := by
  unfold V
  simp only [hostOps0, hostOps0_1, hostOps0_2, hostOps0_3, hostOps0_4, List.flatten_cons, List.flatten_nil, List.append_nil, List.cons_append, List.nil_append]
  after_results_simp
  simp -implicitDefEqProofs only [StableHlo.TRef.toBuf, StableHlo.TRef.ofBuf, cast_cast, cast_eq, id]
  pointwise [host_gath]
  refine (congrArg (fun w => Scalar.select w _ _) (start_word j)).trans ?_
  by_cases hb : 64 ≤ j.val
  · rw [if_pos hb, if_pos hb]
    rfl
  · rw [if_neg hb, if_neg hb]
    exact neg_inf

/-- The block of the bias. -/
theorem blk6 (c : Dev nD) (t : Fin cfg0.N) (R : Fin 128) (j : Fin 592) :
    iblk m c 6 t (ix2 R j)
      = if 64 ≤ j.val then Gather.look (m ((c : Thread nD τ).loc main_arg6)) ⟨R.val / 16, by omega⟩ (gap (R.val % 16) j.val) else ⊥ := by
  refine Eq.trans ?_ (bias_entry m c R j)
  blk_simp [iblk]
  blk_ext [idx t]

/-- The joined keys at a grid point are the reference's. -/
theorem keys_point (c : Dev nD) (t : Fin cfg0.N) (j : Fin 592) (h : Fin 8) (d : Fin 64) :
    k0_pay6 (F := Ideal) (iblk m c 4 t) (iblk m c 1 t) (ix2 j ⟨h.val * 64 + d.val, by omega⟩)
      = val_main_v7 (F := Ideal) (m ((c : Thread nD τ).loc main_arg1)) (m ((c : Thread nD τ).loc main_arg4)) (ix4 ⟨t.val, lt32 t⟩ j h d) := by
  refine (keys_apply _ _ j _).trans (Eq.trans ?_ (keys_ref _ _ _ j h d).symm)
  by_cases hj : (j : ℕ) < 576
  · rw [dif_pos hj, dif_pos hj]
    refine (blk4 m c t _ _).trans (congrArg _ ((ix5_inj ..).2 ⟨rfl, rfl, rfl, Fin.ext ?_, Fin.ext ?_⟩)) <;> simp only <;> omega
  · rw [dif_neg hj, dif_neg hj]
    exact blk1 m c t _ _

/-- The joined values at a grid point are the reference's. -/
theorem values_point (c : Dev nD) (t : Fin cfg0.N) (j : Fin 592) (h : Fin 8) (d : Fin 64) :
    k0_pay6 (F := Ideal) (iblk m c 5 t) (iblk m c 2 t) (ix2 j ⟨h.val * 64 + d.val, by omega⟩)
      = val_main_v7 (F := Ideal) (m ((c : Thread nD τ).loc main_arg2)) (m ((c : Thread nD τ).loc main_arg5)) (ix4 ⟨t.val, lt32 t⟩ j h d) := by
  refine (keys_apply _ _ j _).trans (Eq.trans ?_ (keys_ref _ _ _ j h d).symm)
  by_cases hj : (j : ℕ) < 576
  · rw [dif_pos hj, dif_pos hj]
    refine (blk5 m c t _ _).trans (congrArg _ ((ix5_inj ..).2 ⟨rfl, rfl, rfl, Fin.ext ?_, Fin.ext ?_⟩)) <;> simp only <;> omega
  · rw [dif_neg hj, dif_neg hj]
    exact blk2 m c t _ _

/-- A score of the kernel is the reference's. -/
theorem score_point (c : Dev nD) (t : Fin cfg0.N) (h : Fin 8) (r : Fin 16) (j : Fin 592) :
    (∑ k, stack (iblk m c 0 t) (ix2 ⟨16 * h.val + r.val, by omega⟩ k) * k0_pay6 (F := Ideal) (iblk m c 4 t) (iblk m c 1 t) (ix2 j k))
        + iblk m c 6 t (ix2 ⟨16 * h.val + r.val, by omega⟩ j)
      = val_main_v39 (F := Ideal) (m ((c : Thread nD τ).loc main_arg0)) (m ((c : Thread nD τ).loc main_arg1)) (m ((c : Thread nD τ).loc main_arg4)) (m ((c : Thread nD τ).loc main_arg6))
          (ix4 ⟨t.val, lt32 t⟩ h r j) := by
  have e1 : (16 * h.val + r.val) / 16 = h.val := by omega
  have e2 : (16 * h.val + r.val) % 16 = r.val := by omega
  rw [score_ref, blk6]
  simp only [e1, e2]
  by_cases hb : 64 ≤ j.val
  · rw [if_pos hb, if_pos hb, bias_ref]
    refine congrArg₂ (· + ·) ?_ rfl
    refine (Finset.sum_congr rfl fun k _ => ?_).trans ((dot_lanes h (fun k => iblk m c 0 t (ix2 r k)) fun k => k0_pay6 (F := Ideal) (iblk m c 4 t) (iblk m c 1 t) (ix2 j k)).trans
      (Finset.sum_congr rfl fun d _ => ?_))
    · rw [stack_apply]
      simp only [e1, e2]
    · refine congrArg₂ (· * ·) ?_ (keys_point m c t j h d)
      rw [query_ref]
      exact blk0 m c t _ _
  · rw [if_neg hb, if_neg hb, EReal.add_bot]

section Finite
variable (x0 x1 : FVec Ideal Cert.SampleReferenceIdeal.S33280x512 .bf16) (x4 : FVec Ideal Cert.SampleReferenceIdeal.S1x32x576x8x64 .f32)
variable (x6 : FVec Ideal Cert.SampleReferenceIdeal.S1x8x513 .f32)
variable (hf0 : ∀ i, ∃ a : ℝ, x0 i = a) (hf1 : ∀ i, ∃ a : ℝ, x1 i = a) (hf4 : ∀ i, ∃ a : ℝ, x4 i = a) (hf6 : ∀ i, ∃ a : ℝ, x6 i = a)
include hf0 hf1 hf4 hf6

/-- A score of a key in the band is real. -/
theorem score_real (b : Fin 32) (h : Fin 8) (r : Fin 16) (j : Fin 592) (hj : 64 ≤ j.val) :
    ∃ a : ℝ, val_main_v39 (F := Ideal) x0 x1 x4 x6 (ix4 b h r j) = a := by
  choose g hg using hf6
  have hk : ∀ d, ∃ a : ℝ, val_main_v7 (F := Ideal) x1 x4 (ix4 b j h d) = a := fun d => by
    rw [keys_ref]
    by_cases e : (j : ℕ) < 576
    · rw [dif_pos e]; exact hf4 _
    · rw [dif_neg e]; exact hf1 _
  have hq : ∀ d, ∃ a : ℝ, val_main_v2 (F := Ideal) x0 (ix4 b r h d) = a := fun d => by
    rw [query_ref]; exact hf0 _
  choose p hp using hk
  choose q hq using hq
  rw [score_ref, if_pos hj, bias_ref]
  rw [Finset.sum_congr rfl fun d _ => by rw [hp, hq, ← EReal.coe_mul]]
  unfold Cert.Gather.look
  rw [hg]
  exact ⟨_, (congrArg (· + _) (map_sum (⟨⟨Real.toEReal, EReal.coe_zero⟩, EReal.coe_add⟩ : ℝ →+ EReal) _ _).symm).trans
    (EReal.coe_add _ _).symm⟩

/-- A row of scores is proper. -/
theorem score_proper (b : Fin 32) (h : Fin 8) (r : Fin 16) : Proper (fun j => val_main_v39 (F := Ideal) x0 x1 x4 x6 (ix4 b h r j)) := by
  refine ⟨fun j => ?_, ⟨64, by omega⟩, ?_⟩
  · by_cases hj : 64 ≤ j.val
    · obtain ⟨a, ha⟩ := score_real x0 x1 x4 x6 hf0 hf1 hf4 hf6 b h r j hj
      dsimp only
      rw [ha]; exact EReal.coe_ne_top a
    · dsimp only
      rw [score_ref, if_neg hj]; exact bot_ne_top
  · obtain ⟨a, ha⟩ := score_real x0 x1 x4 x6 hf0 hf1 hf4 hf6 b h r ⟨64, by omega⟩ (by dsimp only; omega)
    dsimp only
    rw [ha]; exact EReal.coe_ne_bot a
end Finite

/-- What a grid point stores of the keys' state. -/
theorem point8 (c : Dev nD) (t : Fin cfg0.N) (j : Fin 576) (l : Fin 512) :
    (outsAt0 (F := Ideal) m c t).2.1 (ix3 0 j l)
      = val_main_v67 (F := Ideal) (m ((c : Thread nD τ).loc main_arg3)) (m ((c : Thread nD τ).loc main_arg4)) (ix3 ⟨t.val, lt32 t⟩ j l) := by
  refine Eq.trans ?_ (kstate_ref _ _ _ j l).symm
  unfold outsAt0
  dsimp only
  unfold out0_A_8
  frame_out
  canon_tiles x h using View.cover_of_tiledBy _ ![1, 16, 512] (by sl_kernel_rfl) _
  all_goals idx_vars x
  · obtain rfl : j = ⟨560 + x1.val, Nat.add_lt_add_left x1.isLt 560⟩ := Fin.ext h1
    obtain rfl : l = x2 := Fin.ext h2
    rw [dif_neg (by simp only; omega)]
    pointwise [k0_pay1]
    refine (blk3 m c t _ _).trans (congrArg _ ((ix2_inj ..).2 ⟨Fin.ext ?_, rfl⟩))
    simp only
    omega
  · obtain rfl : j = ⟨x1.val, lt_trans x1.isLt (by decide)⟩ := Fin.ext h1
    obtain rfl : l = x2 := Fin.ext h2
    rw [dif_pos (by simp only; omega)]
    pointwise [k0_pay23, k0_pay4]
    exact blk4 m c t _ _

/-- What a grid point stores of the values' state. -/
theorem point9 (c : Dev nD) (t : Fin cfg0.N) (j : Fin 576) (l : Fin 512) :
    (outsAt0 (F := Ideal) m c t).2.2 (ix3 0 j l)
      = val_main_v68 (F := Ideal) (m ((c : Thread nD τ).loc main_arg3)) (m ((c : Thread nD τ).loc main_arg5)) (ix3 ⟨t.val, lt32 t⟩ j l) := by
  refine Eq.trans ?_ (vstate_ref _ _ _ j l).symm
  unfold outsAt0
  dsimp only
  unfold out0_A_9
  frame_out
  canon_tiles x h using View.cover_of_tiledBy _ ![1, 16, 512] (by sl_kernel_rfl) _
  all_goals idx_vars x
  · obtain rfl : j = ⟨560 + x1.val, Nat.add_lt_add_left x1.isLt 560⟩ := Fin.ext h1
    obtain rfl : l = x2 := Fin.ext h2
    rw [dif_neg (by simp only; omega)]
    pointwise [k0_pay3]
    refine (blk3 m c t _ _).trans (congrArg _ ((ix2_inj ..).2 ⟨Fin.ext ?_, rfl⟩))
    simp only
    omega
  · obtain rfl : j = ⟨x1.val, lt_trans x1.isLt (by decide)⟩ := Fin.ext h1
    obtain rfl : l = x2 := Fin.ext h2
    rw [dif_pos (by simp only; omega)]
    pointwise [k0_pay2, k0_pay5]
    exact blk5 m c t _ _

/-- The keys' states after the run. -/
theorem final8 (c : Dev nD) : (dats m 0 c).arrAt 8 (cfgs 0).N
    = val_main_v67 (F := Ideal) (m ((c : Thread nD τ).loc main_arg3)) (m ((c : Thread nD τ).loc main_arg4)) := by
  refine (dats m 0 c).arrAt_eq_of_covers 8 _ (by decide +kernel) fun t _ y => ?_
  blk_simp
  rw [after0_8]
  idx_vars y
  obtain rfl : y0 = 0 := Subsingleton.elim _ _
  refine (point8 m c t y1 y2).trans ?_
  blk_ext [idx t]

/-- The values' states after the run. -/
theorem final9 (c : Dev nD) : (dats m 0 c).arrAt 9 (cfgs 0).N
    = val_main_v68 (F := Ideal) (m ((c : Thread nD τ).loc main_arg3)) (m ((c : Thread nD τ).loc main_arg5)) := by
  refine (dats m 0 c).arrAt_eq_of_covers 9 _ (by decide +kernel) fun t _ y => ?_
  blk_simp
  rw [after0_9]
  idx_vars y
  obtain rfl : y0 = 0 := Subsingleton.elim _ _
  refine (point9 m c t y1 y2).trans ?_
  blk_ext [idx t]

/-- What a grid point stores of the result. -/
theorem point7 (c : Dev nD) (t : Fin cfg0.N) (r : Fin 16) (h : Fin 8) (d : Fin 64)
    (hf0 : ∀ i, ∃ a : ℝ, (m ((c : Thread nD τ).loc main_arg0)) i = (a : EReal)) (hf1 : ∀ i, ∃ a : ℝ, (m ((c : Thread nD τ).loc main_arg1)) i = (a : EReal))
    (hf4 : ∀ i, ∃ a : ℝ, (m ((c : Thread nD τ).loc main_arg4)) i = (a : EReal)) (hf6 : ∀ i, ∃ a : ℝ, (m ((c : Thread nD τ).loc main_arg6)) i = (a : EReal)) :
    (outsAt0 (F := Ideal) m c t).1 (ix2 r ⟨h.val * 64 + d.val, by omega⟩)
      = val_main_v66 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
          (ix2 ⟨t.val * 16 + r.val, by have := lt32 t; omega⟩ ⟨h.val * 64 + d.val, by omega⟩) := by
  refine Eq.trans ?_ (out_ref _ _ _ _ _ _ ⟨t.val, lt32 t⟩ h r d).symm
  refine Eq.trans ?_ (late_eq_early _ _ (score_proper _ _ _ _ hf0 hf1 hf4 hf6 ⟨t.val, lt32 t⟩ h r))
  unfold outsAt0
  dsimp only
  unfold out0_A_7
  frame_out
  obtain ⟨c1, c2, c3, c4, c5, c6, c7⟩ := clear_rest (iblk m c 0 t)
  refine (out_apply _ _ _ _ _ _ _ _ _ _ _ r _).trans ?_
  rw [c1, c2, c3, c4, c5, c6, c7, show k0_pay10 (F := Ideal) (iblk m c 0 t) k0_pay9 (FloatOps.ofBits FTy.bf16 0#16) = _ from clear0 (iblk m c 0 t), all_eq, values_eq]
  have eh : (h.val * 64 + d.val) / 64 = h.val := by omega
  refine (all_apply _ _ _ _ _ _).trans ?_
  simp only [eh]
  refine congrArg₂ late (funext fun j => score_point m c t h r j) (funext fun j => values_point m c t j h d)

/-- The results' array after the run. -/
theorem final7 (c : Dev nD)
    (hf0 : ∀ i, ∃ a : ℝ, (m ((c : Thread nD τ).loc main_arg0)) i = (a : EReal)) (hf1 : ∀ i, ∃ a : ℝ, (m ((c : Thread nD τ).loc main_arg1)) i = (a : EReal))
    (hf4 : ∀ i, ∃ a : ℝ, (m ((c : Thread nD τ).loc main_arg4)) i = (a : EReal)) (hf6 : ∀ i, ∃ a : ℝ, (m ((c : Thread nD τ).loc main_arg6)) i = (a : EReal)) :
    (dats m 0 c).arrAt 7 (cfgs 0).N
      = val_main_v66 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  idx_vars y
  obtain ⟨h, d, rfl⟩ : ∃ (h : Fin 8) (d : Fin 64), y1 = ⟨h.val * 64 + d.val, by omega⟩ :=
    ⟨⟨y1.val / 64, by omega⟩, ⟨y1.val % 64, by omega⟩, Fin.ext (by simp only; omega)⟩
  refine (point7 m c t y0 h d hf0 hf1 hf4 hf6).trans ?_
  blk_ext [idx t]

end Cert.SampleKernelIdeal.Bridge
end
-- ==== Proof.SampleClaim.lean ====
module

public import proofs.«01_k».proof.Defs
public import proofs.«01_k».proof.Proof.SampleValue
public import proofs.«01_k».proof.Proof.AttnClaim
public import proofs.«01_k».proof.Proof.Gen.SampleReferenceIdeal.Run
public import proofs.«01_k».proof.Proof.Gen.Pre_sample_finite
public import Idealize.ShloMosaic.Lib.ReduceAll
public import Idealize.ShloMosaic.Lib.Claim

@[expose] public section

set_option maxRecDepth 16384
noncomputable section
open Idealize.ShloMosaic Idealize.ShloMosaic.TcCoe Idealize.SL.Sem

namespace Cert.SampleReferenceIdeal.Named
open Cert.SampleReferenceIdeal Cert.SampleReferenceIdeal.Gen Cert.SampleReferenceIdeal.Read

/-- The reference's run, each result by the name of its stage. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66) = val_main_v66 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))
      ∧ r.2.mem ((c.tc : Thread nD τ).loc main_v67) = val_main_v67 (F := Ideal) (m ((c.tc : Thread nD τ).loc main_arg3)) (m ((c.tc : Thread nD τ).loc main_arg4))
      ∧ r.2.mem ((c.tc : Thread nD τ).loc main_v68) = val_main_v68 (F := Ideal) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => by
    obtain ⟨h0, h1, h2, hr⟩ := h c
    exact ⟨h0.trans (val_main_v66_eq _ _), h1.trans (val_main_v67_eq _ _), h2.trans (val_main_v68_eq _ _), hr⟩)
    (Value.run m ρ)

end Cert.SampleReferenceIdeal.Named

namespace Cert.Pre_sample_finite.Real
open Cert.Pre_sample_finite Cert.Finite
attribute [local instance] Cert.Pre_sample_finite.Gen.facts

/-- The precondition says that the queries, the keys, the cached keys and the biases are real. -/
theorem finite (x0 x1 x2 : FVec Ideal S33280x512 .bf16) (x3 : FVec Ideal S33280x1024 .f32) (x4 x5 : FVec Ideal S1x32x576x8x64 .f32)
    (x6 : FVec Ideal S1x8x513 .f32) (h : fn (F := Ideal) x0 x1 x2 x3 x4 x5 x6 = fun _ => 1#1) :
    (∀ i, ∃ a : ℝ, x0 i = (a : EReal)) ∧ (∀ i, ∃ a : ℝ, x1 i = (a : EReal)) ∧ (∀ i, ∃ a : ℝ, x4 i = (a : EReal))
      ∧ ∀ i, ∃ a : ℝ, x6 i = (a : EReal) := by
  have h0 := congrFun h ix0
  unfold fn fn_part1 at h0
  obtain ⟨h014, h6⟩ := both _ _ h0
  obtain ⟨h01, h4⟩ := both _ _ h014
  obtain ⟨h0, h1⟩ := both _ _ h01
  refine ⟨fun i => real_of_lt _ ?_, fun i => real_of_lt _ ?_, fun i => real_of_lt _ ?_, fun i => real_of_lt _ ?_⟩
  · exact Host.reduce_andi_all _ _ _ _ _ h0 i
  · exact Host.reduce_andi_all _ _ _ _ _ h1 i
  · exact Host.reduce_andi_all _ _ _ _ _ h4 i
  · exact Host.reduce_andi_all _ _ _ _ _ h6 i

end Cert.Pre_sample_finite.Real

namespace Cert.Proof
attribute [local instance] Cert.SampleKernelIdeal.Gen.facts Cert.SampleReferenceIdeal.Gen.facts Cert.Pre_sample_finite.Gen.facts

set_option maxHeartbeats 2000000 in
/-- The samples' attention kernel and its reference give equal results over the extended reals. -/
theorem algebraic_sample : Cert.algebraic_SampleKernelIdeal_SampleReferenceIdeal_pre_sample_finite := by
  pair_intro
  · run_from Cert.SampleKernelIdeal.Gen.run_main m g
    exacts [Cert.SampleKernelIdeal.Gen.V_main_arg4 m c, Cert.SampleKernelIdeal.Gen.V_main_arg5 m c, Cert.SampleKernelIdeal.Gen.V_main_arg6 m c]
  · refine (θ_run _ _ _).mono (fun r h c => ?_) (Cert.SampleReferenceIdeal.Named.run_named m' g')
    obtain ⟨h0, h1, h2, hr⟩ := h c
    obtain ⟨a0, a1, a2, a3, a4, a5, a6⟩ := hagree c
    obtain ⟨f0, f1, f4, f6⟩ := Cert.Pre_sample_finite.Real.finite _ _ _ _ _ _ _ (hpre c)
    rw [a0, a1, a2, a4, a5, a6] at h0
    rw [a3, a4] at h1
    rw [a3, a5] at h2
    exact ⟨h0.trans (Cert.SampleKernelIdeal.Bridge.final7 m c f0 f1 f4 f6).symm, h1.trans (Cert.SampleKernelIdeal.Bridge.final8 m c).symm,
      h2.trans (Cert.SampleKernelIdeal.Bridge.final9 m c).symm, hr⟩

end Cert.Proof
end
-- ==== Proof.ExpertsFloat.lean ====
module

public import proofs.«01_k».proof.Proof.Gen.ExpertsKernel.Flash.Runs
public import Idealize.ShloMosaic.Lib.Pipeline.Quiescent
public import Idealize.ShloMosaic.Lib.Claim

/-!
# The experts kernel at any tables within their range

The kernel's two tables, the expert of each block of rows and the number of blocks in use, are
arguments. The kernel is run here at every pair of tables whose entries lie in the range the problem
draws them from: it terminates without a fault and leaves its arguments as they were.
-/

@[expose] public section

set_option maxRecDepth 16384
set_option Elab.async false

noncomputable section

namespace Cert.ExpertsKernel.Tab

open Cert.ExpertsKernel Cert.ExpertsKernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources the run is stated over. -/
abbrev Res := MT nD τ sig Unit (Elt Bits) ℕ (UR sig nD τ) ℕ

/-- The staging cells' part of the resources. -/
abbrev EP : Emb (UR sig nD τ) Res := emb₁

/-- Tables within their range: an expert below 32 for each of the 292 blocks, and at least one block in
use, as a signed number. -/
structure Tables where
  e : S292.Idx → BitVec 32
  n : BitVec 32
  e_lt : ∀ x, (e x).toNat < 32
  n_pos : 1 ≤ n.toNat
  n_le : n.toNat < 2147483648

/-- The count as the one-entry table the kernel reads. -/
abbrev Tables.cnt (T : Tables) : S1.Idx → BitVec 32 := fun _ => T.n

/-- The two tables as the kernel takes them. -/
def Tables.pf (T : Tables) : pre0.Contents (Elt Bits) :=
  fun | ⟨0, _⟩ => T.e | ⟨1, _⟩ => T.cnt | ⟨_ + 2, h⟩ => absurd h (by simp)

/-- The least of a small word and another is the least of their values. -/
theorem toNat_minsi (a b : BitVec 32) (ha : a.toNat < 2 ^ 31) (hb : b.toNat < 2 ^ 31) :
    (Scalar.minsi a b).toNat = min a.toNat b.toNat := by
  have h : a.slt b = decide (a.toNat < b.toNat) := by
    rw [BitVec.slt_eq_decide, BitVec.toInt_eq_toNat_of_lt (by omega), BitVec.toInt_eq_toNat_of_lt (by omega)]
    simp only [Nat.cast_lt]
  unfold Scalar.minsi IntOp.minsi
  rw [h]
  by_cases q : a.toNat < b.toNat
  · rw [if_pos (by simpa using q)]; omega
  · rw [if_neg (by simpa using q)]; omega

/-- The count less one. -/
theorem toNat_pred (T : Tables) : (Scalar.subi T.n 1#32).toNat = T.n.toNat - 1 := by
  have h1 := T.n_pos; have h2 := T.n_le
  show (T.n - 1#32).toNat = _
  rw [BitVec.toNat_sub, show (1#32).toNat = 1 from rfl]
  omega

/-- A grid coordinate as a word has the coordinate's value. -/
theorem toNat_crd (i : grid0.Coords) : (BitVec.ofNat 32 (i 0).val).toNat = (i 0).val := by
  have h : (i 0).val < 292 := (i 0).isLt
  rw [BitVec.toNat_ofNat]; omega

/-- The block of rows read at a point: the point's own, and past the blocks in use the last one in use. -/
theorem row_block (T : Tables) (i : grid0.Coords) :
    (Scalar.minsi (BitVec.ofNat 32 (i 0).val) (Scalar.subi T.n 1#32)).toNat = min (i 0).val (T.n.toNat - 1) := by
  have h : (i 0).val < 292 := (i 0).isLt
  have h1 := T.n_pos; have h2 := T.n_le
  rw [toNat_minsi _ _ (by rw [toNat_crd]; omega) (by rw [toNat_pred]; omega), toNat_crd, toNat_pred]

theorem rows_inb (T : Tables) (i : grid0.Coords) : ∀ a, (cc0_transform_0 inb_S1_S1_0 numel1_S1 T.pf i a + 1) * S256x1024.size a ≤ S74752x1024.size a := by
  have h : (i 0).val < 292 := (i 0).isLt
  refine Fin.cases ?_ (fun a => ?_)
  · show ((Scalar.minsi (BitVec.ofNat 32 (i 0).val) (Scalar.subi T.n 1#32)).toNat + 1) * 256 ≤ 74752
    rw [row_block]; omega
  · fin_cases a; exact (by decide : (0 + 1) * 1024 ≤ 1024)

theorem gate_inb (T : Tables) (i : grid0.Coords) : ∀ a, (cc0_transform_1 k0_off1_inb numel1_S1 T.pf i a + 1) * S1x1024x512.size a ≤ S32x1024x512.size a := by
  refine Fin.cases ?_ (fun a => ?_)
  · show ((T.e _).toNat + 1) * 1 ≤ 32
    have := T.e_lt; rw [Nat.mul_one]; exact this _
  · fin_cases a
    · exact (by decide : (0 + 1) * 1024 ≤ 1024)
    · exact (by decide : (0 + 1) * 512 ≤ 512)

theorem up_inb (T : Tables) (i : grid0.Coords) : ∀ a, (cc0_transform_2 k0_off1_inb numel1_S1 T.pf i a + 1) * S1x1024x512.size a ≤ S32x1024x512.size a :=
  gate_inb T i

theorem down_inb (T : Tables) (i : grid0.Coords) : ∀ a, (cc0_transform_3 k0_off1_inb numel1_S1 T.pf i a + 1) * S1x512x1024.size a ≤ S32x512x1024.size a := by
  refine Fin.cases ?_ (fun a => ?_)
  · show ((T.e _).toNat + 1) * 1 ≤ 32
    have := T.e_lt; rw [Nat.mul_one]; exact this _
  · fin_cases a
    · exact (by decide : (0 + 1) * 512 ≤ 512)
    · exact (by decide : (0 + 1) * 1024 ≤ 1024)

/-- Every block the kernel moves lies inside its array. -/
theorem ok_pf (T : Tables) : ok0 (F := Bits) T.pf :=
  ⟨fun i => ⟨rows_inb T i, .inl rfl⟩,
    fun i => ⟨gate_inb T i, .inr (Affine.block_words_dvd (s := S32x1024x512) (p := EltTy.packing .bf16) (by decide) (by decide))⟩,
    fun i => ⟨up_inb T i, .inr (Affine.block_words_dvd (s := S32x1024x512) (p := EltTy.packing .bf16) (by decide) (by decide))⟩,
    fun i => ⟨down_inb T i, .inr (Affine.block_words_dvd (s := S32x512x1024) (p := EltTy.packing .bf16) (by decide) (by decide))⟩⟩

/-- The tables as the pipeline admits them, and the pipeline at them. -/
def adm (T : Tables) : (pcfg0 (F := Bits)).Adm := ⟨T.pf, ok_pf T⟩
abbrev cfgA (T : Tables) : Pipeline.Cfg sig Λ₀ := cfg0 (F := Bits) (adm T)
abbrev pcs (T : Tables) : Fin 1 → Pipeline.Cfg sig Λ₀ := Pipeline.pin (pcfgs (F := Bits)) fun _ => adm T

variable (ch : Tables)
variable (m : (ℓ : Loc nD τ sig) → Buf (Elt Bits) ℓ) (ρ : Dev nD → PrngReg)

/-- The launch memory holds the tables. -/
def Pinned (m : (ℓ : Loc nD τ sig) → Buf (Elt Bits) ℓ) : Prop :=
  (∀ c : Dev nD, m ((c : Thread nD τ).loc main_arg0) = ch.e)
  ∧ (∀ c : Dev nD, m ((c : Thread nD τ).loc main_arg1) = ch.cnt)

/-- Point `t`'s coordinates. -/
abbrev crd (t : Fin (cfgA ch).N) : (cfgA ch).grid.Coords := (cfgA ch).grid.coords t

/-! Each window's staging buffer at point `t`, and that it is a whole buffer. -/
abbrev ms0_0 (t : Fin (cfgA ch).N) : Memref sig .tc .vmem S256x1024 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1024x512 .bf16 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1024x512 .bf16 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x512x1024 .bf16 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S256x1024 .f32 := spec0_4.stage ((cfgA ch).slots t (4 : Fin 5))
abbrev hs0_4 (t : Fin (cfgA ch).N) : (ms0_4 ch t).IsWhole := hstage0_4 (((cfgA ch).slots t (4 : Fin 5)).cast nbuf0_4)

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-- The count as the body reads it. -/
abbrev word : BitVec 32 := View.readAt (Elt Bits) (tbM0_1).view (Rect.unit (s := S1) ![0] S1.size inb_S1_S1_0).toLoadRect ch.cnt (Shape.Idx.first (numel1_S1.symm ▸ Nat.one_pos))

/-- The body's two conditions are each other's negation. -/
theorem cond_not (i : grid0.Coords) (v : BitVec 32) : k0_cond2 i v = 1#1 ↔ ¬ k0_cond1 i v = 1#1 := by
  unfold k0_cond1 k0_cond2
  generalize BitVec.ofNat 32 (i 0).val = a
  show Scalar.cmpi .ne (Scalar.extui (BitVec.ofBool (v.sle a))) 0#32 = 1#1 ↔ ¬ Scalar.cmpi .ne (Scalar.extui (BitVec.ofBool (a.slt v))) 0#32 = 1#1
  rw [BitVec.sle_eq_not_slt]
  cases a.slt v <;> decide

/-- The first condition holds at the blocks in use. -/
theorem cond_iff (i : grid0.Coords) : k0_cond1 i ch.n = 1#1 ↔ (i 0).val < ch.n.toNat := by
  have h2 := ch.n_le
  have hi : (i 0).val < 292 := (i 0).isLt
  have h : (BitVec.ofNat 32 (i 0).val).slt ch.n = decide ((i 0).val < ch.n.toNat) := by
    rw [BitVec.slt_eq_decide, BitVec.toInt_eq_toNat_of_lt (by rw [toNat_crd]; omega), BitVec.toInt_eq_toNat_of_lt (by omega), toNat_crd]
    simp only [Nat.cast_lt]
  unfold k0_cond1
  show Scalar.cmpi .ne (Scalar.extui (BitVec.ofBool ((BitVec.ofNat 32 (i 0).val).slt ch.n))) 0#32 = 1#1 ↔ _
  rw [h]
  by_cases q : (i 0).val < ch.n.toNat
  · simp only [q, decide_true, iff_true]; decide
  · simp only [q, decide_false, iff_false]; decide

/-- The block at point `t` is in use. -/
abbrev P0_0 (t : Fin (cfgA ch).N) : Prop := k0_cond1 (crd ch t) (word ch) = 1#1

/-- The grid's only coordinate counts the points. -/
theorem crd_val : ∀ t : Fin grid0.N, (grid0.coords t 0).val = t.val := by decide +kernel

/-- The body always writes its output, -/
theorem idle_4 (t : Fin (cfgA ch).N) : (cfgA ch).idle (4 : Fin 5) ((cfgA ch).grid.coords t) = false := by
  show (!(k0_cond1 (crd ch t) ch.n == 1#1) && !(k0_cond2 (crd ch t) ch.n == 1#1)) = false
  by_cases q : k0_cond1 (crd ch t) ch.n = 1#1
  · rw [q]; rfl
  · rw [(cond_not _ _).2 q]; simp

/-- which goes back to the array after every point, -/
theorem flush_4 (t : Fin (cfgA ch).N) : ((cfgA ch).win (4 : Fin 5)).flush t = true := by
  rw [Window.flush_eq_flushOf]
  revert t
  show ∀ t : Fin grid0.N, Window.flushOf grid0 true cc0_transform_4 t = true
  decide +kernel

/-- so that the buffer holds nothing of an earlier point. -/
theorem fresh_4 (t : Fin (cfgA ch).N) : (cfgA ch).fresh (4 : Fin 5) t.val = true :=
  Pipeline.Cfg.fresh_tab (cfgA ch) (4 : Fin 5) (fun _ => true) rfl (fun t => by rw [flush_4]; rfl) t.val (Nat.le_of_lt t.isLt)

/-- What the output's buffer holds after the body at point `t`. -/
def step0 (c : Dev nD) (t : Fin (cfgA ch).N) : (S256x1024.Idx → Elt Bits .f32) :=
  if q0 : P0_0 ch t then
    out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) ch.e ch.cnt (iblk ch m ρ c (0 : Fin 5) t) (iblk ch m ρ c (1 : Fin 5) t) (iblk ch m ρ c (2 : Fin 5) t) (iblk ch m ρ c (3 : Fin 5) t) q0 (fun h => (cond_not _ _).1 h q0)
  else
    out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.e ch.cnt (iblk ch m ρ c (0 : Fin 5) t) (iblk ch m ρ c (1 : Fin 5) t) (iblk ch m ρ c (2 : Fin 5) t) (iblk ch m ρ c (3 : Fin 5) t) q0 ((cond_not _ _).2 q0)

/-- `step0` at a block in use, -/
theorem step0_A (c : Dev nD) (t : Fin (cfgA ch).N) (q0 : P0_0 ch t) :
    step0 ch m ρ c t = out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) ch.e ch.cnt (iblk ch m ρ c (0 : Fin 5) t) (iblk ch m ρ c (1 : Fin 5) t) (iblk ch m ρ c (2 : Fin 5) t) (iblk ch m ρ c (3 : Fin 5) t) q0 (fun h => (cond_not _ _).1 h q0) := by
  unfold step0; simp only [dif_pos q0]

/-- and past them. -/
theorem step0_B (c : Dev nD) (t : Fin (cfgA ch).N) (q0 : ¬P0_0 ch t) :
    step0 ch m ρ c t = out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.e ch.cnt (iblk ch m ρ c (0 : Fin 5) t) (iblk ch m ρ c (1 : Fin 5) t) (iblk ch m ρ c (2 : Fin 5) t) (iblk ch m ρ c (3 : Fin 5) t) q0 ((cond_not _ _).2 q0) := by
  unfold step0; simp only [dif_neg q0]

/-- What the body is handed beside its buffers: its halves of the tables. -/
def Phi (m : (ℓ : Loc nD τ sig) → Buf (Elt Bits) ℓ) (ρ : Dev nD → PrngReg) (c : Dev nD) (t : Fin ((cfgA ch).N + 1)) : sProp Res :=
  iprop((tbM0_0.view.loc (c : Thread nD τ) ↦{fullShare.right} ch.e) ∗ (tbM0_1.view.loc (c : Thread nD τ) ↦{fullShare.right} ch.cnt))

/-- What each buffer holds after each point: an input its block, the output what the body wrote. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => step0 ch m ρ c t
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = step0 ch m ρ c t := rfl

/-! ## What each window's staging buffer holds when the body runs -/

/-- Window 0 holds its block when the body runs. -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Window 1 holds its block when the body runs. -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Window 2 holds its block when the body runs. -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Window 3 holds its block when the body runs. -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The output's buffer holds nothing in particular. -/
theorem before0_4 (c : Dev nD) (t : Fin (cfgA ch).N) (d) : (dats ch m ρ 0 c).before (4 : Fin 5) t d = d := by
  rw [(dats ch m ρ 0 c).before_out_traj (4 : Fin 5) rfl (fun _ _ => rfl) (fun t _ hi _ => by rw [idle_4] at hi; exact absurd hi (by decide)) t.val t rfl d, fresh_4]
  rfl

/-! ## The body obligation, at a generic point, by path -/

/-- The body at point `t` on its buffers. -/
abbrev bodyAt0 (t : Fin (cfgA ch).N) : Prog (TpuEff nD τ sig (Elt Bits) Λ₀ .tc) PUnit :=
  cc0_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t)

set_option maxHeartbeats 4000000 in
/-- The body at point `t` runs from its buffers to what the proof data says of them, whether the block is in use or not. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · have i4 := idle_4 ch t
    have f4 := flush_4 ch t
    have k0_h1 := q0
    have k0_h2 := fun h => (cond_not (crd ch t) (word ch)).1 h q0
    rewrite [i4]
    simp only [before0_0, before0_1, before0_2, before0_3, before0_4, after0_0, after0_1, after0_2, after0_3, after0_4, f4]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    unfold Phi; simp only [step0_A ch m ρ c t q0]
    iintro ⟨⟨HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.e ch.cnt (iblk ch m ρ c (0 : Fin 5) t) (iblk ch m ρ c (1 : Fin 5) t) (iblk ch m ρ c (2 : Fin 5) t) (iblk ch m ρ c (3 : Fin 5) t) k0_h1 k0_h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · have i4 := idle_4 ch t
    have f4 := flush_4 ch t
    have k0_h1 := q0
    have k0_h2 := (cond_not (crd ch t) (word ch)).2 q0
    rewrite [i4]
    simp only [before0_0, before0_1, before0_2, before0_3, before0_4, after0_0, after0_1, after0_2, after0_3, after0_4, f4]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    unfold Phi; simp only [step0_B ch m ρ c t q0]
    iintro ⟨⟨HT0, HT1⟩, Ho, ⟨%d0, H0⟩, ⟨%d1, H1⟩, ⟨%d2, H2⟩, ⟨%d3, H3⟩, ⟨%d4, H4⟩⟩
    iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.e ch.cnt (iblk ch m ρ c (0 : Fin 5) t) (iblk ch m ρ c (1 : Fin 5) t) (iblk ch m ρ c (2 : Fin 5) t) (iblk ch m ρ c (3 : Fin 5) t) k0_h1 k0_h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

/-- The body meets the pipeline's obligation at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The resources at launch. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The two tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp Res)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The body's part is there at the first point, -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, -⟩
  isplitl [HT0]
  · iexact HT0
  iexact HT1

/-- and let go of after the last. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-, -⟩
  isplitr; · iempintro
  iempintro

/-- What holds at the end: each array at what the pipeline computes, the tables as they were. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- From a memory that holds the tables, every fair run of the program terminates with each array at what the
pipeline computes and every semaphore at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- The arguments are unchanged after every fair run. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- From a memory that holds the tables, every fair run terminates without a fault, with the arguments unchanged and
every semaphore at zero. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.ExpertsKernel.Tab

end
-- ==== Proof.ExpertsRun.lean ====
module

public import proofs.«01_k».proof.Proof.Gen.ExpertsKernelIdeal.Flash.Runs
public import Idealize.ShloMosaic.Lib.Pipeline.Quiescent
public import Idealize.ShloMosaic.Lib.Claim

/-!
# The experts kernel at any tables within their range

The kernel's two tables, the expert of each block of rows and the number of blocks in use, are
arguments. The kernel is run here at every pair of tables whose entries lie in the range the problem
draws them from: it terminates without a fault and leaves its arguments as they were.
-/

@[expose] public section

set_option maxRecDepth 16384
set_option Elab.async false

noncomputable section

namespace Cert.ExpertsKernelIdeal.Tab

open Cert.ExpertsKernelIdeal Cert.ExpertsKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources the run is stated over. -/
abbrev Res := MT nD τ sig Unit (Elt Ideal) ℕ (UR sig nD τ) ℕ

/-- The staging cells' part of the resources. -/
abbrev EP : Emb (UR sig nD τ) Res := emb₁

/-- Tables within their range: an expert below 32 for each of the 292 blocks, and at least one block in
use, as a signed number. -/
structure Tables where
  e : S292.Idx → BitVec 32
  n : BitVec 32
  e_lt : ∀ x, (e x).toNat < 32
  n_pos : 1 ≤ n.toNat
  n_le : n.toNat < 2147483648

/-- The count as the one-entry table the kernel reads. -/
abbrev Tables.cnt (T : Tables) : S1.Idx → BitVec 32 := fun _ => T.n

/-- The two tables as the kernel takes them. -/
def Tables.pf (T : Tables) : pre0.Contents (Elt Ideal) :=
  fun | ⟨0, _⟩ => T.e | ⟨1, _⟩ => T.cnt | ⟨_ + 2, h⟩ => absurd h (by simp)

/-- The least of a small word and another is the least of their values. -/
theorem toNat_minsi (a b : BitVec 32) (ha : a.toNat < 2 ^ 31) (hb : b.toNat < 2 ^ 31) :
    (Scalar.minsi a b).toNat = min a.toNat b.toNat := by
  have h : a.slt b = decide (a.toNat < b.toNat) := by
    rw [BitVec.slt_eq_decide, BitVec.toInt_eq_toNat_of_lt (by omega), BitVec.toInt_eq_toNat_of_lt (by omega)]
    simp only [Nat.cast_lt]
  unfold Scalar.minsi IntOp.minsi
  rw [h]
  by_cases q : a.toNat < b.toNat
  · rw [if_pos (by simpa using q)]; omega
  · rw [if_neg (by simpa using q)]; omega

/-- The count less one. -/
theorem toNat_pred (T : Tables) : (Scalar.subi T.n 1#32).toNat = T.n.toNat - 1 := by
  have h1 := T.n_pos; have h2 := T.n_le
  show (T.n - 1#32).toNat = _
  rw [BitVec.toNat_sub, show (1#32).toNat = 1 from rfl]
  omega

/-- A grid coordinate as a word has the coordinate's value. -/
theorem toNat_crd (i : grid0.Coords) : (BitVec.ofNat 32 (i 0).val).toNat = (i 0).val := by
  have h : (i 0).val < 292 := (i 0).isLt
  rw [BitVec.toNat_ofNat]; omega

/-- The block of rows read at a point: the point's own, and past the blocks in use the last one in use. -/
theorem row_block (T : Tables) (i : grid0.Coords) :
    (Scalar.minsi (BitVec.ofNat 32 (i 0).val) (Scalar.subi T.n 1#32)).toNat = min (i 0).val (T.n.toNat - 1) := by
  have h : (i 0).val < 292 := (i 0).isLt
  have h1 := T.n_pos; have h2 := T.n_le
  rw [toNat_minsi _ _ (by rw [toNat_crd]; omega) (by rw [toNat_pred]; omega), toNat_crd, toNat_pred]

theorem rows_inb (T : Tables) (i : grid0.Coords) : ∀ a, (cc0_transform_0 inb_S1_S1_0 numel1_S1 T.pf i a + 1) * S256x1024.size a ≤ S74752x1024.size a := by
  have h : (i 0).val < 292 := (i 0).isLt
  refine Fin.cases ?_ (fun a => ?_)
  · show ((Scalar.minsi (BitVec.ofNat 32 (i 0).val) (Scalar.subi T.n 1#32)).toNat + 1) * 256 ≤ 74752
    rw [row_block]; omega
  · fin_cases a; exact (by decide : (0 + 1) * 1024 ≤ 1024)

theorem gate_inb (T : Tables) (i : grid0.Coords) : ∀ a, (cc0_transform_1 k0_off1_inb numel1_S1 T.pf i a + 1) * S1x1024x512.size a ≤ S32x1024x512.size a := by
  refine Fin.cases ?_ (fun a => ?_)
  · show ((T.e _).toNat + 1) * 1 ≤ 32
    have := T.e_lt; rw [Nat.mul_one]; exact this _
  · fin_cases a
    · exact (by decide : (0 + 1) * 1024 ≤ 1024)
    · exact (by decide : (0 + 1) * 512 ≤ 512)

theorem up_inb (T : Tables) (i : grid0.Coords) : ∀ a, (cc0_transform_2 k0_off1_inb numel1_S1 T.pf i a + 1) * S1x1024x512.size a ≤ S32x1024x512.size a :=
  gate_inb T i

theorem down_inb (T : Tables) (i : grid0.Coords) : ∀ a, (cc0_transform_3 k0_off1_inb numel1_S1 T.pf i a + 1) * S1x512x1024.size a ≤ S32x512x1024.size a := by
  refine Fin.cases ?_ (fun a => ?_)
  · show ((T.e _).toNat + 1) * 1 ≤ 32
    have := T.e_lt; rw [Nat.mul_one]; exact this _
  · fin_cases a
    · exact (by decide : (0 + 1) * 512 ≤ 512)
    · exact (by decide : (0 + 1) * 1024 ≤ 1024)

/-- Every block the kernel moves lies inside its array. -/
theorem ok_pf (T : Tables) : ok0 (F := Ideal) T.pf :=
  ⟨fun i => ⟨rows_inb T i, .inl rfl⟩,
    fun i => ⟨gate_inb T i, .inr (Affine.block_words_dvd (s := S32x1024x512) (p := EltTy.packing .bf16) (by decide) (by decide))⟩,
    fun i => ⟨up_inb T i, .inr (Affine.block_words_dvd (s := S32x1024x512) (p := EltTy.packing .bf16) (by decide) (by decide))⟩,
    fun i => ⟨down_inb T i, .inr (Affine.block_words_dvd (s := S32x512x1024) (p := EltTy.packing .bf16) (by decide) (by decide))⟩⟩

/-- The tables as the pipeline admits them, and the pipeline at them. -/
def adm (T : Tables) : (pcfg0 (F := Ideal)).Adm := ⟨T.pf, ok_pf T⟩
abbrev cfgA (T : Tables) : Pipeline.Cfg sig Λ₀ := cfg0 (F := Ideal) (adm T)
abbrev pcs (T : Tables) : Fin 1 → Pipeline.Cfg sig Λ₀ := Pipeline.pin (pcfgs (F := Ideal)) fun _ => adm T

variable (ch : Tables)
variable (m : (ℓ : Loc nD τ sig) → Buf (Elt Ideal) ℓ) (ρ : Dev nD → PrngReg)

/-- The launch memory holds the tables. -/
def Pinned (m : (ℓ : Loc nD τ sig) → Buf (Elt Ideal) ℓ) : Prop :=
  (∀ c : Dev nD, m ((c : Thread nD τ).loc main_arg0) = ch.e)
  ∧ (∀ c : Dev nD, m ((c : Thread nD τ).loc main_arg1) = ch.cnt)

/-- Point `t`'s coordinates. -/
abbrev crd (t : Fin (cfgA ch).N) : (cfgA ch).grid.Coords := (cfgA ch).grid.coords t

/-! Each window's staging buffer at point `t`, and that it is a whole buffer. -/
abbrev ms0_0 (t : Fin (cfgA ch).N) : Memref sig .tc .vmem S256x1024 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1024x512 .bf16 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1024x512 .bf16 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x512x1024 .bf16 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S256x1024 .f32 := spec0_4.stage ((cfgA ch).slots t (4 : Fin 5))
abbrev hs0_4 (t : Fin (cfgA ch).N) : (ms0_4 ch t).IsWhole := hstage0_4 (((cfgA ch).slots t (4 : Fin 5)).cast nbuf0_4)

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-- The count as the body reads it. -/
abbrev word : BitVec 32 := View.readAt (Elt Ideal) (tbM0_1).view (Rect.unit (s := S1) ![0] S1.size inb_S1_S1_0).toLoadRect ch.cnt (Shape.Idx.first (numel1_S1.symm ▸ Nat.one_pos))

/-- The body's two conditions are each other's negation. -/
theorem cond_not (i : grid0.Coords) (v : BitVec 32) : k0_cond2 i v = 1#1 ↔ ¬ k0_cond1 i v = 1#1 := by
  unfold k0_cond1 k0_cond2
  generalize BitVec.ofNat 32 (i 0).val = a
  show Scalar.cmpi .ne (Scalar.extui (BitVec.ofBool (v.sle a))) 0#32 = 1#1 ↔ ¬ Scalar.cmpi .ne (Scalar.extui (BitVec.ofBool (a.slt v))) 0#32 = 1#1
  rw [BitVec.sle_eq_not_slt]
  cases a.slt v <;> decide

/-- The first condition holds at the blocks in use. -/
theorem cond_iff (i : grid0.Coords) : k0_cond1 i ch.n = 1#1 ↔ (i 0).val < ch.n.toNat := by
  have h2 := ch.n_le
  have hi : (i 0).val < 292 := (i 0).isLt
  have h : (BitVec.ofNat 32 (i 0).val).slt ch.n = decide ((i 0).val < ch.n.toNat) := by
    rw [BitVec.slt_eq_decide, BitVec.toInt_eq_toNat_of_lt (by rw [toNat_crd]; omega), BitVec.toInt_eq_toNat_of_lt (by omega), toNat_crd]
    simp only [Nat.cast_lt]
  unfold k0_cond1
  show Scalar.cmpi .ne (Scalar.extui (BitVec.ofBool ((BitVec.ofNat 32 (i 0).val).slt ch.n))) 0#32 = 1#1 ↔ _
  rw [h]
  by_cases q : (i 0).val < ch.n.toNat
  · simp only [q, decide_true, iff_true]; decide
  · simp only [q, decide_false, iff_false]; decide

/-- The block at point `t` is in use. -/
abbrev P0_0 (t : Fin (cfgA ch).N) : Prop := k0_cond1 (crd ch t) (word ch) = 1#1

/-- The grid's only coordinate counts the points. -/
theorem crd_val : ∀ t : Fin grid0.N, (grid0.coords t 0).val = t.val := by decide +kernel

/-- The body always writes its output, -/
theorem idle_4 (t : Fin (cfgA ch).N) : (cfgA ch).idle (4 : Fin 5) ((cfgA ch).grid.coords t) = false := by
  show (!(k0_cond1 (crd ch t) ch.n == 1#1) && !(k0_cond2 (crd ch t) ch.n == 1#1)) = false
  by_cases q : k0_cond1 (crd ch t) ch.n = 1#1
  · rw [q]; rfl
  · rw [(cond_not _ _).2 q]; simp

/-- which goes back to the array after every point, -/
theorem flush_4 (t : Fin (cfgA ch).N) : ((cfgA ch).win (4 : Fin 5)).flush t = true := by
  rw [Window.flush_eq_flushOf]
  revert t
  show ∀ t : Fin grid0.N, Window.flushOf grid0 true cc0_transform_4 t = true
  decide +kernel

/-- so that the buffer holds nothing of an earlier point. -/
theorem fresh_4 (t : Fin (cfgA ch).N) : (cfgA ch).fresh (4 : Fin 5) t.val = true :=
  Pipeline.Cfg.fresh_tab (cfgA ch) (4 : Fin 5) (fun _ => true) rfl (fun t => by rw [flush_4]; rfl) t.val (Nat.le_of_lt t.isLt)

/-- What the output's buffer holds after the body at point `t`. -/
def step0 (c : Dev nD) (t : Fin (cfgA ch).N) : (S256x1024.Idx → Elt Ideal .f32) :=
  if q0 : P0_0 ch t then
    out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) ch.e ch.cnt (iblk ch m ρ c (0 : Fin 5) t) (iblk ch m ρ c (1 : Fin 5) t) (iblk ch m ρ c (2 : Fin 5) t) (iblk ch m ρ c (3 : Fin 5) t) q0 (fun h => (cond_not _ _).1 h q0)
  else
    out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.e ch.cnt (iblk ch m ρ c (0 : Fin 5) t) (iblk ch m ρ c (1 : Fin 5) t) (iblk ch m ρ c (2 : Fin 5) t) (iblk ch m ρ c (3 : Fin 5) t) q0 ((cond_not _ _).2 q0)

/-- `step0` at a block in use, -/
theorem step0_A (c : Dev nD) (t : Fin (cfgA ch).N) (q0 : P0_0 ch t) :
    step0 ch m ρ c t = out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) ch.e ch.cnt (iblk ch m ρ c (0 : Fin 5) t) (iblk ch m ρ c (1 : Fin 5) t) (iblk ch m ρ c (2 : Fin 5) t) (iblk ch m ρ c (3 : Fin 5) t) q0 (fun h => (cond_not _ _).1 h q0) := by
  unfold step0; simp only [dif_pos q0]

/-- and past them. -/
theorem step0_B (c : Dev nD) (t : Fin (cfgA ch).N) (q0 : ¬P0_0 ch t) :
    step0 ch m ρ c t = out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) ch.e ch.cnt (iblk ch m ρ c (0 : Fin 5) t) (iblk ch m ρ c (1 : Fin 5) t) (iblk ch m ρ c (2 : Fin 5) t) (iblk ch m ρ c (3 : Fin 5) t) q0 ((cond_not _ _).2 q0) := by
  unfold step0; simp only [dif_neg q0]

/-- What the body is handed beside its buffers: its halves of the tables. -/
def Phi (m : (ℓ : Loc nD τ sig) → Buf (Elt Ideal) ℓ) (ρ : Dev nD → PrngReg) (c : Dev nD) (t : Fin ((cfgA ch).N + 1)) : sProp Res :=
  iprop((tbM0_0.view.loc (c : Thread nD τ) ↦{fullShare.right} ch.e) ∗ (tbM0_1.view.loc (c : Thread nD τ) ↦{fullShare.right} ch.cnt))

/-- What each buffer holds after each point: an input its block, the output what the body wrote. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => step0 ch m ρ c t
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = step0 ch m ρ c t := rfl

/-! ## What each window's staging buffer holds when the body runs -/

/-- Window 0 holds its block when the body runs. -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Window 1 holds its block when the body runs. -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Window 2 holds its block when the body runs. -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Window 3 holds its block when the body runs. -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The output's buffer holds nothing in particular. -/
theorem before0_4 (c : Dev nD) (t : Fin (cfgA ch).N) (d) : (dats ch m ρ 0 c).before (4 : Fin 5) t d = d := by
  rw [(dats ch m ρ 0 c).before_out_traj (4 : Fin 5) rfl (fun _ _ => rfl) (fun t _ hi _ => by rw [idle_4] at hi; exact absurd hi (by decide)) t.val t rfl d, fresh_4]
  rfl

/-! ## The body obligation, at a generic point, by path -/

/-- The body at point `t` on its buffers. -/
abbrev bodyAt0 (t : Fin (cfgA ch).N) : Prog (TpuEff nD τ sig (Elt Ideal) Λ₀ .tc) PUnit :=
  cc0_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t)

set_option maxHeartbeats 4000000 in
/-- The body at point `t` runs from its buffers to what the proof data says of them, whether the block is in use or not. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · have i4 := idle_4 ch t
    have f4 := flush_4 ch t
    have k0_h1 := q0
    have k0_h2 := fun h => (cond_not (crd ch t) (word ch)).1 h q0
    rewrite [i4]
    simp only [before0_0, before0_1, before0_2, before0_3, before0_4, after0_0, after0_1, after0_2, after0_3, after0_4, f4]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    unfold Phi; simp only [step0_A ch m ρ c t q0]
    iintro ⟨⟨HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) ch.e ch.cnt (iblk ch m ρ c (0 : Fin 5) t) (iblk ch m ρ c (1 : Fin 5) t) (iblk ch m ρ c (2 : Fin 5) t) (iblk ch m ρ c (3 : Fin 5) t) k0_h1 k0_h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · have i4 := idle_4 ch t
    have f4 := flush_4 ch t
    have k0_h1 := q0
    have k0_h2 := (cond_not (crd ch t) (word ch)).2 q0
    rewrite [i4]
    simp only [before0_0, before0_1, before0_2, before0_3, before0_4, after0_0, after0_1, after0_2, after0_3, after0_4, f4]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    unfold Phi; simp only [step0_B ch m ρ c t q0]
    iintro ⟨⟨HT0, HT1⟩, Ho, ⟨%d0, H0⟩, ⟨%d1, H1⟩, ⟨%d2, H2⟩, ⟨%d3, H3⟩, ⟨%d4, H4⟩⟩
    iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) ch.e ch.cnt (iblk ch m ρ c (0 : Fin 5) t) (iblk ch m ρ c (1 : Fin 5) t) (iblk ch m ρ c (2 : Fin 5) t) (iblk ch m ρ c (3 : Fin 5) t) k0_h1 k0_h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

/-- The body meets the pipeline's obligation at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The resources at launch. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The two tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp Res)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The body's part is there at the first point, -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, -⟩
  isplitl [HT0]
  · iexact HT0
  iexact HT1

/-- and let go of after the last. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-, -⟩
  isplitr; · iempintro
  iempintro

/-- What holds at the end: each array at what the pipeline computes, the tables as they were. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- From a memory that holds the tables, every fair run of the program terminates with each array at what the
pipeline computes and every semaphore at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- The arguments are unchanged after every fair run. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- From a memory that holds the tables, every fair run terminates without a fault, with the arguments unchanged and
every semaphore at zero. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.ExpertsKernelIdeal.Tab

end
-- ==== Proof.ExpertsPure.lean ====
module

public import proofs.«01_k».proof.Proof.Gen.ExpertsKernelIdeal.Skeleton
public import proofs.«01_k».proof.Proof.Gen.ExpertsReferenceIdeal.Read
public import Idealize.ShloMosaic.Lib.Pointwise

/-!
# One element of an expert's output, in the kernel and in the reference
-/

@[expose] public section

set_option maxRecDepth 16384
noncomputable section
open Idealize.ShloMosaic Idealize.ShloMosaic.TcCoe Idealize.SL.Sem

namespace Cert.Gather

/-- The dimension numbers of a lookup of whole matrices along the first axis at a column of positions. -/
abbrev slabDims (N A B C : Nat) (wf : GatherDims.WF ⟨3, ![N, A, B]⟩ ⟨2, ![C, 1]⟩ ⟨3, ![C, A, B]⟩ [1, 2] [0] [] [0] [] 1 ![1, A, B]) :
    GatherDims ⟨3, ![N, A, B]⟩ ⟨2, ![C, 1]⟩ ⟨3, ![C, A, B]⟩ where
  offsetDims := [1, 2]
  collapsedSliceDims := [0]
  operandBatchingDims := []
  startIndicesBatchingDims := []
  startIndexMap := [0]
  indexVectorDim := 1
  sliceSizes := ![1, A, B]
  wf := wf

/-- The lookup at an element: the matrix at the position's word, read signed and clamped. -/
theorem gather_slab_apply {α : Type} {N A B C w : Nat} (hN : 0 < N)
    (wf : GatherDims.WF ⟨3, ![N, A, B]⟩ ⟨2, ![C, 1]⟩ ⟨3, ![C, A, B]⟩ [1, 2] [0] [] [0] [] 1 ![1, A, B])
    (x : (⟨3, ![N, A, B]⟩ : Shape).Idx → α) (idx : IVec ⟨2, ![C, 1]⟩ w) (c : Fin C) (a : Fin A) (b : Fin B) :
    Host.gather (slabDims N A B C wf) x idx (ix3 c a b)
      = x (ix3 ⟨min (idx (ix2 c 0)).toInt.toNat (N - 1), by omega⟩ a b) := by
  unfold Host.gather
  congr 1
  funext d
  refine Fin.ext ?_
  show (slabDims N A B C wf).start (ix3 c a b) idx d + (slabDims N A B C wf).batchCoord (ix3 c a b) d
      + (slabDims N A B C wf).offCoord (ix3 c a b) d = _
  have h012 : d = 0 ∨ d = 1 ∨ d = 2 := by
    match d with
    | ⟨0, _⟩ => exact Or.inl rfl
    | ⟨1, _⟩ => exact Or.inr (Or.inl rfl)
    | ⟨2, _⟩ => exact Or.inr (Or.inr rfl)
  rw [GatherDims.batchCoord_eq_zero _ _ _ List.not_mem_nil]
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N A B C wf).startIndexMap from List.mem_singleton.mpr rfl)]
    have hsi : (slabDims N A B C wf).siIdx (ix3 c a b) ⟨List.idxOf (0 : Fin 3) (slabDims N A B C wf).startIndexMap,
        List.idxOf_lt_length_iff.2 (List.mem_singleton.mpr rfl)⟩ = ix2 c 0 := by
      funext k; refine Fin.ext ?_
      match k with
      | ⟨0, _⟩ => rfl
      | ⟨1, _⟩ => rfl
    rw [hsi]
    rfl
  · unfold GatherDims.start
    rw [dif_neg (show ¬ (1 : Fin 3) ∈ (slabDims N A B C wf).startIndexMap from fun h => absurd (congrArg Fin.val (List.mem_singleton.mp h)) (Nat.succ_ne_zero 0))]
    simp only [Nat.zero_add, Nat.add_zero]
    rfl
  · unfold GatherDims.start
    rw [dif_neg (show ¬ (2 : Fin 3) ∈ (slabDims N A B C wf).startIndexMap from fun h => absurd (congrArg Fin.val (List.mem_singleton.mp h)) (Nat.succ_ne_zero 1))]
    simp only [Nat.zero_add, Nat.add_zero]
    rfl

end Cert.Gather

namespace Cert.ExpertsKernelIdeal.Pure
open Cert.ExpertsKernelIdeal Cert.ExpertsKernelIdeal.Gen

/-- A number times its logistic function. -/
def act (x : EReal) : EReal :=
  x * Ideal.div (Ideal.ofBits .f32 0x3F800000#32) (Ideal.ofBits .f32 0x3F800000#32 + Ideal.exp (-x))

/-- One element of an expert's output for a row of tokens. -/
def expert (x : Fin 1024 → EReal) (wg wu : Fin 1024 → Fin 512 → EReal) (wd : Fin 512 → Fin 1024 → EReal) (l : Fin 1024) : EReal :=
  ∑ k, act (∑ j, x j * wg j k) * (∑ j, x j * wu j k) * wd k l

/-- What the kernel stores for a block in use, read at a row and a column. -/
theorem used_pay (x : Vec Ideal S256x1024 .f32) (g u : Vec Ideal S1x1024x512 .bf16) (d : Vec Ideal S1x512x1024 .bf16)
    (r : Fin 256) (l : Fin 1024) :
    k0_pay1 (F := Ideal) x g u d (ix2 r l)
      = expert (fun j => x (ix2 r j)) (fun j k => g (ix3 0 j k)) (fun j k => u (ix3 0 j k)) (fun k j => d (ix3 0 k j)) l := by
  pointwise [k0_pay1, expert, act, Ideal.logistic]

/-- The same, with what the blocks hold given element by element. -/
theorem used_eq (x : Vec Ideal S256x1024 .f32) (g u : Vec Ideal S1x1024x512 .bf16) (d : Vec Ideal S1x512x1024 .bf16)
    (r : Fin 256) (l : Fin 1024) (X : Fin 1024 → EReal) (G U : Fin 1024 → Fin 512 → EReal) (D : Fin 512 → Fin 1024 → EReal)
    (hx : ∀ j, x (ix2 r j) = X j) (hg : ∀ j k, g (ix3 0 j k) = G j k) (hu : ∀ j k, u (ix3 0 j k) = U j k)
    (hd : ∀ k j, d (ix3 0 k j) = D k j) : k0_pay1 (F := Ideal) x g u d (ix2 r l) = expert X G U D l := by
  rw [used_pay]
  simp only [hx, hg, hu, hd]

/-- What the kernel stores for a block past those in use. -/
theorem unused_pay (r : Fin 256) (l : Fin 1024) : k0_pay2 (F := Ideal) (ix2 r l) = 0 := by
  pointwise [k0_pay2]

end Cert.ExpertsKernelIdeal.Pure

namespace Cert.ExpertsReferenceIdeal.Pure
open Cert.ExpertsReferenceIdeal Cert.ExpertsReferenceIdeal.Read Cert.ExpertsKernelIdeal.Pure
variable (x0 : IVec S292 32) (x2 : FVec Ideal S74752x1024 .f32) (x3 x4 : FVec Ideal S32x1024x512 .bf16) (x5 : FVec Ideal S32x512x1024 .bf16)

/-- A word below 32 is the position it names. -/
theorem place_small : ∀ e : Fin 32, (Scalar.select (IntOp.cmpi .slt (BitVec.ofNat 32 e.val) 0#32)
    (IntOp.addi (BitVec.ofNat 32 e.val) 32#32) (BitVec.ofNat 32 e.val)).toInt.toNat = e.val := by decide +kernel

/-- The position the reference looks an expert's matrix up at. -/
theorem place (e : BitVec 32) (h : e.toNat < 32) :
    min (Scalar.select (IntOp.cmpi .slt e 0#32) (IntOp.addi e 32#32) e).toInt.toNat (32 - 1) = e.toNat := by
  have hp := place_small ⟨e.toNat, h⟩
  rw [show BitVec.ofNat 32 (⟨e.toNat, h⟩ : Fin 32).val = e from by show BitVec.ofNat 32 e.toNat = e; simp] at hp
  rw [hp]
  show min e.toNat 31 = e.toNat
  omega

/-- A block's gate matrix is its expert's. -/
theorem gate_ref (h : ∀ x, (x0 x).toNat < 32) (b : Fin 292) (j : Fin 1024) (k : Fin 512) :
    val_main_v8 (F := Ideal) x0 x3 (ix3 b j k) = x3 (ix3 ⟨(x0 (ix1 b)).toNat, h _⟩ j k) := by
  unfold val_main_v8
  refine (Cert.Gather.gather_slab_apply (by decide) _ _ _ b j k).trans ?_
  pointwise [val_main_v1]
  refine congrArg x3 ((ix3_inj ..).2 ⟨Fin.ext ?_, rfl, rfl⟩)
  refine Eq.trans ?_ (place (x0 (ix1 b)) (h _))
  refine congrArg (fun w : BitVec 32 => min w.toInt.toNat (32 - 1)) ?_
  pointwise [val_main_v7, val_main_v6, val_main_v5, val_main_v4, val_main_c_0, val_main_v3, val_main_v2, val_main_c]

/-- A block's up matrix is its expert's. -/
theorem up_ref (h : ∀ x, (x0 x).toNat < 32) (b : Fin 292) (j : Fin 1024) (k : Fin 512) :
    val_main_v18 (F := Ideal) x0 x4 (ix3 b j k) = x4 (ix3 ⟨(x0 (ix1 b)).toNat, h _⟩ j k) := by
  unfold val_main_v18
  refine (Cert.Gather.gather_slab_apply (by decide) _ _ _ b j k).trans ?_
  pointwise [val_main_v11]
  refine congrArg x4 ((ix3_inj ..).2 ⟨Fin.ext ?_, rfl, rfl⟩)
  refine Eq.trans ?_ (place (x0 (ix1 b)) (h _))
  refine congrArg (fun w : BitVec 32 => min w.toInt.toNat (32 - 1)) ?_
  pointwise [val_main_v17, val_main_v16, val_main_v15, val_main_v14, val_main_c_2, val_main_v13, val_main_v12, val_main_c_1]

/-- A block's down matrix is its expert's. -/
theorem down_ref (h : ∀ x, (x0 x).toNat < 32) (b : Fin 292) (j : Fin 512) (k : Fin 1024) :
    val_main_v28 (F := Ideal) x0 x5 (ix3 b j k) = x5 (ix3 ⟨(x0 (ix1 b)).toNat, h _⟩ j k) := by
  unfold val_main_v28
  refine (Cert.Gather.gather_slab_apply (by decide) _ _ _ b j k).trans ?_
  pointwise [val_main_v21]
  refine congrArg x5 ((ix3_inj ..).2 ⟨Fin.ext ?_, rfl, rfl⟩)
  refine Eq.trans ?_ (place (x0 (ix1 b)) (h _))
  refine congrArg (fun w : BitVec 32 => min w.toInt.toNat (32 - 1)) ?_
  pointwise [val_main_v27, val_main_v26, val_main_v25, val_main_v24, val_main_c_4, val_main_v23, val_main_v22, val_main_c_3]

/-- The experts' output before the unused blocks are cleared, by the looked up matrices. -/
theorem out_ref (b : Fin 292) (r : Fin 256) (l : Fin 1024) :
    val_main_v29 (F := Ideal) x0 x2 x3 x4 x5 (ix3 b r l)
      = expert (fun j => x2 (ix2 ⟨b.val * 256 + r.val, by omega⟩ j)) (fun j k => val_main_v8 (F := Ideal) x0 x3 (ix3 b j k))
          (fun j k => val_main_v18 (F := Ideal) x0 x4 (ix3 b j k)) (fun k j => val_main_v28 (F := Ideal) x0 x5 (ix3 b k j)) l := by
  pointwise [val_main_v29, val_main_v20, val_main_v19, val_main_v10, val_main_call0_v5, val_main_call0_v4, val_main_call0_cst_0,
    val_main_call0_v3, val_main_call0_v2, val_main_call0_cst, val_main_call0_v1, val_main_call0_v0, val_main_v9, val_main_v0, expert, act]

/-- The reference's result at a row and a column: the block's expert at the row if the block is in use, else zero. -/
theorem result_ref (n : BitVec 32) (R : Fin 74752) (l : Fin 1024) :
    val_main_v36 (F := Ideal) x0 (fun _ => n) x2 x3 x4 x5 (ix2 R l)
      = Scalar.select (IntOp.cmpi .slt (BitVec.ofNat 32 (R.val / 256)) n)
          (val_main_v29 (F := Ideal) x0 x2 x3 x4 x5 (ix3 ⟨R.val / 256, by omega⟩ ⟨R.val % 256, by omega⟩ l)) 0 := by
  have h31 : val_main_v31 (F := Ideal) (fun _ => n) = fun _ => n := rfl
  pointwise [val_main_v36, val_main_v35, val_main_call1_v2, val_main_call1_v1, val_main_call1_v0, val_main_cst, val_main_v34, val_main_v33,
    val_main_v32, val_main_v30, h31, id]

end Cert.ExpertsReferenceIdeal.Pure
-- ==== Proof.ExpertsValue.lean ====
module

public import proofs.«01_k».proof.Proof.ExpertsRun
public import proofs.«01_k».proof.Proof.ExpertsPure
public import Idealize.ShloMosaic.Lib.Pipeline.ValueKit

/-!
# What the experts kernel leaves in its result
-/

@[expose] public section

set_option maxRecDepth 16384
noncomputable section
open Idealize.ShloMosaic Idealize.ShloMosaic.TcCoe Idealize.SL.Sem
open Idealize.ShloMosaic.Pipeline (Dat)
namespace Cert.ExpertsKernelIdeal.Bridge
open Cert.ExpertsKernelIdeal Cert.ExpertsKernelIdeal.Gen Cert.ExpertsKernelIdeal.Tab Cert.ExpertsKernelIdeal.Pure
open Cert.ExpertsReferenceIdeal.Read
variable (T : Tables) (m : (ℓ : Loc nD τ sig) → Buf (Elt Ideal) ℓ) (ρ : Dev nD → PrngReg)

/-- A row of a block is a row of the array. -/
theorem inRange (t : Fin (cfgA T).N) (r : Fin 256) : t.val * 256 + r.val < 74752 := by
  have h : t.val < 292 := t.isLt
  omega

/-- The point as a block's number. -/
abbrev num (t : Fin (cfgA T).N) : Fin 292 := ⟨t.val, t.isLt⟩

/-- The block of rows read at a point. -/
theorem idx0 (t : Fin (cfgA T).N) : ((cfgA T).win (0 : Fin 5)).index t = ![min t.val (T.n.toNat - 1), 0] := by
  have h := (row_block T (crd T t)).trans (congrArg (fun k => min k (T.n.toNat - 1)) (crd_val t))
  show ![(Scalar.minsi (BitVec.ofNat 32 (crd T t 0).val) (Scalar.subi T.n 1#32)).toNat, (0#32 : BitVec 32).toNat] = _
  rw [h]; rfl

/-- The entry of the experts' table read at a point. -/
theorem entry (t : Fin (cfgA T).N) : T.pf.at 0 (Rect.unit (s := S292) ![(Scalar.indexCast (BitVec.ofNat 32 (crd T t 0).val)).toNat] S1.size (k0_off1_inb (crd T t))) numel1_S1
    = T.e (ix1 (num T t)) := by
  refine congrArg T.e ?_
  funext a
  fin_cases a
  refine Fin.ext ?_
  show (BitVec.ofNat 32 (crd T t 0).val).toNat + _ = t.val
  exact (toNat_crd (crd T t)).trans (crd_val t)

/-- The expert whose matrices are read at a point. -/
theorem idx1 (t : Fin (cfgA T).N) : ((cfgA T).win (1 : Fin 5)).index t = ![(T.e (ix1 (num T t))).toNat, 0, 0] := by
  rw [← entry T t]; rfl
theorem idx2 (t : Fin (cfgA T).N) : ((cfgA T).win (2 : Fin 5)).index t = ![(T.e (ix1 (num T t))).toNat, 0, 0] := idx1 T t
theorem idx3 (t : Fin (cfgA T).N) : ((cfgA T).win (3 : Fin 5)).index t = ![(T.e (ix1 (num T t))).toNat, 0, 0] := idx1 T t

/-- The block of rows written at a point. -/
theorem idx4 (t : Fin (cfgA T).N) : ((cfgA T).win (4 : Fin 5)).index t = ![t.val, 0] := by
  have h := (toNat_crd (crd T t)).trans (crd_val t)
  show ![(BitVec.ofNat 32 (crd T t 0).val).toNat, (0#32 : BitVec 32).toNat] = _
  rw [h]; rfl

/-- The rows read at a block in use are the block's own. -/
theorem blk0 (c : Dev nD) (t : Fin (cfgA T).N) (h : t.val < T.n.toNat) (r : Fin 256) (k : Fin 1024) :
    iblk T m ρ c (0 : Fin 5) t (ix2 r k) = (m ((c : Thread nD τ).loc main_arg2)) (ix2 ⟨t.val * 256 + r.val, inRange T t r⟩ k) := by
  have h0 := (idx0 T t).trans (show _ = ![t.val, 0] by rw [show min t.val (T.n.toNat - 1) = t.val by omega])
  blk_simp [iblk]
  blk_ext [h0]

/-- The gate matrix read at a point is its expert's. -/
theorem blk1 (c : Dev nD) (t : Fin (cfgA T).N) (j : Fin 1024) (k : Fin 512) :
    iblk T m ρ c (1 : Fin 5) t (ix3 0 j k) = (m ((c : Thread nD τ).loc main_arg3)) (ix3 ⟨(T.e (ix1 (num T t))).toNat, T.e_lt _⟩ j k) := by
  blk_simp [iblk]
  blk_ext [idx1 T t]

/-- The up matrix read at a point is its expert's. -/
theorem blk2 (c : Dev nD) (t : Fin (cfgA T).N) (j : Fin 1024) (k : Fin 512) :
    iblk T m ρ c (2 : Fin 5) t (ix3 0 j k) = (m ((c : Thread nD τ).loc main_arg4)) (ix3 ⟨(T.e (ix1 (num T t))).toNat, T.e_lt _⟩ j k) := by
  blk_simp [iblk]
  blk_ext [idx2 T t]

/-- The down matrix read at a point is its expert's. -/
theorem blk3 (c : Dev nD) (t : Fin (cfgA T).N) (j : Fin 512) (k : Fin 1024) :
    iblk T m ρ c (3 : Fin 5) t (ix3 0 j k) = (m ((c : Thread nD τ).loc main_arg5)) (ix3 ⟨(T.e (ix1 (num T t))).toNat, T.e_lt _⟩ j k) := by
  blk_simp [iblk]
  blk_ext [idx3 T t]

/-- The reference's test of whether a block is in use. -/
theorem used (t : Fin (cfgA T).N) : IntOp.cmpi .slt (BitVec.ofNat 32 t.val) T.n = if t.val < T.n.toNat then 1#1 else 0#1 := by
  have h2 := T.n_le
  have ht : t.val < 292 := t.isLt
  have h : (BitVec.ofNat 32 t.val).slt T.n = decide (t.val < T.n.toNat) := by
    have hn : (BitVec.ofNat 32 t.val).toNat = t.val := by rw [BitVec.toNat_ofNat]; omega
    rw [BitVec.slt_eq_decide, BitVec.toInt_eq_toNat_of_lt (by rw [hn]; omega), BitVec.toInt_eq_toNat_of_lt (by omega), hn]
    simp only [Nat.cast_lt]
  show BitVec.ofBool ((BitVec.ofNat 32 t.val).slt T.n) = _
  rw [h]
  by_cases q : t.val < T.n.toNat <;> simp [q]

/-- The reference's result at a row of a point's block. -/
theorem ref_row (t : Fin (cfgA T).N) (x2 : FVec Ideal S74752x1024 .f32) (x3 x4 : FVec Ideal S32x1024x512 .bf16) (x5 : FVec Ideal S32x512x1024 .bf16)
    (r : Fin 256) (l : Fin 1024) :
    val_main_v36 (F := Ideal) T.e T.cnt x2 x3 x4 x5 (ix2 ⟨t.val * 256 + r.val, inRange T t r⟩ l)
      = if t.val < T.n.toNat then
          expert (fun j => x2 (ix2 ⟨t.val * 256 + r.val, inRange T t r⟩ j)) (fun j k => x3 (ix3 ⟨(T.e (ix1 (num T t))).toNat, T.e_lt _⟩ j k))
            (fun j k => x4 (ix3 ⟨(T.e (ix1 (num T t))).toNat, T.e_lt _⟩ j k)) (fun k j => x5 (ix3 ⟨(T.e (ix1 (num T t))).toNat, T.e_lt _⟩ k j)) l
        else 0 := by
  refine (Cert.ExpertsReferenceIdeal.Pure.result_ref _ _ _ _ _ T.n _ _).trans ?_
  have hd : (t.val * 256 + r.val) / 256 = t.val := by omega
  have hm : (t.val * 256 + r.val) % 256 = r.val := by omega
  simp only [hd, hm, used T t]
  split
  · refine (Cert.ExpertsReferenceIdeal.Pure.out_ref _ _ _ _ _ (num T t) r l).trans ?_
    simp only [Cert.ExpertsReferenceIdeal.Pure.gate_ref _ _ T.e_lt, Cert.ExpertsReferenceIdeal.Pure.up_ref _ _ T.e_lt,
      Cert.ExpertsReferenceIdeal.Pure.down_ref _ _ T.e_lt]
  · rfl

/-- What a point stores is the reference's rows of its block. -/
theorem point (c : Dev nD) (t : Fin (cfgA T).N) (r : Fin 256) (l : Fin 1024) :
    step0 T m ρ c t (ix2 r l)
      = val_main_v36 (F := Ideal) T.e T.cnt (m ((c : Thread nD τ).loc main_arg2)) (m ((c : Thread nD τ).loc main_arg3))
          (m ((c : Thread nD τ).loc main_arg4)) (m ((c : Thread nD τ).loc main_arg5)) (ix2 ⟨t.val * 256 + r.val, inRange T t r⟩ l) := by
  refine Eq.trans ?_ (ref_row T t _ _ _ _ r l).symm
  have hc := cond_iff T (crd T t)
  rw [crd_val t] at hc
  by_cases q : P0_0 T t
  · have h : t.val < T.n.toNat := hc.1 q
    rw [step0_A T m ρ c t q, if_pos h]
    unfold out0_A_4
    frame_out
    rw [View.read_rep, View.read_rep, View.read_rep, View.read_rep]
    exact used_eq _ _ _ _ r l _ _ _ _ (blk0 T m ρ c t h r) (blk1 T m ρ c t) (blk2 T m ρ c t) (blk3 T m ρ c t)
  · have h : ¬ t.val < T.n.toNat := fun h => q (hc.2 h)
    rw [step0_B T m ρ c t q, if_neg h]
    unfold out0_B_4
    frame_out
    exact unused_pay r l

/-- Tables with one used block, of expert zero. -/
def base : Tables := ⟨fun _ => 0#32, 1#32, fun _ => by decide, by decide, by decide⟩

/-- Every row of the result is written at its block's point: the result's blocks do not depend on the tables. -/
theorem covers : ((cfgA T).win (4 : Fin 5)).Covers := by
  show ((cfgA base).win (4 : Fin 5)).Covers
  decide +kernel

/-- The result after the run is the reference's. -/
theorem final (c : Dev nD) : (dats T m ρ 0 c).arrAt (4 : Fin 5) (cfgA T).N
    = val_main_v36 (F := Ideal) T.e T.cnt (m ((c : Thread nD τ).loc main_arg2)) (m ((c : Thread nD τ).loc main_arg3))
          (m ((c : Thread nD τ).loc main_arg4)) (m ((c : Thread nD τ).loc main_arg5)) := by
  refine (dats T m ρ 0 c).arrAt_eq_of_covers (4 : Fin 5) _ (covers T) fun t _ y => ?_
  blk_simp
  rw [after0_4]
  idx_vars y
  refine (point T m ρ c t y0 y1).trans ?_
  blk_ext [idx4 T t]

end Cert.ExpertsKernelIdeal.Bridge
-- ==== Proof.ExpertsClaim.lean ====
module

public import proofs.«01_k».proof.Defs
public import proofs.«01_k».proof.Proof.ExpertsValue
public import proofs.«01_k».proof.Proof.ExpertsFloat
public import proofs.«01_k».proof.Proof.AttnClaim
public import proofs.«01_k».proof.Proof.Gen.ExpertsReferenceIdeal.Run
public import proofs.«01_k».proof.Proof.Gen.Pre_experts_range
public import Idealize.ShloMosaic.Lib.ReduceAll
public import Idealize.ShloMosaic.Lib.Claim

@[expose] public section

set_option maxRecDepth 16384
noncomputable section
open Idealize.ShloMosaic Idealize.ShloMosaic.TcCoe Idealize.SL.Sem

namespace Cert.ExpertsReferenceIdeal.Named
open Cert.ExpertsReferenceIdeal Cert.ExpertsReferenceIdeal.Gen Cert.ExpertsReferenceIdeal.Read

/-- The reference's run, its result by the name of its stage. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, hr⟩ := h c
    exact ⟨h0.trans (val_main_v36_eq _ _ _ _ _ _), hr⟩)
    (Value.run m ρ)

end Cert.ExpertsReferenceIdeal.Named

namespace Cert.Pre_experts_range.Range
open Cert.Pre_experts_range Cert.Finite
attribute [local instance] Cert.Pre_experts_range.Gen.facts

/-- A flag that is one is true. -/
theorem flag : ∀ b : Bool, BitVec.ofBool b = 1#1 → b = true := by decide

/-- A word that is at least zero and below 32 as a signed number is below 32. -/
theorem lt_of_flags (a : BitVec 32) (h0 : IntOp.cmpi .sge a 0#32 = 1#1) (h1 : IntOp.cmpi .slt a 32#32 = 1#1) : a.toNat < 32 := by
  replace h0 : (0#32 : BitVec 32).sle a = true := flag _ h0
  replace h1 : a.slt 32#32 = true := flag _ h1
  rw [BitVec.sle_iff_toInt_le] at h0
  rw [BitVec.slt_iff_toInt_lt] at h1
  have e0 : (0#32 : BitVec 32).toInt = 0 := rfl
  have e1 : (32#32 : BitVec 32).toInt = 32 := rfl
  rw [e0, BitVec.toInt_eq_toNat_cond] at h0
  rw [e1, BitVec.toInt_eq_toNat_cond] at h1
  have := a.isLt
  split at h0 <;> omega

/-- A word that is at least one as a signed number is at least one and has no sign. -/
theorem pos_of_flag (a : BitVec 32) (h : IntOp.cmpi .sge a 1#32 = 1#1) : 1 ≤ a.toNat ∧ a.toNat < 2147483648 := by
  replace h : (1#32 : BitVec 32).sle a = true := flag _ h
  rw [BitVec.sle_iff_toInt_le] at h
  have e1 : (1#32 : BitVec 32).toInt = 1 := rfl
  rw [e1, BitVec.toInt_eq_toNat_cond] at h
  have := a.isLt
  split at h <;> omega

/-- A table of one entry is that entry everywhere. -/
theorem single (x : IVec S1 32) : x = fun _ => x (ix1 0) := funext fun i => congrArg x <| funext fun a => by
  fin_cases a
  have h : (i 0).val < 1 := (i 0).isLt
  exact Fin.ext (show (i 0).val = 0 by omega)

/-- The precondition says that each expert is below 32 and that a block is in use. -/
theorem range {F : FTy → Type} [FloatOps F] (x0 : IVec S292 32) (x1 : IVec S1 32) (x2 : FVec F S74752x1024 .f32)
    (x3 x4 : FVec F S32x1024x512 .bf16) (x5 : FVec F S32x512x1024 .bf16) (h : fn (F := F) x0 x1 x2 x3 x4 x5 = fun _ => 1#1) :
    (∀ i, (x0 i).toNat < 32) ∧ 1 ≤ (x1 (ix1 0)).toNat ∧ (x1 (ix1 0)).toNat < 2147483648 := by
  obtain ⟨n, rfl⟩ : ∃ n, x1 = fun _ => n := ⟨_, single x1⟩
  have h0 := congrFun h ix0
  unfold fn at h0
  obtain ⟨he, hn⟩ := both _ _ h0
  refine ⟨fun i => ?_, pos_of_flag _ ?_⟩
  · obtain ⟨ha, hb⟩ := both _ _ (Host.reduce_andi_all _ _ _ _ _ he i)
    exact lt_of_flags _ ha hb
  · exact hn

end Cert.Pre_experts_range.Range

namespace Cert.Proof
attribute [local instance] Cert.ExpertsKernel.Gen.facts Cert.ExpertsKernelIdeal.Gen.facts Cert.ExpertsReferenceIdeal.Gen.facts Cert.Pre_experts_range.Gen.facts

/-- A memory that meets the precondition holds tables within their range. -/
theorem tables_ideal (m : (ℓ : Loc Cert.ExpertsKernelIdeal.nD Cert.ExpertsKernelIdeal.τ Cert.ExpertsKernelIdeal.sig) → Buf (Elt Ideal) ℓ)
    (h : Pre_ExpertsKernelIdeal m) : ∃ T, Cert.ExpertsKernelIdeal.Tab.Pinned T m := by
  obtain ⟨he, hn, hl⟩ := Cert.Pre_experts_range.Range.range _ _ _ _ _ _ (h 0)
  exact ⟨⟨_, _, he, hn, hl⟩, fun c => by rw [Subsingleton.elim c 0], fun c => by
    rw [Subsingleton.elim c 0]; exact Cert.Pre_experts_range.Range.single _⟩

/-- The same for the kernel over the floats. -/
theorem tables_float (m : (ℓ : Loc Cert.ExpertsKernel.nD Cert.ExpertsKernel.τ Cert.ExpertsKernel.sig) → Buf (Elt Bits) ℓ)
    (h : Pre_ExpertsKernel m) : ∃ T, Cert.ExpertsKernel.Tab.Pinned T m := by
  obtain ⟨he, hn, hl⟩ := Cert.Pre_experts_range.Range.range _ _ _ _ _ _ (h 0)
  exact ⟨⟨_, _, he, hn, hl⟩, fun c => by rw [Subsingleton.elim c 0], fun c => by
    rw [Subsingleton.elim c 0]; exact Cert.Pre_experts_range.Range.single _⟩

/-- The experts kernel over the floats runs without a fault and leaves its arguments as they were. -/
theorem quiescent_experts_kernel : Cert.quiescent_ExpertsKernel := fun m ρ hpre =>
  (tables_float m hpre).elim fun T hp => Cert.ExpertsKernel.Tab.frame T m ρ hp

/-- So does the idealized one. -/
theorem quiescent_experts_ideal : Cert.quiescent_ExpertsKernelIdeal := fun m ρ hpre =>
  (tables_ideal m hpre).elim fun T hp => Cert.ExpertsKernelIdeal.Tab.frame T m ρ hp

set_option maxHeartbeats 2000000 in
/-- The experts kernel and its reference give equal results over the extended reals. -/
theorem algebraic_experts : Cert.algebraic_ExpertsKernelIdeal_ExpertsReferenceIdeal := by
  intro m g m' g' hpre hagree
  obtain ⟨T, hp⟩ := tables_ideal m hpre
  refine ⟨fun c => (Cert.ExpertsKernelIdeal.Tab.dats T m g 0 c).arrAt (4 : Fin 5) (Cert.ExpertsKernelIdeal.Tab.cfgA T).N, ?_, ?_⟩
  · refine (θ_run _ _ _).mono (fun r h c => ?_)
      (θ_run_and (Cert.ExpertsKernelIdeal.Tab.run_main T m g hp) (Cert.ExpertsKernelIdeal.Tab.unchanged T m g hp))
    exact ⟨(h.1 c).1 (4 : Fin 5), h.2 c⟩
  · refine (θ_run _ _ _).mono (fun r h c => ?_) (Cert.ExpertsReferenceIdeal.Named.run_named m' g')
    obtain ⟨h0, hr⟩ := h c
    obtain ⟨a0, a1, a2, a3, a4, a5⟩ := hagree c
    rw [a0, a1, a2, a3, a4, a5, hp.1 c, hp.2 c] at h0
    exact ⟨h0.trans (Cert.ExpertsKernelIdeal.Bridge.final T m g c).symm, hr⟩

end Cert.Proof
end
-- ==== Proof.lean ====
module

public import proofs.«01_k».proof.Defs
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnReferenceIdeal
public import proofs.«01_k».proof.Proof.Gen.AttnKernelIdeal.Value
public import proofs.«01_k».proof.Proof.Gen.AttnReferenceIdeal.Run
public import proofs.«01_k».proof.Proof.Gen.AttnReferenceIdeal.Read
public import proofs.«01_k».proof.Proof.AttnClaim
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.ProjClaim
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.MergeClaim
public import proofs.«01_k».proof.Proof.Gen.SampleKernel
public import proofs.«01_k».proof.Proof.Gen.SampleKernel.Skeleton
public import proofs.«01_k».proof.Proof.Gen.SampleKernel.Launch
public import proofs.«01_k».proof.Proof.Gen.SampleKernel.Points
public import proofs.«01_k».proof.Proof.Gen.SampleKernel.Frame
public import proofs.«01_k».proof.Proof.Gen.SampleKernelIdeal
public import proofs.«01_k».proof.Proof.Gen.SampleKernelIdeal.Skeleton
public import proofs.«01_k».proof.Proof.Gen.SampleKernelIdeal.Launch
public import proofs.«01_k».proof.Proof.Gen.SampleKernelIdeal.Points
public import proofs.«01_k».proof.Proof.Gen.SampleKernelIdeal.Frame
public import proofs.«01_k».proof.Proof.Gen.SampleReferenceIdeal
public import proofs.«01_k».proof.Proof.Gen.SampleReferenceIdeal.Run
public import proofs.«01_k».proof.Proof.Gen.SampleReferenceIdeal.Read
public import proofs.«01_k».proof.Proof.SampleClaim
public import proofs.«01_k».proof.Proof.Gen.Pre_attn_finite
public import proofs.«01_k».proof.Proof.Gen.ExpertsKernel
public import proofs.«01_k».proof.Proof.Gen.ExpertsKernel.Skeleton
public import proofs.«01_k».proof.Proof.Gen.ExpertsKernel.Launch
public import proofs.«01_k».proof.Proof.Gen.ExpertsKernel.Flash.Runs
public import proofs.«01_k».proof.Proof.Gen.ExpertsKernelIdeal
public import proofs.«01_k».proof.Proof.Gen.ExpertsKernelIdeal.Skeleton
public import proofs.«01_k».proof.Proof.Gen.ExpertsKernelIdeal.Launch
public import proofs.«01_k».proof.Proof.Gen.ExpertsKernelIdeal.Flash.Runs
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.ExpertsFloat
public import proofs.«01_k».proof.Proof.ExpertsClaim
public import proofs.«01_k».proof.Proof.Gen.Pre_experts_range
public import proofs.«01_k».proof.Proof.Gen.Pre_sample_finite
public import Idealize.ShloMosaic.Adequacy
public import Idealize.ShloMosaic.Lib.Claim
public import Idealize.ShloMosaic.Init

@[expose] public section

noncomputable section

namespace Cert.Proof

open Idealize.ShloMosaic Idealize.SL.Sem

/-- The whole claim. -/
theorem claim : Cert.Claim := ⟨Cert.AttnKernel.Gen.facts, Cert.AttnKernelIdeal.Gen.facts, Cert.AttnReferenceIdeal.Gen.facts, Cert.ProjKernel.Gen.facts, Cert.ProjKernelIdeal.Gen.facts, Cert.ProjReferenceIdeal.Gen.facts, Cert.MergeKernel.Gen.facts, Cert.MergeKernelIdeal.Gen.facts, Cert.MergeReferenceIdeal.Gen.facts, Cert.SampleKernel.Gen.facts, Cert.SampleKernelIdeal.Gen.facts, Cert.SampleReferenceIdeal.Gen.facts, Cert.ExpertsKernel.Gen.facts, Cert.ExpertsKernelIdeal.Gen.facts, Cert.ExpertsReferenceIdeal.Gen.facts, Cert.Pre_attn_finite.Gen.facts, Cert.Pre_sample_finite.Gen.facts, Cert.Pre_experts_range.Gen.facts,
  fun m ρ _ => Cert.AttnKernel.Gen.frame m ρ,
  fun m ρ _ => Cert.AttnKernelIdeal.Gen.frame m ρ,
  fun m ρ _ => Cert.AttnKernelIdeal.Gen.frame m ρ,
  fun m ρ _ => (θ_run Cert.AttnReferenceIdeal.defs _ _).mono (fun r h => ⟨fun c => (h c).2, sem_eq_zero_of_no_sems (by decide) r.2⟩)
    (Cert.AttnReferenceIdeal.Value.run (F := Ideal) m ρ),
  fun m ρ _ => (θ_run Cert.AttnReferenceIdeal.defs _ _).mono (fun r h => ⟨fun c => (h c).2, sem_eq_zero_of_no_sems (by decide) r.2⟩)
    (Cert.AttnReferenceIdeal.Value.run (F := Ideal) m ρ),
  fun m ρ _ => Cert.ProjKernel.Gen.frame m ρ,
  fun m ρ _ => Cert.ProjKernelIdeal.Gen.frame m ρ,
  fun m ρ _ => (θ_run Cert.ProjReferenceIdeal.defs _ _).mono (fun r h => ⟨fun c => (h c).2.2.2.2.2.2.2.2, sem_eq_zero_of_no_sems (by decide) r.2⟩)
    (Cert.ProjReferenceIdeal.Value.run (F := Ideal) m ρ),
  fun m ρ _ => Cert.MergeKernel.Gen.frame m ρ,
  fun m ρ _ => Cert.MergeKernelIdeal.Gen.frame m ρ,
  fun m ρ _ => (θ_run Cert.MergeReferenceIdeal.defs _ _).mono (fun r h => ⟨fun c => (h c).2.2, sem_eq_zero_of_no_sems (by decide) r.2⟩)
    (Cert.MergeReferenceIdeal.Value.run (F := Ideal) m ρ),
  fun m ρ _ => Cert.SampleKernel.Gen.frame m ρ,
  fun m ρ _ => Cert.SampleKernelIdeal.Gen.frame m ρ,
  fun m ρ _ => Cert.SampleKernelIdeal.Gen.frame m ρ,
  fun m ρ _ => (θ_run Cert.SampleReferenceIdeal.defs _ _).mono (fun r h => ⟨fun c => (h c).2.2.2, sem_eq_zero_of_no_sems (by decide) r.2⟩)
    (Cert.SampleReferenceIdeal.Value.run (F := Ideal) m ρ),
  fun m ρ _ => (θ_run Cert.SampleReferenceIdeal.defs _ _).mono (fun r h => ⟨fun c => (h c).2.2.2, sem_eq_zero_of_no_sems (by decide) r.2⟩)
    (Cert.SampleReferenceIdeal.Value.run (F := Ideal) m ρ),
  quiescent_experts_kernel,
  quiescent_experts_ideal,
  fun m ρ _ => (θ_run Cert.ExpertsReferenceIdeal.defs _ _).mono (fun r h => ⟨fun c => (h c).2, sem_eq_zero_of_no_sems (by decide) r.2⟩)
    (Cert.ExpertsReferenceIdeal.Value.run (F := Ideal) m ρ),
  fun m ρ _ => (θ_run Cert.ExpertsReferenceIdeal.defs _ _).mono (fun r h => ⟨fun c => (h c).2, sem_eq_zero_of_no_sems (by decide) r.2⟩)
    (Cert.ExpertsReferenceIdeal.Value.run (F := Ideal) m ρ),
  preserves_attn,
  algebraic_attn,
  trivial,
  algebraic_proj,
  trivial,
  algebraic_merge,
  trivial,
  algebraic_sample,
  trivial,
  algebraic_experts⟩

end Cert.Proof

end
